-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Layout.block ⟨2, ![4096, 1024]⟩ ⟨2, ![4096, 8192]⟩ 1 8 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 1024]⟩ : Shape).Idx → _) i = 1#1 → r.2.mem ((c.tc : Thread Cert.KernelIdeal.nD Cert.KernelIdeal.τ).loc Cert.KernelIdeal.main_v3_0) i = (Layout.block ⟨2, ![4096, 1024]⟩ ⟨2, ![4096, 8192]⟩ 1 8 c v0 : (⟨2, ![4096, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_unclipped (hKernelIdeal := hKernelIdeal) (hReferenceIdeal := hReferenceIdeal) (hOn_unclipped := hOn_unclipped)
-- ==== On_unclipped.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x42700000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S512x4096 : Shape := ⟨2, ![512, 4096]⟩
abbrev S4096x1024 : Shape := ⟨2, ![4096, 1024]⟩
abbrev S4x176x4096 : Shape := ⟨3, ![4, 176, 4096]⟩
abbrev S4x168x4096 : Shape := ⟨3, ![4, 168, 4096]⟩
abbrev S176x4096 : Shape := ⟨2, ![176, 4096]⟩
abbrev S168x4096 : Shape := ⟨2, ![168, 4096]⟩
abbrev S2x176x4096 : Shape := ⟨3, ![2, 176, 4096]⟩
abbrev S2x168x4096 : Shape := ⟨3, ![2, 168, 4096]⟩
abbrev S7 : Shape := ⟨1, ![7]⟩
abbrev S2 : Shape := ⟨1, ![2]⟩
abbrev S_ : Shape := ⟨0, ![]⟩
abbrev S1 : Shape := ⟨1, ![1]⟩
abbrev S1x176x4096 : Shape := ⟨3, ![1, 176, 4096]⟩
abbrev S1x168x4096 : Shape := ⟨3, ![1, 168, 4096]⟩
abbrev S512x1024 : Shape := ⟨2, ![512, 1024]⟩
abbrev S176x1024 : Shape := ⟨2, ![176, 1024]⟩
abbrev S168x1024 : Shape := ⟨2, ![168, 1024]⟩

abbrev nBuf : Space → Nat
  | .hbm => 8
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S512x4096, .bf16⟩
  | .hbm, ⟨3, _⟩ => ⟨S4096x1024, .bf16⟩
  | .hbm, ⟨4, _⟩ => ⟨S4096x1024, .f32⟩
  | .hbm, ⟨5, _⟩ => ⟨S4x176x4096, .bf16⟩
  | .hbm, ⟨6, _⟩ => ⟨S4x168x4096, .bf16⟩
  | .hbm, ⟨7, _⟩ => ⟨S4x168x4096, .bf16⟩
  | .local _ .vmem, ⟨0, _⟩ => ⟨S512x4096, .bf16⟩
  | .local _ .vmem, ⟨1, _⟩ => ⟨S4096x1024, .bf16⟩
  | .local _ .vmem, ⟨2, _⟩ => ⟨S4096x1024, .f32⟩
  | .local _ .vmem, ⟨3, _⟩ => ⟨S176x4096, .bf16⟩
  | .local _ .vmem, ⟨4, _⟩ => ⟨S168x4096, .bf16⟩
  | .local _ .vmem, ⟨5, _⟩ => ⟨S168x4096, .bf16⟩
  | .local _ .vmem, ⟨6, _⟩ => ⟨S2x176x4096, .bf16⟩
  | .local _ .vmem, ⟨7, _⟩ => ⟨S2x168x4096, .bf16⟩
  | .local _ .vmem, ⟨8, _⟩ => ⟨S2x168x4096, .bf16⟩
  | .local _ .vmem, ⟨9, _⟩ => ⟨S2x176x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v3_2 : Ref sig .tc := ⟨.hbm, 6, rfl⟩
abbrev main_v3_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.xori v2 c1_i32_10
  let c1_i32_13 : BitVec 32 := 1#32
  let v14 : BitVec 32 := Scalar.muli v13 c1_i32_13
  let v15 : BitVec 32 := Scalar.addi c0_i32_14 v14
  v15.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_17 : BitVec 32 := 3#32
  let v21 : BitVec 32 := Scalar.xori v2 c3_i32_17
  let c1_i32_20 : BitVec 32 := 1#32
  let v22 : BitVec 32 := Scalar.muli v21 c1_i32_20
  let v23 : BitVec 32 := Scalar.addi c0_i32_21 v22
  v23.toNat
def k0_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_23 : BitVec 32 := 4#32
  let v29 : BitVec 32 := Scalar.xori v2 c4_i32_23
  let c1_i32_26 : BitVec 32 := 1#32
  let v30 : BitVec 32 := Scalar.muli v29 c1_i32_26
  let v31 : BitVec 32 := Scalar.addi c0_i32_27 v30
  v31.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v37 : BitVec 32 := Scalar.xori v2 c3_i32_29
  let c1_i32_33 : BitVec 32 := 1#32
  let v38 : BitVec 32 := Scalar.muli v37 c1_i32_33
  let v39 : BitVec 32 := Scalar.addi c0_i32_34 v38
  v39.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_39 : BitVec 32 := 4#32
  let v47 : BitVec 32 := Scalar.xori v2 c4_i32_39
  let c1_i32_43 : BitVec 32 := 1#32
  let v48 : BitVec 32 := Scalar.muli v47 c1_i32_43
  let v49 : BitVec 32 := Scalar.addi c0_i32_44 v48
  v49.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v57 : BitVec 32 := Scalar.xori v2 c1_i32_49
  let c1_i32_53 : BitVec 32 := 1#32
  let v58 : BitVec 32 := Scalar.muli v57 c1_i32_53
  let v59 : BitVec 32 := Scalar.addi c0_i32_54 v58
  v59.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v67 : BitVec 32 := Scalar.xori v2 c4_i32_59
  let c1_i32_63 : BitVec 32 := 1#32
  let v68 : BitVec 32 := Scalar.muli v67 c1_i32_63
  let v69 : BitVec 32 := Scalar.addi c0_i32_64 v68
  v69.toNat
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v77 : BitVec 32 := Scalar.xori v2 c1_i32_69
  let c1_i32_73 : BitVec 32 := 1#32
  let v78 : BitVec 32 := Scalar.muli v77 c1_i32_73
  let v79 : BitVec 32 := Scalar.addi c0_i32_74 v78
  v79.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v87 : BitVec 32 := Scalar.xori v2 c3_i32_79
  let c1_i32_83 : BitVec 32 := 1#32
  let v88 : BitVec 32 := Scalar.muli v87 c1_i32_83
  let v89 : BitVec 32 := Scalar.addi c0_i32_84 v88
  v89.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v108 : BitVec 32 := Scalar.muli v2 c512_i32
  let c0_i32_94 : BitVec 32 := 0#32
  let v109 : BitVec 32 := Scalar.addi v108 c0_i32_94
  let v110 : Index := Scalar.indexCast v109
  let c0_95 : Index := 0#32
  ![v110.toNat, 0]
def k0_dev13 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v117 : BitVec 32 := Scalar.xori v2 c3_i32_102
  let c1_i32_105 : BitVec 32 := 1#32
  let v118 : BitVec 32 := Scalar.muli v117 c1_i32_105
  let v119 : BitVec 32 := Scalar.addi c0_i32_106 v118
  v119.toNat
def k0_dev14 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_109 : BitVec 32 := 4#32
  let v126 : BitVec 32 := Scalar.xori v2 c4_i32_109
  let c1_i32_113 : BitVec 32 := 1#32
  let v127 : BitVec 32 := Scalar.muli v126 c1_i32_113
  let v128 : BitVec 32 := Scalar.addi c0_i32_114 v127
  v128.toNat
def k0_dev15 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_123 : BitVec 32 := 4#32
  let v140 : BitVec 32 := Scalar.xori v2 c4_i32_123
  let c1_i32_127 : BitVec 32 := 1#32
  let v141 : BitVec 32 := Scalar.muli v140 c1_i32_127
  let v142 : BitVec 32 := Scalar.addi c0_i32_128 v141
  v142.toNat
def k0_dev16 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v149 : BitVec 32 := Scalar.xori v2 c1_i32_131
  let c1_i32_135 : BitVec 32 := 1#32
  let v150 : BitVec 32 := Scalar.muli v149 c1_i32_135
  let v151 : BitVec 32 := Scalar.addi c0_i32_136 v150
  v151.toNat
def k0_dev17 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v163 : BitVec 32 := Scalar.xori v2 c1_i32_145
  let c1_i32_149 : BitVec 32 := 1#32
  let v164 : BitVec 32 := Scalar.muli v163 c1_i32_149
  let v165 : BitVec 32 := Scalar.addi c0_i32_150 v164
  v165.toNat
def k0_dev18 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_153 : BitVec 32 := 3#32
  let v172 : BitVec 32 := Scalar.xori v2 c3_i32_153
  let c1_i32_157 : BitVec 32 := 1#32
  let v173 : BitVec 32 := Scalar.muli v172 c1_i32_157
  let v174 : BitVec 32 := Scalar.addi c0_i32_158 v173
  v174.toNat
def k0_off2 (d0 : Dev nD) (c1_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.xori v2 c1_i32_163
  let c512_i32_169 : BitVec 32 := 512#32
  let v192 : BitVec 32 := Scalar.muli v182 c512_i32_169
  let c0_i32_170 : BitVec 32 := 0#32
  let v193 : BitVec 32 := Scalar.addi v192 c0_i32_170
  let v194 : Index := Scalar.indexCast v193
  let c0_171 : Index := 0#32
  ![v194.toNat, 0]
def k0_off3 (d0 : Dev nD) (c3_i32_174 : BitVec 32) (c176_i32_181 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : BitVec 32 := Scalar.xori v2 c3_i32_174
  let c512_i32_180 : BitVec 32 := 512#32
  let v207 : BitVec 32 := Scalar.muli v197 c512_i32_180
  let v208 : BitVec 32 := Scalar.addi v207 c176_i32_181
  let v209 : Index := Scalar.indexCast v208
  let c0_182 : Index := 0#32
  ![v209.toNat, 0]
def k0_off3_at (r : Fin 4) : BitVec 32 × BitVec 32 :=
  if r.val < 2 then
    if r.val < 1 then
      (3#32, 176#32)
    else
      (4#32, 344#32)
  else
    if r.val < 3 then
      (4#32, 176#32)
    else
      (1#32, 344#32)
def k0_dev19 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_210 : BitVec 32 := 4#32
  let v239 : BitVec 32 := Scalar.xori v2 c4_i32_210
  let c1_i32_214 : BitVec 32 := 1#32
  let v240 : BitVec 32 := Scalar.muli v239 c1_i32_214
  let v241 : BitVec 32 := Scalar.addi c0_i32_215 v240
  v241.toNat
def k0_dev20 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_210 : BitVec 32 := 4#32
  let v239 : BitVec 32 := Scalar.xori v2 c4_i32_210
  let c1_i32_223 : BitVec 32 := 1#32
  let v250 : BitVec 32 := Scalar.muli v239 c1_i32_223
  let v251 : BitVec 32 := Scalar.addi c0_i32_224 v250
  v251.toNat
def k0_dev21 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v273 : BitVec 32 := Scalar.xori v2 c1_i32_245
  let c1_i32_250 : BitVec 32 := 1#32
  let v274 : BitVec 32 := Scalar.muli v273 c1_i32_250
  let v275 : BitVec 32 := Scalar.addi c0_i32_251 v274
  v275.toNat
def k0_dev22 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v273 : BitVec 32 := Scalar.xori v2 c1_i32_245
  let c1_i32_260 : BitVec 32 := 1#32
  let v284 : BitVec 32 := Scalar.muli v273 c1_i32_260
  let v285 : BitVec 32 := Scalar.addi c0_i32_261 v284
  v285.toNat
def k0_dev23 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_282 : BitVec 32 := 3#32
  let v307 : BitVec 32 := Scalar.xori v2 c3_i32_282
  let c1_i32_287 : BitVec 32 := 1#32
  let v308 : BitVec 32 := Scalar.muli v307 c1_i32_287
  let v309 : BitVec 32 := Scalar.addi c0_i32_288 v308
  v309.toNat
def k0_dev24 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_282 : BitVec 32 := 3#32
  let v307 : BitVec 32 := Scalar.xori v2 c3_i32_282
  let c1_i32_297 : BitVec 32 := 1#32
  let v318 : BitVec 32 := Scalar.muli v307 c1_i32_297
  let v319 : BitVec 32 := Scalar.addi c0_i32_298 v318
  v319.toNat
def k0_off4 (d0 : Dev nD) (c3_i32_317 : BitVec 32) (c1_i32_318 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v346 : BitVec 32 := Scalar.xori v2 c3_i32_317
  let v347 : BitVec 32 := Scalar.xori v346 c1_i32_318
  let c512_i32_324 : BitVec 32 := 512#32
  let v357 : BitVec 32 := Scalar.muli v347 c512_i32_324
  let c0_i32_325 : BitVec 32 := 0#32
  let v358 : BitVec 32 := Scalar.addi v357 c0_i32_325
  let v359 : Index := Scalar.indexCast v358
  let c0_326 : Index := 0#32
  ![v359.toNat, 0]
def k0_off4_at (r : Fin 5) : BitVec 32 × BitVec 32 :=
  if r.val < 2 then
    if r.val < 1 then
      (3#32, 1#32)
    else
      (4#32, 0#32)
  else
    if r.val < 3 then
      (4#32, 1#32)
    else
      if r.val < 4 then
        (4#32, 3#32)
      else
        (4#32, 2#32)
def k0_off5 (d0 : Dev nD) (c4_i32_342 : BitVec 32) (c3_i32_343 : BitVec 32) (c176_i32_350 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v379 : BitVec 32 := Scalar.xori v2 c4_i32_342
  let v380 : BitVec 32 := Scalar.xori v379 c3_i32_343
  let c512_i32_349 : BitVec 32 := 512#32
  let v390 : BitVec 32 := Scalar.muli v380 c512_i32_349
  let v391 : BitVec 32 := Scalar.addi v390 c176_i32_350
  let v392 : Index := Scalar.indexCast v391
  let c0_351 : Index := 0#32
  ![v392.toNat, 0]
def k0_off5_at (r : Fin 10) : BitVec 32 × BitVec 32 × BitVec 32 :=
  if r.val < 5 then
    if r.val < 2 then
      if r.val < 1 then
        (4#32, 3#32, 176#32)
      else
        (1#32, 4#32, 344#32)
    else
      if r.val < 3 then
        (1#32, 0#32, 176#32)
      else
        if r.val < 4 then
          (3#32, 0#32, 344#32)
        else
          (1#32, 3#32, 176#32)
  else
    if r.val < 7 then
      if r.val < 6 then
        (3#32, 4#32, 344#32)
      else
        (1#32, 4#32, 176#32)
    else
      if r.val < 8 then
        (3#32, 1#32, 344#32)
      else
        if r.val < 9 then
          (1#32, 7#32, 176#32)
        else
          (3#32, 5#32, 344#32)
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Ring.Defs.lean ====
/-
  The exchange between the eight devices: which device sends which rows of `x` where, the cells the
  transfers pay, what each payment hands over, and what a device owes in program order.

  The rows of a device's block of `x` are cut into three slices `t`; slice `t` crosses the cube of devices
  along the three directions `mk t 0`, `mk t 1`, `mk t 2` (three different masks among 1, 3, 4). Device
  `px k c` is the neighbour of `c` in direction `k`. A device sends seven transfers of each slice:
    0      its own slice, direction `mk t 0`, into the neighbour's first landing buffer
    1, 2   its own slice and what landed in the first buffer, direction `mk t 1`
    3 .. 6 its own slice and all three it has received, direction `mk t 2`.
-/
module

public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

/-! ## The resource algebra -/

/-- The pipeline library's round state and the exchange's, whose cells have up to three duties a round. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Devices -/

/-- The three masks: the directions of the cube. -/
def mask : Fin 3 → ℕ := ![1, 3, 4]

/-- The neighbour of `c` in direction `k`. -/
def px (k : Fin 3) (c : Dev nD) : Dev nD :=
  ⟨(c.val ^^^ mask k) % 8, Nat.mod_lt _ (by decide)⟩

theorem px_px (k : Fin 3) (c : Dev nD) : px k (px k c) = c := by revert k c; decide

/-- The direction slice `t` takes at its step `i`. -/
def mk : Fin 3 → Fin 3 → Fin 3 := ![![0, 1, 2], ![1, 2, 0], ![2, 0, 1]]

/-- The step of transfer `s`. -/
def stp : Fin 7 → Fin 3 := ![0, 1, 1, 2, 2, 2, 2]

/-- The direction transfer `(t, s)` takes. -/
def dir (t : Fin 3) (s : Fin 7) : Fin 3 := mk t (stp s)

/-- The device whose rows land at `c` with transfer `(t, s)`. -/
def org (t : Fin 3) (c : Dev nD) : Fin 7 → Dev nD
  | 0 => px (mk t 0) c
  | 1 => px (mk t 1) c
  | 2 => px (mk t 0) (px (mk t 1) c)
  | 3 => px (mk t 2) c
  | 4 => px (mk t 0) (px (mk t 2) c)
  | 5 => px (mk t 1) (px (mk t 2) c)
  | 6 => px (mk t 0) (px (mk t 1) (px (mk t 2) c))

/-- The device whose rows `c` sends with transfer `(t, s)`. -/
def sorg (t : Fin 3) (c : Dev nD) : Fin 7 → Dev nD
  | 0 => c
  | 1 => c
  | 2 => org t c 0
  | 3 => c
  | 4 => org t c 0
  | 5 => org t c 1
  | 6 => org t c 2

theorem org_px (t : Fin 3) (s : Fin 7) (c : Dev nD) : org t (px (dir t s) c) s = sorg t c s := by
  revert t s c; decide

/-! ## Buffers -/

/-- The number of rows of slice `t`. -/
def sz : Fin 3 → ℕ := ![176, 168, 168]

/-- The shape of slice `t`. -/
abbrev shp (t : Fin 3) : Shape := ⟨2, ![sz t, 4096]⟩

/-- Slice `t` of the staged block of `x`. -/
def xM : (t : Fin 3) → Memref sig .tc .vmem (shp t) .bf16
  | 0 => (Memref.whole cc0_stg0_0).slice (Rect.unit (s := S512x4096) ![0, 0] S176x4096.size inb_S512x4096_S176x4096_0_0) (fun _ => rfl)
  | 1 => (Memref.whole cc0_stg0_0).slice (Rect.unit (s := S512x4096) ![176, 0] S168x4096.size inb_S512x4096_S168x4096_176_0) (fun _ => rfl)
  | 2 => (Memref.whole cc0_stg0_0).slice (Rect.unit (s := S512x4096) ![344, 0] S168x4096.size inb_S512x4096_S168x4096_344_0) (fun _ => rfl)

/-- Where transfer `(t, 0)` lands. -/
def r0M : (t : Fin 3) → Memref sig .tc .vmem (shp t) .bf16
  | 0 => Memref.whole cc0_scratch0
  | 1 => Memref.whole cc0_scratch1
  | 2 => Memref.whole cc0_scratch2

/-- Where transfers `(t, 1)` and `(t, 2)` land. -/
def r1M : (t : Fin 3) → Fin 2 → Memref sig .tc .vmem (shp t) .bf16
  | 0, 0 => ((Memref.whole cc0_scratch3).slice (Rect.unit (s := S2x176x4096) ![0, 0, 0] S1x176x4096.size inb_S2x176x4096_S1x176x4096_0_0_0) (fun _ => rfl)).squeeze S176x4096 squeezes_S1x176x4096_S176x4096
  | 0, 1 => ((Memref.whole cc0_scratch3).slice (Rect.unit (s := S2x176x4096) ![1, 0, 0] S1x176x4096.size inb_S2x176x4096_S1x176x4096_1_0_0) (fun _ => rfl)).squeeze S176x4096 squeezes_S1x176x4096_S176x4096
  | 1, 0 => ((Memref.whole cc0_scratch4).slice (Rect.unit (s := S2x168x4096) ![0, 0, 0] S1x168x4096.size inb_S2x168x4096_S1x168x4096_0_0_0) (fun _ => rfl)).squeeze S168x4096 squeezes_S1x168x4096_S168x4096
  | 1, 1 => ((Memref.whole cc0_scratch4).slice (Rect.unit (s := S2x168x4096) ![1, 0, 0] S1x168x4096.size inb_S2x168x4096_S1x168x4096_1_0_0) (fun _ => rfl)).squeeze S168x4096 squeezes_S1x168x4096_S168x4096
  | 2, 0 => ((Memref.whole cc0_scratch5).slice (Rect.unit (s := S2x168x4096) ![0, 0, 0] S1x168x4096.size inb_S2x168x4096_S1x168x4096_0_0_0) (fun _ => rfl)).squeeze S168x4096 squeezes_S1x168x4096_S168x4096
  | 2, 1 => ((Memref.whole cc0_scratch5).slice (Rect.unit (s := S2x168x4096) ![1, 0, 0] S1x168x4096.size inb_S2x168x4096_S1x168x4096_1_0_0) (fun _ => rfl)).squeeze S168x4096 squeezes_S1x168x4096_S168x4096

/-- Where transfers `(t, 3)` to `(t, 6)` land. -/
def r2M : (t : Fin 3) → Fin 4 → Memref sig .tc .hbm (shp t) .bf16
  | 0, 0 => ((Memref.whole main_v3_1).slice (Rect.unit (s := S4x176x4096) ![0, 0, 0] S1x176x4096.size inb_S4x176x4096_S1x176x4096_0_0_0) (fun _ => rfl)).squeeze S176x4096 squeezes_S1x176x4096_S176x4096
  | 0, 1 => ((Memref.whole main_v3_1).slice (Rect.unit (s := S4x176x4096) ![1, 0, 0] S1x176x4096.size inb_S4x176x4096_S1x176x4096_1_0_0) (fun _ => rfl)).squeeze S176x4096 squeezes_S1x176x4096_S176x4096
  | 0, 2 => ((Memref.whole main_v3_1).slice (Rect.unit (s := S4x176x4096) ![2, 0, 0] S1x176x4096.size inb_S4x176x4096_S1x176x4096_2_0_0) (fun _ => rfl)).squeeze S176x4096 squeezes_S1x176x4096_S176x4096
  | 0, 3 => ((Memref.whole main_v3_1).slice (Rect.unit (s := S4x176x4096) ![3, 0, 0] S1x176x4096.size inb_S4x176x4096_S1x176x4096_3_0_0) (fun _ => rfl)).squeeze S176x4096 squeezes_S1x176x4096_S176x4096
  | 1, 0 => ((Memref.whole main_v3_2).slice (Rect.unit (s := S4x168x4096) ![0, 0, 0] S1x168x4096.size inb_S4x168x4096_S1x168x4096_0_0_0) (fun _ => rfl)).squeeze S168x4096 squeezes_S1x168x4096_S168x4096
  | 1, 1 => ((Memref.whole main_v3_2).slice (Rect.unit (s := S4x168x4096) ![1, 0, 0] S1x168x4096.size inb_S4x168x4096_S1x168x4096_1_0_0) (fun _ => rfl)).squeeze S168x4096 squeezes_S1x168x4096_S168x4096
  | 1, 2 => ((Memref.whole main_v3_2).slice (Rect.unit (s := S4x168x4096) ![2, 0, 0] S1x168x4096.size inb_S4x168x4096_S1x168x4096_2_0_0) (fun _ => rfl)).squeeze S168x4096 squeezes_S1x168x4096_S168x4096
  | 1, 3 => ((Memref.whole main_v3_2).slice (Rect.unit (s := S4x168x4096) ![3, 0, 0] S1x168x4096.size inb_S4x168x4096_S1x168x4096_3_0_0) (fun _ => rfl)).squeeze S168x4096 squeezes_S1x168x4096_S168x4096
  | 2, 0 => ((Memref.whole main_v3_3).slice (Rect.unit (s := S4x168x4096) ![0, 0, 0] S1x168x4096.size inb_S4x168x4096_S1x168x4096_0_0_0) (fun _ => rfl)).squeeze S168x4096 squeezes_S1x168x4096_S168x4096
  | 2, 1 => ((Memref.whole main_v3_3).slice (Rect.unit (s := S4x168x4096) ![1, 0, 0] S1x168x4096.size inb_S4x168x4096_S1x168x4096_1_0_0) (fun _ => rfl)).squeeze S168x4096 squeezes_S1x168x4096_S168x4096
  | 2, 2 => ((Memref.whole main_v3_3).slice (Rect.unit (s := S4x168x4096) ![2, 0, 0] S1x168x4096.size inb_S4x168x4096_S1x168x4096_2_0_0) (fun _ => rfl)).squeeze S168x4096 squeezes_S1x168x4096_S168x4096
  | 2, 3 => ((Memref.whole main_v3_3).slice (Rect.unit (s := S4x168x4096) ![3, 0, 0] S1x168x4096.size inb_S4x168x4096_S1x168x4096_3_0_0) (fun _ => rfl)).squeeze S168x4096 squeezes_S1x168x4096_S168x4096

/-- The rows of slot `k` of the two-slot buffer that a slice `t` takes. -/
def gM : (t : Fin 3) → Fin 2 → Memref sig .tc .vmem (shp t) .bf16
  | 0, 0 => ((Memref.whole cc0_scratch6).slice (Rect.unit (s := S2x176x4096) ![0, 0, 0] S1x176x4096.size inb_S2x176x4096_S1x176x4096_0_0_0) (fun _ => rfl)).squeeze S176x4096 squeezes_S1x176x4096_S176x4096
  | 0, 1 => ((Memref.whole cc0_scratch6).slice (Rect.unit (s := S2x176x4096) ![1, 0, 0] S1x176x4096.size inb_S2x176x4096_S1x176x4096_1_0_0) (fun _ => rfl)).squeeze S176x4096 squeezes_S1x176x4096_S176x4096
  | 1, 0 | 2, 0 => ((Memref.whole cc0_scratch6).slice (Rect.unit (s := S2x176x4096) ![0, 0, 0] S1x168x4096.size inb_S2x176x4096_S1x168x4096_0_0_0) (fun _ => rfl)).squeeze S168x4096 squeezes_S1x168x4096_S168x4096
  | 1, 1 | 2, 1 => ((Memref.whole cc0_scratch6).slice (Rect.unit (s := S2x176x4096) ![1, 0, 0] S1x168x4096.size inb_S2x176x4096_S1x168x4096_1_0_0) (fun _ => rfl)).squeeze S168x4096 squeezes_S1x168x4096_S168x4096

/-- The units a transfer of slice `t` pays. -/
def N : Fin 3 → ℕ
  | 0 => (Memref.whole cc0_scratch0).view.dmaCredit
  | 1 => (Memref.whole cc0_scratch1).view.dmaCredit
  | 2 => (Memref.whole cc0_scratch2).view.dmaCredit

theorem N_pos (t : Fin 3) : 0 < N t := by
  match t with
  | 0 => exact View.dmaCredit_pos _ (by decide)
  | 1 => exact View.dmaCredit_pos _ (by decide)
  | 2 => exact View.dmaCredit_pos _ (by decide)

/-! ## Semaphores -/

abbrev barS : Sem sig := (SemArray.scalar (sig.barrier 0 rfl) : Sems sig S_).sem
def sendS (t : Fin 3) (s : Fin 7) : DmaSem sig := ⟨3 + 7 * t.val + s.val, by show _ < 47; omega⟩
def recvS (t : Fin 3) (s : Fin 7) : DmaSem sig := ⟨24 + 7 * t.val + s.val, by show _ < 47; omega⟩
def copyS (k : Fin 2) : DmaSem sig := ⟨45 + k.val, by show _ < 47; omega⟩

abbrev barCell (c : Dev nD) : GSem nD τ sig := ((c : Thread nD τ), .reg barS)
abbrev sendCell (c : Dev nD) (t : Fin 3) (s : Fin 7) : GSem nD τ sig := ((c : Thread nD τ), .dma (sendS t s))
abbrev recvCell (c : Dev nD) (t : Fin 3) (s : Fin 7) : GSem nD τ sig := ((c : Thread nD τ), .dma (recvS t s))
abbrev copyCell (c : Dev nD) (k : Fin 2) : GSem nD τ sig := ((c : Thread nD τ), .dma (copyS k))

/-! ## Contents -/

/-- Device `c` holds the share `q` of the elements the memref shows, reading `x` there. -/
def holds (c : Dev nD) {sp : Space} {s : Shape} (M : Memref sig .tc sp s .bf16) (q : PosShare TreeShare) (x : s.Idx → Elt F .bf16) : sProp 𝕄 :=
  iprop(∃ f : Buf (Elt F) (M.view.loc (c : Thread nD τ)), ⌜M.view.read (Elt F) f = x⌝ ∗ (M.view.loc (c : Thread nD τ) ↦[M.view.set]{q} f))

/-- The same, reading anything. -/
def hAny (c : Dev nD) {sp : Space} {s : Shape} (M : Memref sig .tc sp s .bf16) : sProp 𝕄 :=
  iprop(∃ f : Buf (Elt F) (M.view.loc (c : Thread nD τ)), (M.view.loc (c : Thread nD τ) ↦[M.view.set]{fullShare} f))

/-- The blocks of `x` of all devices, as the kernel reads them. -/
abbrev Xs (F : FTy → Type) : Type := (c : Dev nD) → Buf (Elt F) ((c : Thread nD τ).loc cc0_stg0_0)

variable (X : Xs F)

/-- Slice `t` of device `o`'s block. -/
def xt : (t : Fin 3) → (o : Dev nD) → (shp t).Idx → Elt F .bf16
  | 0, o => (xM 0).view.read (Elt F) (X o)
  | 1, o => (xM 1).view.read (Elt F) (X o)
  | 2, o => (xM 2).view.read (Elt F) (X o)

abbrev q1 : PosShare TreeShare := (fullShare : PosShare TreeShare).left
abbrev q2 : PosShare TreeShare := (fullShare : PosShare TreeShare).right.left
abbrev q3 : PosShare TreeShare := (fullShare : PosShare TreeShare).right.right
abbrev p1 : PosShare TreeShare := (fullShare : PosShare TreeShare).right.left
abbrev p2 : PosShare TreeShare := (fullShare : PosShare TreeShare).right.right.left
abbrev p3 : PosShare TreeShare := (fullShare : PosShare TreeShare).right.right.right

/-- What the landing of transfer `(t, s)` hands to device `c`: the landing buffer, at the rows sent. -/
def recvPay (t : Fin 3) (c : Dev nD) : Fin 7 → sProp 𝕄
  | 0 => holds c (r0M t) fullShare (xt X t (org t c 0))
  | 1 => holds c (r1M t 0) fullShare (xt X t (org t c 1))
  | 2 => holds c (r1M t 1) fullShare (xt X t (org t c 2))
  | 3 => holds c (r2M t 0) fullShare (xt X t (org t c 3))
  | 4 => holds c (r2M t 1) fullShare (xt X t (org t c 4))
  | 5 => holds c (r2M t 2) fullShare (xt X t (org t c 5))
  | 6 => holds c (r2M t 3) fullShare (xt X t (org t c 6))

/-- What the sending of transfer `(t, s)` borrows from device `c` and gives back: a share of the source. -/
def sendPay (t : Fin 3) (c : Dev nD) : Fin 7 → sProp 𝕄
  | 0 => holds c (xM t) p1 (xt X t (sorg t c 0))
  | 1 => holds c (xM t) p2 (xt X t (sorg t c 1))
  | 2 => holds c (r0M t) q1 (xt X t (sorg t c 2))
  | 3 => holds c (xM t) p3 (xt X t (sorg t c 3))
  | 4 => holds c (r0M t) q2 (xt X t (sorg t c 4))
  | 5 => holds c (r1M t 0) q1 (xt X t (sorg t c 5))
  | 6 => holds c (r1M t 1) q1 (xt X t (sorg t c 6))

/-- The landing buffer of transfer `(t, s)` on device `c`, before anything landed. -/
def landPay (t : Fin 3) (c : Dev nD) : Fin 7 → sProp 𝕄
  | 0 => hAny c (r0M t)
  | 1 => hAny c (r1M t 0)
  | 2 => hAny c (r1M t 1)
  | 3 => hAny c (r2M t 0)
  | 4 => hAny c (r2M t 1)
  | 5 => hAny c (r2M t 2)
  | 6 => hAny c (r2M t 3)

/-- The slice and the slot of `r2` of the `i`-th local copy, and its transfer. -/
def ct (i : ℕ) : Fin 3 := ⟨i % 3, Nat.mod_lt _ (by decide)⟩
def cj (i : ℕ) : Fin 4 := ⟨i / 3 % 4, Nat.mod_lt _ (by decide)⟩
def cs (j : Fin 4) : Fin 7 := ⟨3 + j.val, by omega⟩

/-- What the `r`-th local copy into slot `k` gives back: the slot's rows, at what was copied, and the source. -/
def copyPay (c : Dev nD) (k : Fin 2) (r : ℕ) : sProp 𝕄 :=
  iprop(holds c (gM (ct (2 * r + k.val)) k) fullShare (xt X (ct (2 * r + k.val)) (org (ct (2 * r + k.val)) c (cs (cj (2 * r + k.val)))))
    ∗ holds c (r2M (ct (2 * r + k.val)) (cj (2 * r + k.val))) fullShare (xt X (ct (2 * r + k.val)) (org (ct (2 * r + k.val)) c (cs (cj (2 * r + k.val))))))

/-- The transfers that travel in direction `k`. -/
def trs : Fin 3 → List (Fin 3 × Fin 7)
  | 0 => [(0, 0), (2, 1), (2, 2), (1, 3), (1, 4), (1, 5), (1, 6)]
  | 1 => [(1, 0), (0, 1), (0, 2), (2, 3), (2, 4), (2, 5), (2, 6)]
  | 2 => [(2, 0), (1, 1), (1, 2), (0, 3), (0, 4), (0, 5), (0, 6)]

/-- A landing buffer and that its cell is open. -/
def Land (c : Dev nD) (p : Fin 3 × Fin 7) : sProp 𝕄 := iprop(landPay p.1 c p.2 ∗ reached ER (recvCell c p.1 p.2) 0)

/-- What neighbour `px k c` hands to `c` at the barrier: its landing buffers for the transfers from `c`. -/
def barPay (c : Dev nD) (k : Fin 3) : sProp 𝕄 := bigSepL (trs k) (fun p => Land (px k c) p)

end Cert.KernelIdeal.Ring

end
-- ==== Proof.Ring.Sched.lean ====
/-
  The schedule of the exchange: which cells have which duties in which rounds, of how many units, handing over
  what; and what a device owes from each point of the program on, with the levels that order the waits.
-/
module

public import proofs.«01_k».proof.Proof.Ring.Defs
public import Idealize.ShloMosaic.Lib.Pipeline.BigSepL

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F)

/-! ## Kinds of cells -/

/-- What a semaphore is for. -/
inductive Kind
  | stage
  | bar
  | send (t : Fin 3) (s : Fin 7)
  | recv (t : Fin 3) (s : Fin 7)
  | copy (k : Fin 2)
  deriving DecidableEq

/-- What the DMA semaphore of a number is for. -/
def dec (n : ℕ) : Kind :=
  if n < 3 then .stage
  else if n < 24 then .send ⟨(n - 3) / 7 % 3, Nat.mod_lt _ (by decide)⟩ ⟨(n - 3) % 7, Nat.mod_lt _ (by decide)⟩
  else if n < 45 then .recv ⟨(n - 24) / 7 % 3, Nat.mod_lt _ (by decide)⟩ ⟨(n - 24) % 7, Nat.mod_lt _ (by decide)⟩
  else .copy ⟨(n - 45) % 2, Nat.mod_lt _ (by decide)⟩

def kindOf : SemLoc sig → Kind
  | .reg _ => .bar
  | .dma s => dec s.val

theorem kind_bar : kindOf (.reg barS) = .bar := rfl
theorem kind_send (t : Fin 3) (s : Fin 7) : kindOf (.dma (sendS t s)) = .send t s := by revert t s; decide
theorem kind_recv (t : Fin 3) (s : Fin 7) : kindOf (.dma (recvS t s)) = .recv t s := by revert t s; decide
theorem kind_copy (k : Fin 2) : kindOf (.dma (copyS k)) = .copy k := by revert k; decide

/-- Three duties on a barrier cell, one on a transfer's two cells; on a copy cell one in each of six rounds. -/
def dutK : Kind → ℕ → Finset (Fin 3)
  | .stage, _ => ∅
  | .bar, r => if r = 0 then Finset.univ else ∅
  | .send _ _, r => if r = 0 then {0} else ∅
  | .recv _ _, r => if r = 0 then {0} else ∅
  | .copy _, r => if r < 6 then {0} else ∅

def amtK : Kind → ℕ → ℕ
  | .stage, _ => 1
  | .bar, _ => 1
  | .send t _, _ => N t
  | .recv t _, _ => N t
  | .copy k, r => N (ct (2 * r + k.val))

def payK (c : Dev nD) : Kind → ℕ → Fin 3 → sProp 𝕄
  | .stage, _, _ => iprop(emp)
  | .bar, _, d => barPay c d
  | .send t s, _, _ => sendPay X t c s
  | .recv t s, _, _ => recvPay X t c s
  | .copy k, r, _ => copyPay X c k r

/-- The exchange's schedule. -/
def Rd : Rounds.Schedule (GSem nD τ sig) (Fin 3) 𝕄 where
  duties g r := dutK (kindOf g.2) r
  unitless _ := False
  amount g r _ := amtK (kindOf g.2) r
  payload g r d := payK X g.1.1 (kindOf g.2) r d
  amount_pos g r d _ := by
    match kindOf g.2 with
    | .stage => exact Nat.one_pos
    | .bar => exact Nat.one_pos
    | .send t _ => exact N_pos t
    | .recv t _ => exact N_pos t
    | .copy k => exact N_pos _

instance holds_storable (c : Dev nD) {sp : Space} {s : Shape} (M : Memref sig .tc sp s .bf16) (q : PosShare TreeShare) (x : s.Idx → Elt F .bf16) :
    BI.Storable (upEmb : UEmb _ 𝕄) (holds c M q x) := by unfold holds; infer_instance

instance hAny_storable (c : Dev nD) {sp : Space} {s : Shape} (M : Memref sig .tc sp s .bf16) :
    BI.Storable (upEmb : UEmb _ 𝕄) (hAny c M) := by unfold hAny; infer_instance

instance land_storable (c : Dev nD) (p : Fin 3 × Fin 7) : BI.Storable (upEmb : UEmb _ 𝕄) (Land c p) := by
  obtain ⟨t, s⟩ := p
  unfold Land
  have : BI.Storable (upEmb : UEmb _ 𝕄) (landPay t c s) := by
    fin_cases s <;> (dsimp only [landPay]; infer_instance)
  infer_instance

instance barPay_storable (c : Dev nD) (k : Fin 3) : BI.Storable (upEmb : UEmb _ 𝕄) (barPay c k) := by
  unfold barPay
  induction trs k with
  | nil => exact (inferInstance : BI.Storable (upEmb : UEmb _ 𝕄) iprop(emp))
  | cons p l ih => rw [bigSepL_cons']; infer_instance

instance payK_storable (c : Dev nD) (κ : Kind) (r : ℕ) (d : Fin 3) : BI.Storable (upEmb : UEmb _ 𝕄) (payK X c κ r d) := by
  match κ with
  | .stage => dsimp only [payK]; infer_instance
  | .bar => dsimp only [payK]; infer_instance
  | .send t s => dsimp only [payK]; fin_cases s <;> (dsimp only [sendPay]; infer_instance)
  | .recv t s => dsimp only [payK]; fin_cases s <;> (dsimp only [recvPay]; infer_instance)
  | .copy k => dsimp only [payK, copyPay]; infer_instance

instance Rd_storable (g : GSem nD τ sig) (r : ℕ) (d : Fin 3) : BI.Storable (upEmb : UEmb _ 𝕄) ((Rd X).payload g r d) :=
  payK_storable X g.1.1 (kindOf g.2) r d

section Sched

variable (c : Dev nD) (t : Fin 3) (s : Fin 7) (k : Fin 2)

theorem duties_of (g : GSem nD τ sig) (r : ℕ) : (Rd X).duties g r = dutK (kindOf g.2) r := rfl
theorem amount_of (g : GSem nD τ sig) (r : ℕ) (d : Fin 3) : (Rd X).amount g r d = amtK (kindOf g.2) r := rfl
theorem payload_of (g : GSem nD τ sig) (r : ℕ) (d : Fin 3) : (Rd X).payload g r d = payK X g.1.1 (kindOf g.2) r d := rfl

theorem duties_bar : (Rd X).duties (barCell c) 0 = Finset.univ := rfl
theorem duties_send : (Rd X).duties (sendCell c t s) 0 = {0} := by rw [duties_of, kind_send]; rfl
theorem duties_recv : (Rd X).duties (recvCell c t s) 0 = {0} := by rw [duties_of, kind_recv]; rfl
theorem duties_copy {r : ℕ} (hr : r < 6) : (Rd X).duties (copyCell c k) r = {0} := by
  rw [duties_of, kind_copy]; exact if_pos hr

theorem amount_bar (d : Fin 3) : (Rd X).amount (barCell c) 0 d = 1 := rfl
theorem amount_send (d : Fin 3) : (Rd X).amount (sendCell c t s) 0 d = N t := by rw [amount_of, kind_send]; rfl
theorem amount_recv (d : Fin 3) : (Rd X).amount (recvCell c t s) 0 d = N t := by rw [amount_of, kind_recv]; rfl
theorem amount_copy (r : ℕ) (d : Fin 3) : (Rd X).amount (copyCell c k) r d = N (ct (2 * r + k.val)) := by
  rw [amount_of, kind_copy]; rfl

theorem payload_bar (d : Fin 3) : (Rd X).payload (barCell c) 0 d = barPay c d := rfl
theorem payload_send (d : Fin 3) : (Rd X).payload (sendCell c t s) 0 d = sendPay X t c s := by rw [payload_of, kind_send]; rfl
theorem payload_recv (d : Fin 3) : (Rd X).payload (recvCell c t s) 0 d = recvPay X t c s := by rw [payload_of, kind_recv]; rfl
theorem payload_copy (r : ℕ) (d : Fin 3) : (Rd X).payload (copyCell c k) r d = copyPay X c k r := by rw [payload_of, kind_copy]; rfl

theorem expect_bar : (Rd X).expect (barCell c) 0 = 3 := by
  unfold Schedule.expect Schedule.amountOf
  rw [duties_bar, Finset.sum_congr rfl fun d _ => amount_bar X c d]; rfl
theorem expect_send : (Rd X).expect (sendCell c t s) 0 = N t := by
  unfold Schedule.expect Schedule.amountOf; rw [duties_send, Finset.sum_singleton, amount_send]
theorem expect_recv : (Rd X).expect (recvCell c t s) 0 = N t := by
  unfold Schedule.expect Schedule.amountOf; rw [duties_recv, Finset.sum_singleton, amount_recv]
theorem expect_copy {r : ℕ} (hr : r < 6) : (Rd X).expect (copyCell c k) r = N (ct (2 * r + k.val)) := by
  unfold Schedule.expect Schedule.amountOf; rw [duties_copy X c k hr, Finset.sum_singleton, amount_copy]

theorem rest_send : bigSep ((Rd X).duties (sendCell c t s) 0 \ ∅) (fun d => (Rd X).payload (sendCell c t s) 0 d) = sendPay X t c s := by
  rw [Finset.sdiff_empty, duties_send, bigSep_singleton, payload_send]
theorem rest_recv : bigSep ((Rd X).duties (recvCell c t s) 0 \ ∅) (fun d => (Rd X).payload (recvCell c t s) 0 d) = recvPay X t c s := by
  rw [Finset.sdiff_empty, duties_recv, bigSep_singleton, payload_recv]
theorem rest_copy {r : ℕ} (hr : r < 6) :
    bigSep ((Rd X).duties (copyCell c k) r \ ∅) (fun d => (Rd X).payload (copyCell c k) r d) = copyPay X c k r := by
  rw [Finset.sdiff_empty, duties_copy X c k hr, bigSep_singleton, payload_copy]
theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_eq_bigSepL_of_eq [0, 1, 2] (by decide) (by decide)]
  rfl

/-- After its last round a cell has no duties. -/
def rounds : Kind → ℕ
  | .stage => 0
  | .copy _ => 6
  | _ => 1

theorem duties_later (g : GSem nD τ sig) (r : ℕ) (hr : rounds (kindOf g.2) ≤ r) : (Rd X).duties g r = ∅ := by
  rw [duties_of]
  match kindOf g.2, hr with
  | .stage, _ => rfl
  | .bar, hr => exact if_neg (by simp only [rounds] at hr; omega)
  | .send _ _, hr => exact if_neg (by simp only [rounds] at hr; omega)
  | .recv _ _, hr => exact if_neg (by simp only [rounds] at hr; omega)
  | .copy _, hr => exact if_neg (by simp only [rounds] at hr; omega)

end Sched

/-! ## What a device owes, and the levels -/

/-- The transfers in the order a device starts them, which is the order in which it waits for their sending. -/
def starts : List (Fin 3 × Fin 7) :=
  [(0, 0), (1, 0), (2, 0), (0, 1), (1, 1), (2, 1), (0, 3), (1, 3), (2, 3), (0, 2), (0, 4), (1, 2), (1, 4), (2, 2), (2, 4),
    (0, 5), (0, 6), (1, 5), (1, 6), (2, 5), (2, 6)]

/-- The transfers in the order a device waits for their landing. -/
def lands : List (Fin 3 × Fin 7) :=
  [(0, 0), (1, 0), (2, 0), (0, 1), (0, 2), (1, 1), (1, 2), (2, 1), (2, 2), (0, 3), (1, 3), (2, 3), (0, 4), (1, 4), (2, 4),
    (0, 5), (1, 5), (2, 5), (0, 6), (1, 6), (2, 6)]

/-- What a device owes to another: a unit to the barrier cell of the neighbour in a direction, or a landing. -/
inductive Due
  | bar (k : Fin 3)
  | tr (p : Fin 3 × Fin 7)

/-- What a device owes, in program order. -/
def spots : List Due := [.bar 0, .bar 1, .bar 2] ++ starts.map .tr

def due (c : Dev nD) : Due → GSem nD τ sig × ℕ
  | .bar k => (barCell (px k c), 1)
  | .tr p => (recvCell (px (dir p.1 p.2) c) p.1 p.2, N p.1)

/-- The tallies of a list of dues. -/
def tl : List (GSem nD τ sig × ℕ) → CellTallies nD τ sig Unit
  | [] => 0
  | x :: l => tl l + tallyAt x.1 () x.2

/-- What device `c` still owes once it has paid the first `n` of its dues. -/
def owed (c : Dev nD) (n : ℕ) : CellTallies nD τ sig Unit := tl ((spots.drop n).map (due c))

theorem owed_step (c : Dev nD) {n : ℕ} {d : Due} (h : spots.drop n = d :: spots.drop (n + 1)) :
    owed c n = owed c (n + 1) + tallyAt (due c d).1 () (due c d).2 := by
  unfold owed; rw [h]; rfl

def L (g : GSem nD τ sig) : Finset Unit := if g.1.2 = .tc then {()} else ∅

/-- The barrier first, then the landings step by step; a device's own cells owe nothing to others. -/
def lvK : Kind → ℕ
  | .stage => 0
  | .bar => 1
  | .send _ _ => 0
  | .recv _ s => (stp s).val + 2
  | .copy _ => 0

def lv (g : GSem nD τ sig) (_ : Unit) : ℕ := lvK (kindOf g.2)

def lvD : Due → ℕ
  | .bar _ => 1
  | .tr p => (stp p.2).val + 2

theorem L_of_ne (g : GSem nD τ sig) (h : g.1.2 ≠ .tc) : L g = ∅ := if_neg h
theorem L_tc (c : Dev nD) (sm : SemLoc sig) : L ((c : Thread nD τ), sm) = {()} := if_pos rfl

theorem lv_due (c : Dev nD) (d : Due) (u : Unit) : lv (due c d).1 u = lvD d := by
  match d with
  | .bar k => rfl
  | .tr p => unfold lv due lvD; dsimp only; rw [kind_recv]; rfl

theorem due_tc (c : Dev nD) (d : Due) : (due c d).1.1.2 = .tc := by
  match d with
  | .bar k => rfl
  | .tr p => rfl

theorem tl_pos (l : List (GSem nD τ sig × ℕ)) (g : GSem nD τ sig) (u : Unit) (h : 0 < tl l g u) : ∃ x ∈ l, x.1 = g := by
  induction l with
  | nil => exact absurd h (Nat.lt_irrefl 0)
  | cons x l ih =>
    unfold tl at h
    rw [Pi.add_apply, Finsupp.add_apply, tallyAt_apply] at h
    by_cases hg : g = x.1 ∧ u = ()
    · exact ⟨x, List.mem_cons_self, hg.1.symm⟩
    · rw [if_neg hg, Nat.add_zero] at h
      obtain ⟨y, hy, rfl⟩ := ih h
      exact ⟨y, List.mem_cons_of_mem _ hy, rfl⟩

theorem owed_pos {c : Dev nD} {n : ℕ} {g : GSem nD τ sig} {u : Unit} (h : 0 < owed c n g u) :
    ∃ d ∈ spots.drop n, (due c d).1 = g := by
  obtain ⟨x, hx, rfl⟩ := tl_pos _ g u h
  obtain ⟨d, hd, rfl⟩ := List.mem_map.mp hx
  exact ⟨d, hd, rfl⟩

/-- A device may wait on a cell of a level below all it still owes. -/
theorem mayWait (c : Dev nD) (n : ℕ) (sm : SemLoc sig) (cut : ℕ) (hs : lvK (kindOf sm) ≤ cut) (hd : ∀ d ∈ spots.drop n, cut < lvD d) :
    (levAts L lv : sProp 𝕄) ⊢ MayWait (c : Thread nD τ) sm () (owed c n) :=
  MayOwe.of_cut (L := L) (lev := lv) cut (fun p hp => by rw [Finset.mem_singleton.mp hp, L_tc]; exact Finset.mem_singleton_self _)
    (fun g u hg => by
      obtain ⟨d, -, rfl⟩ := owed_pos hg
      unfold L; rw [if_pos (due_tc c d)]; exact Finset.mem_singleton_self _)
    (fun p hp => by rw [Finset.mem_singleton.mp hp]; exact hs)
    (fun g u hg => by
      obtain ⟨d, hd', rfl⟩ := owed_pos hg
      rw [lv_due]; exact hd d hd')

end Cert.KernelIdeal.Ring

end
-- ==== Proof.Ring.Steps.lean ====
/-
  One lemma per operation of the exchange, at a device `c`: what the device holds before and after it.
-/
module

public import proofs.«01_k».proof.Proof.Ring.Sched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Xs F)

abbrev 𝒱₀ : Variants := Variants.none

/-! ## The cells of all devices -/

/-- The DMA semaphores of the exchange, in order. -/
def osem (k : Fin 44) : SemLoc sig := .dma ⟨3 + k.val, by show _ < 47; omega⟩

def barEmb : Dev nD ↪ GSem nD τ sig := ⟨barCell, fun _ _ h => congrArg (fun g : GSem nD τ sig => g.1.1) h⟩

theorem osem_inj : Function.Injective osem := fun a b h => by
  have h' : (3 + a.val) = 3 + b.val := congrArg (fun s : SemLoc sig => match s with | .dma s => s.val | .reg s => s.val) h
  exact Fin.ext (by omega)

def scEmb : Dev nD × Fin 44 ↪ GSem nD τ sig :=
  ⟨fun p => ((p.1 : Thread nD τ), osem p.2), fun _ _ h =>
    Prod.ext (congrArg (fun g : GSem nD τ sig => g.1.1) h) (osem_inj (congrArg Prod.snd h))⟩

def barCells : Finset (GSem nD τ sig) := Finset.univ.map barEmb
def scCells : Finset (GSem nD τ sig) := Finset.univ.map scEmb

theorem bar_mem (c : Dev nD) : barCell c ∈ barCells ∪ scCells :=
  Finset.mem_union_left _ (Finset.mem_map_of_mem barEmb (Finset.mem_univ c))
theorem dma_mem (c : Dev nD) (n : Fin 47) (h : 3 ≤ n.val) : (((c : Thread nD τ), .dma n) : GSem nD τ sig) ∈ barCells ∪ scCells :=
  Finset.mem_union_right _ (Finset.mem_map.mpr ⟨(c, ⟨n.val - 3, by omega⟩), Finset.mem_univ _, by
    show (((c : Thread nD τ), osem _) : GSem nD τ sig) = _
    unfold osem
    refine congrArg (fun s : Fin 47 => (((c : Thread nD τ), SemLoc.dma s) : GSem nD τ sig)) (Fin.ext ?_)
    show 3 + (n.val - 3) = n.val
    omega⟩)
theorem send_mem (c : Dev nD) (t : Fin 3) (s : Fin 7) : sendCell c t s ∈ barCells ∪ scCells :=
  dma_mem c (sendS t s) (by show 3 ≤ 3 + 7 * t.val + s.val; omega)
theorem recv_mem (c : Dev nD) (t : Fin 3) (s : Fin 7) : recvCell c t s ∈ barCells ∪ scCells :=
  dma_mem c (recvS t s) (by show 3 ≤ 24 + 7 * t.val + s.val; omega)
theorem copy_mem (c : Dev nD) (k : Fin 2) : copyCell c k ∈ barCells ∪ scCells :=
  dma_mem c (copyS k) (by show 3 ≤ 45 + k.val; omega)

/-- What every device may consult: all cells' invariants, and the levels. -/
def Ctx (K : GSem nD τ sig → ℕ) : sProp 𝕄 :=
  iprop((bigSep (barCells ∪ scCells) fun g => cellInv ER (Rd X) (K g) g) ∗ levAts L lv)

variable (K : GSem nD τ sig → ℕ) (c : Dev nD)

instance Ctx_persistent : BI.Persistent (Ctx X K) := by unfold Ctx; infer_instance

theorem inv_at {g : GSem nD τ sig} (hg : g ∈ barCells ∪ scCells) :
    (bigSep (barCells ∪ scCells) fun g => (cellInv ER (Rd X) (K g) g : sProp 𝕄)) ⊢ cellInv ER (Rd X) (K g) g :=
  bigSep_elim hg

theorem Ctx_inv {g : GSem nD τ sig} (hg : g ∈ barCells ∪ scCells) : Ctx X K ⊢ cellInv ER (Rd X) (K g) g := by
  unfold Ctx
  iintro ⟨#H, -⟩
  iapply (inv_at X K hg)
  iexact H

theorem Ctx_lev : Ctx X K ⊢ levAts L lv := by
  unfold Ctx
  iintro ⟨-, H⟩
  iexact H

/-! ## What a device holds -/

/-- Device `c` owes what is left of its dues after the first `n`. -/
def Owe (n : ℕ) : sProp 𝕄 := iprop(∃ W, owes (c : Thread nD τ) (owed c n) W)

/-- The tokens for starting a transfer. -/
def Tok (p : Fin 3 × Fin 7) : sProp 𝕄 :=
  iprop(dutyTok ER (sendCell c p.1 p.2) 0 (0 : Fin 3) ∗ reached ER (sendCell c p.1 p.2) 0
    ∗ dutyTok ER (recvCell (px (dir p.1 p.2) c) p.1 p.2) 0 (0 : Fin 3) ∗ atPos ER (sendCell c p.1 p.2) 0 (∅ : Finset (Fin 3)) 0)

/-- With the landing buffer on the neighbour: all but the source. -/
def Ready (p : Fin 3 × Fin 7) : sProp 𝕄 := iprop(Tok c p ∗ Land (px (dir p.1 p.2) c) p)

/-- A started transfer. -/
def Fly (p : Fin 3 × Fin 7) : sProp 𝕄 :=
  iprop(cred (tallyAt (sendCell c p.1 p.2) () (N p.1)) ∗ atPos ER (sendCell c p.1 p.2) 0 (∅ : Finset (Fin 3)) 0)

/-- A transfer whose source is back. -/
def Sent (p : Fin 3 × Fin 7) : sProp 𝕄 :=
  iprop(sendPay X p.1 c p.2 ∗ atPos ER (sendCell c p.1 p.2) 1 (∅ : Finset (Fin 3)) 0)

def Await (p : Fin 3 × Fin 7) : sProp 𝕄 :=
  iprop(cred (tallyAt (recvCell c p.1 p.2) () (N p.1)) ∗ atPos ER (recvCell c p.1 p.2) 0 (∅ : Finset (Fin 3)) 0)

def Got (p : Fin 3 × Fin 7) : sProp 𝕄 := atPos ER (recvCell c p.1 p.2) 1 (∅ : Finset (Fin 3)) 0

/-- The first `n` transfers are started. -/
def Snd (n : ℕ) : sProp 𝕄 := iprop(Owe c (3 + n) ∗ bigSepL (starts.drop n) (Ready c) ∗ bigSepL (starts.take n) (Fly c))

/-- All transfers are started, and the first `n` sources are back. -/
def Drn (n : ℕ) : sProp 𝕄 := iprop(Owe c 24 ∗ bigSepL (starts.drop n) (Fly c) ∗ bigSepL (starts.take n) (Sent X c))

/-- The first `n` landings have been waited for. -/
def Rcv (n : ℕ) : sProp 𝕄 := iprop(bigSepL (lands.drop n) (Await c) ∗ bigSepL (lands.take n) (Got c))

/-- The position in a copy cell. -/
def CPos (k : Fin 2) (r : ℕ) : sProp 𝕄 := iprop(atPos ER (copyCell c k) r (∅ : Finset (Fin 3)) 0 ∗ reached ER (copyCell c k) r)

/-- The local copies in the order a device starts them: slot and round. -/
def copies : List (Fin 2 × ℕ) :=
  [(0, 0), (1, 0), (0, 1), (1, 1), (0, 2), (1, 2), (0, 3), (1, 3), (0, 4), (1, 4), (0, 5), (1, 5)]

def CTok (n : ℕ) : sProp 𝕄 := bigSepL (copies.drop n) fun p => dutyTok ER (copyCell c p.1) p.2 (0 : Fin 3)

/-- A started local copy. -/
def CFly (k : Fin 2) (r : ℕ) : sProp 𝕄 := cred (tallyAt (copyCell c k) () (N (ct (2 * r + k.val))))

/-! ## Lists -/

theorem pop {I : Type} {l : List I} {n : ℕ} {x : I} (h : l[n]? = some x) (Φ : I → sProp 𝕄) :
    bigSepL (l.drop n) Φ = iprop(Φ x ∗ bigSepL (l.drop (n + 1)) Φ) := by
  obtain ⟨hn, rfl⟩ := List.getElem?_eq_some_iff.mp h
  rw [List.drop_eq_getElem_cons hn, bigSepL_cons']

theorem push {I : Type} {l : List I} {n : ℕ} {x : I} (h : l[n]? = some x) (Φ : I → sProp 𝕄) :
    bigSepL (l.take (n + 1)) Φ = iprop(bigSepL (l.take n) Φ ∗ Φ x) := by
  obtain ⟨hn, rfl⟩ := List.getElem?_eq_some_iff.mp h
  rw [List.take_succ_eq_append_getElem hn, bigSepL_append, bigSepL_singleton]

/-! ## Writing a transfer's destination -/

theorem holds_written {sp : Space} {s : Shape} (M : Memref sig .tc sp s .bf16) (x : s.Idx → Elt F .bf16)
    (f : Buf (Elt F) (M.view.loc (c : Thread nD τ))) :
    (M.view.loc (c : Thread nD τ) ↦[M.view.set]{fullShare} (M.view.write (Elt F) f x Finset.univ)) ⊢ (holds c M fullShare x : sProp 𝕄) := by
  unfold holds
  iintro H
  iexists (M.view.write (Elt F) f x Finset.univ)
  isplitr
  · ipureintro; exact View.read_write_univ ..
  iexact H

/-! ## The steps -/

/-- The signal to the neighbour in direction `k`: it hands over the landing buffers of the transfers coming from there. -/
theorem signal_step {k : Fin 3} {d : Dev nD} (hd : d = px k c) {sem : Sem sig} (hsem : sem = barS) {n : ℕ}
    (hn : spots.drop n = .bar k :: spots.drop (n + 1)) {α : Type} {Kt : α → sProp 𝕄} {kk : PUnit → Prog (TpuEff nD τ sig (Elt F) Λ₀ .tc) α} :
    iprop(Ctx X K ∗ Owe c n ∗ dutyTok ER (barCell (px k c)) 0 k ∗ bigSepL (trs k) (Land c) ∗ reached ER (barCell (px k c)) 0)
      ⊢ iprop((Owe c (n + 1) -∗ wp frame (wpE (defs₀ (F := F)) 𝒱₀ (c : Thread nD τ) none) Set.univ (kk ⟨⟩) Kt)
        -∗ wp frame (wpE (defs₀ (F := F)) 𝒱₀ (c : Thread nD τ) none) Set.univ (.op (.semSignal (d : Thread nD τ) sem 1) kk) Kt) := by
  subst hd hsem
  iintro ⟨#HC, HO, Ht, Hp, #Hr⟩ Hk
  unfold Owe
  icases HO with ⟨%W, HO⟩
  iapply (Rounds.wp_signal 𝒱₀ ER (Rd X) (c : Thread nD τ) none (dst := (px k c : Thread nD τ)) (sem := barS) (r := 0) (d := k) (κ := K (barCell (px k c)))
    (by rw [duties_bar]; exact Finset.mem_univ _) (amount_bar X (px k c) k) () (owed c (n + 1)) (owed_step c hn)) $$ [HO Ht Hp]
  · isplitr; · iapply (Ctx_inv X K (bar_mem (px k c))); iexact HC
    isplitl [HO]; · iexact HO
    isplitl [Ht]; · iexact Ht
    isplitl [Hp]
    · rw [payload_bar]; unfold barPay; rw [px_px]; iexact Hp
    iexact Hr
  iintro HO
  iapply Hk
  iexists _; iexact HO

/-- The wait for the three neighbours: all landing buffers of the transfers going out. -/
theorem barrier_step {sem : Sem sig} (hsem : sem = barS) {α : Type} {Kt : α → sProp 𝕄} {kk : PUnit → Prog (TpuEff nD τ sig (Elt F) Λ₀ .tc) α} :
    iprop(Ctx X K ∗ Owe c 3 ∗ cred (tallyAt (barCell c) () 3) ∗ atPos ER (barCell c) 0 (∅ : Finset (Fin 3)) 0)
      ⊢ iprop(((Owe c 3 ∗ atPos ER (barCell c) 1 (∅ : Finset (Fin 3)) 0 ∗ barPay c 0 ∗ barPay c 1 ∗ barPay c 2)
          -∗ wp frame (wpE (defs₀ (F := F)) 𝒱₀ (c : Thread nD τ) none) Set.univ (kk ⟨⟩) Kt)
        -∗ wp frame (wpE (defs₀ (F := F)) 𝒱₀ (c : Thread nD τ) none) Set.univ (.op (.semWait sem 3) kk) Kt) := by
  subst hsem
  iintro ⟨#HC, HO, Hc, Ha⟩ Hk
  unfold Owe
  icases HO with ⟨%W, HO⟩
  iapply (Rounds.wp_wait_rest_token 𝒱₀ ER (Rd X) (c : Thread nD τ) none (κ := K (barCell c))
      (wpE_semWait_eq 𝒱₀ (c : Thread nD τ) none Set.univ) (Set.mem_univ _) () (O := owed c 3) (W := W) (R := 0) (m := 0) (T := ∅)
      ((Nat.zero_add _).trans (expect_bar X c).symm)) $$ [Hc HO Ha]
  · isplitr; · iapply (Ctx_inv X K (bar_mem c)); iexact HC
    isplitl [Hc]; · iexact Hc
    isplitl [HO]; · iexact HO
    isplitr
    · iapply (mayWait c 3 (.reg barS) 1 (by decide) (by decide))
      iapply (Ctx_lev X K); iexact HC
    iexact Ha
  iintro ⟨HO, Ha, -, Hp⟩
  ihave Hp := (Entails.of_eq (rest_bar X c)) $$ Hp
  iapply Hk
  isplitl [HO]; · iexists _; iexact HO
  isplitl [Ha]; · iexact Ha
  iexact Hp

/-- The start of a transfer. -/
theorem start_step {n : ℕ} {t : Fin 3} {s : Fin 7} (hn : starts[n]? = some (t, s)) (hn' : spots.drop (3 + n) = .tr (t, s) :: spots.drop (3 + n + 1))
    {sp' : Space} (src : Memref sig .tc .vmem (shp t) .bf16) (dst : Memref sig .tc sp' (shp t) .bf16) {q : PosShare TreeShare}
    (hs : (sendPay X t c s : sProp 𝕄) = holds c src q (xt X t (sorg t c s)))
    (hl : (landPay t (px (dir t s) c) s : sProp 𝕄) = hAny (px (dir t s) c) dst)
    (hr : (recvPay X t (px (dir t s) c) s : sProp 𝕄) = holds (px (dir t s) c) dst fullShare (xt X t (org t (px (dir t s) c) s)))
    {d : Dev nD} (hd : d = px (dir t s) c) {vS vR : DmaSem sig} (hS : vS = sendS t s) (hR : vR = recvS t s) (hN : dst.view.dmaCredit = N t)
    {hsc : dst.view.ref.isScScratch = false} {hsrc : src.view.WordExact} {hdst : dst.view.WordExact}
    {hsem : DmaTarget.Typed Space.vmem (.dma vR : SemLoc sig) (.remote (d : Thread nD τ) dst (.dma vS) hsc)}
    {α : Type} {Kt : α → sProp 𝕄} {kk : PUnit → Prog (TpuEff nD τ sig (Elt F) Λ₀ .tc) α} :
    iprop(Ctx X K ∗ Snd c n ∗ sendPay X t c s)
      ⊢ iprop((Snd c (n + 1) -∗ wp frame (wpE (defs₀ (F := F)) 𝒱₀ (c : Thread nD τ) none) Set.univ (kk ⟨⟩) Kt)
        -∗ wp frame (wpE (defs₀ (F := F)) 𝒱₀ (c : Thread nD τ) none) Set.univ
          (.op (.enqueueDma src (.remote (d : Thread nD τ) dst (.dma vS) hsc) (.dma vR) hsrc hdst hsem) kk) Kt) := by
  subst hd hS hR
  unfold Snd Owe
  rw [pop hn, push hn, hs]
  unfold Ready Land Tok holds
  dsimp only
  rw [hl]
  unfold hAny
  iintro ⟨#HC, ⟨⟨%W, HO⟩, ⟨⟨⟨HtS, #HrS, HtR, Ha⟩, ⟨%fd, Hd⟩, #HrR⟩, Hrest⟩, Hfly⟩, ⟨%fs, %hfs, Hsrc⟩⟩ Hk
  iapply (Rounds.wp_send_pointsTo 𝒱₀ ER (Rd X) (c : Thread nD τ) none (c' := (px (dir t s) c : Thread nD τ)) (src := src) (dst := dst)
      (sS := .dma (sendS t s)) (sem := .dma (recvS t s)) (q := q) (fs := fs) (κ₁ := K (sendCell c t s)) (κ₂ := K (recvCell (px (dir t s) c) t s))
      (r₁ := 0) (r₂ := 0) (d₁ := 0) (d₂ := 0) (fd := fd)
      (by rw [duties_send]; exact Finset.mem_singleton_self _) (by rw [duties_recv]; exact Finset.mem_singleton_self _)
      () () (N t) hN (amount_send X c t s 0) (amount_recv X (px (dir t s) c) t s 0) (owed c (3 + n + 1)) (owed_step c hn') (W := W)
      (by rw [payload_send, hs]; unfold holds; iintro H; iexists fs; isplitr; · ipureintro; exact hfs
          iexact H)
      (by rw [payload_recv, hr, org_px, hfs]; exact holds_written _ dst _ _)) $$ [Hsrc Hd HO HtS HtR]
  · isplitr; · iapply (Ctx_inv X K (send_mem c t s)); iexact HC
    isplitr; · iapply (Ctx_inv X K (recv_mem (px (dir t s) c) t s)); iexact HC
    isplitl [Hsrc]; · iexact Hsrc
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists _; iexact HO
  isplitl [Hrest]; · iexact Hrest
  isplitl [Hfly]; · iexact Hfly
  unfold Fly
  isplitl [Hc]; · iexact Hc
  iexact Ha

/-- The wait for a landing, while still sending. -/
theorem recv_step {m n : ℕ} {t : Fin 3} {s : Fin 7} (hm : lands[m]? = some (t, s)) {vR : DmaSem sig} (hR : vR = recvS t s)
    (hlv : ∀ d ∈ spots.drop (3 + n), (stp s).val + 2 < lvD d)
    {sp sp' : Space} {s₁ : Shape} {e₁ : EltTy} (src : Memref sig .tc sp s₁ e₁) (dst : Memref sig .tc sp' (shp t) .bf16) (hN : dst.view.dmaCredit = N t)
    {hsrc : src.view.WordExact} {hdst : dst.view.WordExact}
    {α : Type} {Kt : α → sProp 𝕄} {kk : PUnit → Prog (TpuEff nD τ sig (Elt F) Λ₀ .tc) α} :
    iprop(Ctx X K ∗ Rcv c m ∗ Snd c n)
      ⊢ iprop(((Rcv c (m + 1) ∗ Snd c n ∗ recvPay X t c s) -∗ wp frame (wpE (defs₀ (F := F)) 𝒱₀ (c : Thread nD τ) none) Set.univ (kk ⟨⟩) Kt)
        -∗ wp frame (wpE (defs₀ (F := F)) 𝒱₀ (c : Thread nD τ) none) Set.univ (.op (.waitDma2 vR src dst hsrc hdst) kk) Kt) := by
  subst hR
  unfold Rcv Snd Owe
  rw [pop hm, push hm]
  unfold Await
  dsimp only
  iintro ⟨#HC, ⟨⟨⟨Hc, Ha⟩, Hrest⟩, Hgot⟩, ⟨⟨%W, HO⟩, Hs1, Hs2⟩⟩ Hk
  iapply (Rounds.wp_wait_rest_token 𝒱₀ ER (Rd X) (c : Thread nD τ) none (κ := K (recvCell c t s))
      (wpE_waitDma2_eq (src := src) (dst := dst) 𝒱₀ (c : Thread nD τ) none Set.univ) (Set.mem_univ _) () (O := owed c (3 + n)) (W := W) (R := 0) (m := 0) (T := ∅)
      ((Nat.zero_add _).trans (hN.trans (expect_recv X c t s).symm))) $$ [Hc HO Ha]
  · isplitr; · iapply (Ctx_inv X K (recv_mem c t s)); iexact HC
    isplitl [Hc]; · rw [hN]; iexact Hc
    isplitl [HO]; · iexact HO
    isplitr
    · iapply (mayWait c (3 + n) (.dma (recvS t s)) ((stp s).val + 2) (by rw [kind_recv]; exact Nat.le_refl _) hlv)
      iapply (Ctx_lev X K); iexact HC
    iexact Ha
  iintro ⟨HO, Ha, -, Hp⟩
  ihave Hp := (Entails.of_eq (rest_recv X c t s)) $$ Hp
  iapply Hk
  isplitl [Hrest Hgot Ha]
  · isplitl [Hrest]; · iexact Hrest
    isplitl [Hgot]; · iexact Hgot
    unfold Got; iexact Ha
  isplitl [HO Hs1 Hs2]
  · isplitl [HO]; · iexists _; iexact HO
    isplitl [Hs1]; · iexact Hs1
    iexact Hs2
  iexact Hp

/-- The wait for a source. -/
theorem sent_step {n : ℕ} {t : Fin 3} {s : Fin 7} (hn : starts[n]? = some (t, s)) {vS : DmaSem sig} (hS : vS = sendS t s)
    {sp sp' : Space} {s₁ : Shape} {e₁ : EltTy} (src : Memref sig .tc sp s₁ e₁) (dst : Memref sig .tc sp' (shp t) .bf16) (hN : dst.view.dmaCredit = N t)
    {hsrc : src.view.WordExact} {hdst : dst.view.WordExact}
    {α : Type} {Kt : α → sProp 𝕄} {kk : PUnit → Prog (TpuEff nD τ sig (Elt F) Λ₀ .tc) α} :
    iprop(Ctx X K ∗ Drn X c n)
      ⊢ iprop((Drn X c (n + 1) -∗ wp frame (wpE (defs₀ (F := F)) 𝒱₀ (c : Thread nD τ) none) Set.univ (kk ⟨⟩) Kt)
        -∗ wp frame (wpE (defs₀ (F := F)) 𝒱₀ (c : Thread nD τ) none) Set.univ (.op (.waitDma2 vS src dst hsrc hdst) kk) Kt) := by
  subst hS
  unfold Drn Owe
  rw [pop hn, push hn]
  unfold Fly
  dsimp only
  iintro ⟨#HC, ⟨⟨%W, HO⟩, ⟨⟨Hc, Ha⟩, Hrest⟩, Hsent⟩⟩ Hk
  iapply (Rounds.wp_wait_rest_token 𝒱₀ ER (Rd X) (c : Thread nD τ) none (κ := K (sendCell c t s))
      (wpE_waitDma2_eq (src := src) (dst := dst) 𝒱₀ (c : Thread nD τ) none Set.univ) (Set.mem_univ _) () (O := owed c 24) (W := W) (R := 0) (m := 0) (T := ∅)
      ((Nat.zero_add _).trans (hN.trans (expect_send X c t s).symm))) $$ [Hc HO Ha]
  · isplitr; · iapply (Ctx_inv X K (send_mem c t s)); iexact HC
    isplitl [Hc]; · rw [hN]; iexact Hc
    isplitl [HO]; · iexact HO
    isplitr
    · iapply (mayWait c 24 (.dma (sendS t s)) 0 (by rw [kind_send]; exact Nat.le_refl _) (by decide))
      iapply (Ctx_lev X K); iexact HC
    iexact Ha
  iintro ⟨HO, Ha, -, Hp⟩
  ihave Hp := (Entails.of_eq (rest_send X c t s)) $$ Hp
  iapply Hk
  isplitl [HO]; · iexists _; iexact HO
  isplitl [Hrest]; · iexact Hrest
  isplitl [Hsent]; · iexact Hsent
  unfold Sent
  isplitl [Hp]; · iexact Hp
  iexact Ha

/-- The start of a local copy into slot `k`, the `r`-th there. -/
theorem copy_step {i : ℕ} {k : Fin 2} {r : ℕ} (hi : copies[i]? = some (k, r)) (hr : r < 6) {t : Fin 3} {j : Fin 4}
    (ht : ct (2 * r + k.val) = t) (hj : cj (2 * r + k.val) = j) {vC : DmaSem sig} (hC : vC = copyS k)
    (hN : (gM t k).view.dmaCredit = N t)
    {hsrc : (r2M t j).view.WordExact} {hdst : (gM t k).view.WordExact}
    {hsem : DmaTarget.Typed (nD := nD) (p := (Proc.tc : Proc τ)) Space.hbm (.dma vC : SemLoc sig) (.here (gM t k))}
    {α : Type} {Kt : α → sProp 𝕄} {kk : PUnit → Prog (TpuEff nD τ sig (Elt F) Λ₀ .tc) α} :
    iprop(Ctx X K ∗ CTok c i ∗ CPos c k r ∗ hAny c (gM t k) ∗ holds c (r2M t j) fullShare (xt X t (org t c (cs j))))
      ⊢ iprop(((CTok c (i + 1) ∗ CPos c k r ∗ CFly c k r) -∗ wp frame (wpE (defs₀ (F := F)) 𝒱₀ (c : Thread nD τ) none) Set.univ (kk ⟨⟩) Kt)
        -∗ wp frame (wpE (defs₀ (F := F)) 𝒱₀ (c : Thread nD τ) none) Set.univ
          (.op (.enqueueDma (r2M t j) (.here (gM t k)) (.dma vC) hsrc hdst hsem) kk) Kt) := by
  subst ht hj hC
  unfold CTok CPos CFly hAny holds
  rw [pop hi]
  iintro ⟨#HC, ⟨Ht, Hrest⟩, ⟨Ha, #Hr⟩, ⟨%fd, Hd⟩, ⟨%fs, %hfs, Hsrc⟩⟩ Hk
  iapply (Rounds.wp_copy_pointsTo 𝒱₀ ER (Rd X) (c : Thread nD τ) none (src := r2M _ _) (dst := gM _ k) (sem := .dma (copyS k)) (q := fullShare)
      (fs := fs) (fd := fd) (r := r) (d := 0) (κ := K (copyCell c k))
      (by rw [duties_copy X c k hr]; exact Finset.mem_singleton_self _) () (N (ct (2 * r + k.val))) hN (amount_copy X c k r 0)
      (by
        rw [payload_copy, hfs]; unfold copyPay
        refine BIClass.sep_mono (holds_written _ _ _ _) ?_
        unfold holds; iintro H; iexists fs; isplitr; · ipureintro; exact hfs
        iexact H)) $$ [Hsrc Hd Ht]
  · isplitr; · iapply (Ctx_inv X K (copy_mem c k)); iexact HC
    isplitl [Hsrc]; · iexact Hsrc
    isplitl [Hd]; · iexact Hd
    isplitl [Ht]; · iexact Ht
    iexact Hr
  iintro Hc
  iapply Hk
  isplitl [Hrest]; · iexact Hrest
  isplitl [Ha]
  · isplitl [Ha]; · iexact Ha
    iexact Hr
  iexact Hc

/-- The wait for a local copy. -/
theorem copied_step {k : Fin 2} {r : ℕ} (hr : r < 6) {t : Fin 3} {j : Fin 4}
    (ht : ct (2 * r + k.val) = t) (hj : cj (2 * r + k.val) = j) {vC : DmaSem sig} (hC : vC = copyS k)
    {sp sp' : Space} {s₁ : Shape} {e₁ : EltTy} (src : Memref sig .tc sp s₁ e₁) (dst : Memref sig .tc sp' (shp t) .bf16) (hN : dst.view.dmaCredit = N t)
    {hsrc : src.view.WordExact} {hdst : dst.view.WordExact}
    {α : Type} {Kt : α → sProp 𝕄} {kk : PUnit → Prog (TpuEff nD τ sig (Elt F) Λ₀ .tc) α} :
    iprop(Ctx X K ∗ CPos c k r ∗ CFly c k r ∗ Snd c 21)
      ⊢ iprop(((CPos c k (r + 1) ∗ Snd c 21 ∗ holds c (gM t k) fullShare (xt X t (org t c (cs j))) ∗ holds c (r2M t j) fullShare (xt X t (org t c (cs j))))
          -∗ wp frame (wpE (defs₀ (F := F)) 𝒱₀ (c : Thread nD τ) none) Set.univ (kk ⟨⟩) Kt)
        -∗ wp frame (wpE (defs₀ (F := F)) 𝒱₀ (c : Thread nD τ) none) Set.univ (.op (.waitDma2 vC src dst hsrc hdst) kk) Kt) := by
  subst ht hj hC
  unfold CPos CFly Snd Owe
  iintro ⟨#HC, ⟨Ha, -⟩, Hc, ⟨⟨%W, HO⟩, Hs1, Hs2⟩⟩ Hk
  iapply (Rounds.wp_wait_rest_token 𝒱₀ ER (Rd X) (c : Thread nD τ) none (κ := K (copyCell c k))
      (wpE_waitDma2_eq (src := src) (dst := dst) 𝒱₀ (c : Thread nD τ) none Set.univ) (Set.mem_univ _) () (O := owed c (3 + 21)) (W := W) (R := r) (m := 0) (T := ∅)
      ((Nat.zero_add _).trans (hN.trans (expect_copy X c k hr).symm))) $$ [Hc HO Ha]
  · isplitr; · iapply (Ctx_inv X K (copy_mem c k)); iexact HC
    isplitl [Hc]; · rw [hN]; iexact Hc
    isplitl [HO]; · iexact HO
    isplitr
    · iapply (mayWait c (3 + 21) (.dma (copyS k)) 0 (by rw [kind_copy]; exact Nat.le_refl _) (by decide))
      iapply (Ctx_lev X K); iexact HC
    iexact Ha
  iintro ⟨HO, Ha, #Hr, Hp⟩
  ihave Hp := (Entails.of_eq (rest_copy X c k hr)) $$ Hp
  unfold copyPay
  icases Hp with ⟨Hg, Hsrc⟩
  iapply Hk
  isplitl [Ha]
  · isplitl [Ha]; · iexact Ha
    iexact Hr
  isplitl [HO Hs1 Hs2]
  · isplitl [HO]; · iexists _; iexact HO
    isplitl [Hs1]; · iexact Hs1
    iexact Hs2
  isplitl [Hg]; · iexact Hg
  iexact Hsrc

end Cert.KernelIdeal.Ring

end
-- ==== Proof.Ring.Compute.lean ====
/-
  What a device computes and where: the rows of the result that belong to each slice of each device's block,
  and one lemma per load and store of the kernel's body.
-/
module

public import proofs.«01_k».proof.Proof.Ring.Steps
public import proofs.«01_k».proof.Proof.Gen.KernelIdeal.Skeleton

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

/-- The blocks of `w_mat` of all devices, as the kernel reads them. -/
abbrev Ws (F : FTy → Type) : Type := (c : Dev nD) → Buf (Elt F) ((c : Thread nD τ).loc cc0_stg1_0)

variable (X : Xs F) (W : Ws F) (K : GSem nD τ sig → ℕ) (c : Dev nD)

/-! ## Values -/

/-- The first row of slice `t` in a block. -/
def roff : Fin 3 → ℕ := ![0, 176, 344]

theorem roff_le (t : Fin 3) : roff t + sz t ≤ 512 := by revert t; decide

/-- What is computed from the rows `x` of slice `t`. -/
def osm : (t : Fin 3) → ((shp t).Idx → Elt F .bf16) → (S4096x1024.Idx → Elt F .bf16) → (⟨2, ![sz t, 1024]⟩ : Shape).Idx → Elt F .f32
  | 0, x, w => Gen.k0_pay2 x w
  | 1, x, w => Gen.k0_pay5 (Gen.k0_pay3 x w) (Gen.k0_pay4 x w)
  | 2, x, w => Gen.k0_pay6 x w

/-- The rows of the result computed from slice `t` of device `o`'s block. -/
def place (o : Dev nD) (t : Fin 3) (i : (⟨2, ![sz t, 1024]⟩ : Shape).Idx) : S4096x1024.Idx := fun a =>
  match a with
  | 0 => ⟨512 * o.val + roff t + (i 0).val, by
      have h1 := o.isLt; have h2 : (i 0).val < sz t := (i 0).isLt; have h3 := roff_le t
      show _ < 4096
      have : o.val < 8 := h1
      omega⟩
  | 1 => ⟨(i 1).val, (i 1).isLt⟩

/-- The same rows within a block. -/
def own (t : Fin 3) (i : (⟨2, ![sz t, 1024]⟩ : Shape).Idx) : S512x1024.Idx := fun a =>
  match a with
  | 0 => ⟨roff t + (i 0).val, by
      have h2 : (i 0).val < sz t := (i 0).isLt; have h3 := roff_le t
      show _ < 512
      omega⟩
  | 1 => ⟨(i 1).val, (i 1).isLt⟩

/-- What device `c` puts at these rows: its own block is computed in one go, the others slice by slice. -/
def val (o : Dev nD) (t : Fin 3) (i : (⟨2, ![sz t, 1024]⟩ : Shape).Idx) : Elt F .f32 :=
  if o = c then Gen.k0_pay1 (X c) (W c) (own t i) else osm t (xt X t o) (W c) i

/-- The slice that row `r` of a block belongs to. -/
def slc (r : ℕ) : Fin 3 := if r < 176 then 0 else if r < 344 then 1 else 2

theorem slc_le (r : ℕ) : roff (slc r) ≤ r := by
  unfold slc; split
  · exact Nat.zero_le _
  · split
    · show 176 ≤ r; omega
    · show 344 ≤ r; omega

theorem slc_lt {r : ℕ} (h : r < 512) : r - roff (slc r) < sz (slc r) := by
  unfold slc; split
  · show r - 0 < 176; omega
  · split
    · show r - 176 < 168; omega
    · show r - 344 < 168; omega

theorem slc_eq (t : Fin 3) {r : ℕ} (h : r < sz t) : slc (roff t + r) = t := by
  unfold slc
  match t with
  | 0 => have : r < 176 := h; rw [if_pos (by show 0 + r < 176; omega)]
  | 1 => have : r < 168 := h; rw [if_neg (by show ¬ 176 + r < 176; omega), if_pos (by show 176 + r < 344; omega)]
  | 2 => have : r < 168 := h; rw [if_neg (by show ¬ 344 + r < 176; omega), if_neg (by show ¬ 344 + r < 344; omega)]

/-- The device, slice and place within it of an index of the result. -/
def odev (i : S4096x1024.Idx) : Dev nD := ⟨(i 0).val / 512, by
  have h : (i 0).val < 4096 := (i 0).isLt
  show _ < 8; omega⟩
def oslc (i : S4096x1024.Idx) : Fin 3 := slc ((i 0).val % 512)
def oloc (i : S4096x1024.Idx) : (⟨2, ![sz (oslc i), 1024]⟩ : Shape).Idx := fun a =>
  match a with
  | 0 => ⟨(i 0).val % 512 - roff (oslc i), slc_lt (Nat.mod_lt _ (by decide))⟩
  | 1 => ⟨(i 1).val, (i 1).isLt⟩

theorem place_oloc (i : S4096x1024.Idx) : place (odev i) (oslc i) (oloc i) = i := by
  funext a
  match a with
  | 0 =>
    refine Fin.ext ?_
    show 512 * ((i 0).val / 512) + roff (oslc i) + ((i 0).val % 512 - roff (oslc i)) = (i 0).val
    have := slc_le ((i 0).val % 512)
    unfold oslc; omega
  | 1 => rfl

theorem place_ne {o o' : Dev nD} {t t' : Fin 3} {i : (⟨2, ![sz t, 1024]⟩ : Shape).Idx} {i' : (⟨2, ![sz t', 1024]⟩ : Shape).Idx}
    (h : place o t i = place o' t' i') : (o, t) = (o', t') := by
  have h0 : 512 * o.val + roff t + (i 0).val = 512 * o'.val + roff t' + (i' 0).val := congrArg (fun x : S4096x1024.Idx => (x 0).val) h
  have hi : (i 0).val < sz t := (i 0).isLt
  have hi' : (i' 0).val < sz t' := (i' 0).isLt
  have h3 := roff_le t; have h3' := roff_le t'
  have ho : o = o' := Fin.ext (by omega)
  subst ho
  have h1 : roff t + (i 0).val = roff t' + (i' 0).val := by omega
  have h2 : t = t' := by rw [← slc_eq t hi, h1, slc_eq t' hi']
  rw [h2]

/-- The result of device `c`. -/
def Out : Buf (Elt F) ((c : Thread nD τ).loc cc0_stg2_0) :=
  fun i => val X W c (odev i) (oslc i) (oloc i)

/-- The result buffer, with the rows of the listed slices in place. -/
def OutSt (l : List (Dev nD × Fin 3)) : sProp 𝕄 :=
  iprop(∃ f : Buf (Elt F) ((c : Thread nD τ).loc cc0_stg2_0),
    ⌜∀ p ∈ l, ∀ i, f (place p.1 p.2 i) = val X W c p.1 p.2 i⌝ ∗ ((c : Thread nD τ).loc cc0_stg2_0 ↦{fullShare} f))

theorem OutSt_done {l : List (Dev nD × Fin 3)} (hl : ∀ o t, (o, t) ∈ l) :
    OutSt X W c l ⊢ ((c : Thread nD τ).loc cc0_stg2_0 ↦{fullShare} Out X W c : sProp 𝕄) := by
  unfold OutSt
  iintro ⟨%f, %hf, H⟩
  have e : f = Out X W c := by
    funext i
    have := hf (odev i, oslc i) (hl _ _) (oloc i)
    rw [place_oloc] at this
    exact this
  subst e
  iexact H

/-! ## Loads -/

/-- A load of everything a rank-two memref shows. -/
theorem load_step (n m : ℕ) (M : Memref sig .tc .vmem ⟨2, ![n, m]⟩ .bf16) {q : PosShare TreeShare} {x : (⟨2, ![n, m]⟩ : Shape).Idx → Elt F .bf16}
    (inb : ∀ a, (![0, 0] : Fin 2 → ℕ) a + (⟨2, ![n, m]⟩ : Shape).size a ≤ (⟨2, ![n, m]⟩ : Shape).size a)
    {hl : M.view.LoadsAt (Rect.unit (s := ⟨2, ![n, m]⟩) ![0, 0] (⟨2, ![n, m]⟩ : Shape).size inb).toLoadRect}
    {α : Type} {Kt : α → sProp 𝕄} {kk : ((⟨2, ![n, m]⟩ : Shape).Idx → Elt F .bf16) → Prog (TpuEff nD τ sig (Elt F) Λ₀ .tc) α} :
    holds c M q x
      ⊢ iprop((holds c M q x -∗ wp frame (wpE (defs₀ (F := F)) 𝒱₀ (c : Thread nD τ) none) Set.univ (kk x) Kt)
        -∗ wp frame (wpE (defs₀ (F := F)) 𝒱₀ (c : Thread nD τ) none) Set.univ
          (.op (.load M (Rect.unit (s := ⟨2, ![n, m]⟩) ![0, 0] (⟨2, ![n, m]⟩ : Shape).size inb).toLoadRect hl) kk) Kt) := by
  unfold holds
  iintro ⟨%f, %hf, H⟩ Hk
  iapply (wp_load 𝒱₀ (c : Thread nD τ) none Set.univ (S := M.view.set) (f := f) (q := q) (View.setOn_subset_set _ _)) $$ [H]
  · iexact H
  have e : M.view.readAt (Elt F) (Rect.unit (s := ⟨2, ![n, m]⟩) ![0, 0] (⟨2, ![n, m]⟩ : Shape).size inb).toLoadRect f = x := by
    rw [← hf]
    funext i
    show M.view.read (Elt F) f ((Rect.unit (s := ⟨2, ![n, m]⟩) ![0, 0] (⟨2, ![n, m]⟩ : Shape).size inb).emb i) = _
    congr 1
    funext a
    refine Fin.ext ?_
    rw [Rect.emb_apply]
    show (![0, 0] : Fin 2 → ℕ) a + 1 * (i a).val = (i a).val
    match a with
    | 0 => show 0 + 1 * (i 0).val = _; omega
    | 1 => show 0 + 1 * (i 1).val = _; omega
  rw [e]
  iintro H
  iapply Hk
  iexists f
  isplitr; · ipureintro; exact hf
  iexact H

/-- A load of the rectangle of a buffer that a slice with one axis dropped shows: the same values, with the axis. -/
theorem slot_step {s s' : Shape} (m : Memref sig .tc .vmem s .bf16) (r : Rect s) (hr : ∀ a, r.stride a = 1) (hsq : r.shape.Squeezes s')
    {q : PosShare TreeShare} {x : s'.Idx → Elt F .bf16} {hl : m.view.LoadsAt r.toLoadRect}
    {α : Type} {Kt : α → sProp 𝕄} {kk : (r.shape.Idx → Elt F .bf16) → Prog (TpuEff nD τ sig (Elt F) Λ₀ .tc) α} :
    holds c ((m.slice r hr).squeeze s' hsq) q x
      ⊢ iprop((∀ v, ⌜(fun j => v (Shape.reshapeEquiv hsq.numel_eq j)) = x⌝ -∗ holds c ((m.slice r hr).squeeze s' hsq) q x
          -∗ wp frame (wpE (defs₀ (F := F)) 𝒱₀ (c : Thread nD τ) none) Set.univ (kk v) Kt)
        -∗ wp frame (wpE (defs₀ (F := F)) 𝒱₀ (c : Thread nD τ) none) Set.univ (.op (.load m r.toLoadRect hl) kk) Kt) := by
  unfold holds
  iintro ⟨%f, %hf, H⟩ Hk
  iapply (wp_load 𝒱₀ (c : Thread nD τ) none Set.univ (m := m) (r := r.toLoadRect) (S := ((m.slice r hr).squeeze s' hsq).view.set) (f := f) (q := q)
    (by
      have e : ((m.slice r hr).squeeze s' hsq).view.set = (m.view.slice r).set := View.set_reshape ..
      rw [e, View.set_slice]; exact Finset.Subset.refl _)) $$ [H]
  · iexact H
  iintro H
  iapply Hk
  · ipureintro; exact hf
  iexists f
  isplitr; · ipureintro; exact hf
  iexact H

/-- A load from the result buffer, whose values are not used. -/
theorem out_load_step {l : List (Dev nD × Fin 3)} {r : LoadRect S4096x1024} {hl : (Memref.whole cc0_stg2_0 : Memref sig .tc .vmem S4096x1024 .f32).view.LoadsAt r}
    {α : Type} {Kt : α → sProp 𝕄} {kk : (r.shape.Idx → Elt F .f32) → Prog (TpuEff nD τ sig (Elt F) Λ₀ .tc) α} :
    OutSt X W c l
      ⊢ iprop((∀ v, OutSt X W c l -∗ wp frame (wpE (defs₀ (F := F)) 𝒱₀ (c : Thread nD τ) none) Set.univ (kk v) Kt)
        -∗ wp frame (wpE (defs₀ (F := F)) 𝒱₀ (c : Thread nD τ) none) Set.univ
          (.op (.load (Memref.whole cc0_stg2_0 : Memref sig .tc .vmem S4096x1024 .f32) r hl) kk) Kt) := by
  unfold OutSt
  iintro ⟨%f, %hf, H⟩ Hk
  iapply (wp_load 𝒱₀ (c : Thread nD τ) none Set.univ (m := (Memref.whole cc0_stg2_0 : Memref sig .tc .vmem S4096x1024 .f32)) (r := r)
    (S := Finset.univ) (f := f) (q := fullShare) (Finset.subset_univ _)) $$ [H]
  · iexact H
  iintro H
  iapply Hk
  iexists f
  isplitr; · ipureintro; exact hf
  iexact H

/-! ## Stores -/

/-- A store into the result buffer at the rows of slice `t` of another device's block. -/
theorem store_step {l : List (Dev nD × Fin 3)} (o : Dev nD) (t : Fin 3) {off : Fin 2 → ℕ} (ho : off = ![512 * o.val + roff t, 0]) (hne : o ≠ c)
    (inb : ∀ a, off a + (⟨2, ![sz t, 1024]⟩ : Shape).size a ≤ S4096x1024.size a)
    {w : (⟨2, ![sz t, 1024]⟩ : Shape).Idx → Elt F .f32} (hw : w = osm t (xt X t o) (W c))
    {hx : ((Memref.whole cc0_stg2_0 : Memref sig .tc .vmem S4096x1024 .f32).access (Rect.unit (s := S4096x1024) off (⟨2, ![sz t, 1024]⟩ : Shape).size inb)).Stores Finset.univ}
    {hm : Finset.univ = Finset.univ ∨ ∀ a, (Rect.unit (s := S4096x1024) off (⟨2, ![sz t, 1024]⟩ : Shape).size inb).stride a = 1}
    {α : Type} {Kt : α → sProp 𝕄} {kk : PUnit → Prog (TpuEff nD τ sig (Elt F) Λ₀ .tc) α} :
    OutSt X W c l
      ⊢ iprop((OutSt X W c ((o, t) :: l) -∗ wp frame (wpE (defs₀ (F := F)) 𝒱₀ (c : Thread nD τ) none) Set.univ (kk ⟨⟩) Kt)
        -∗ wp frame (wpE (defs₀ (F := F)) 𝒱₀ (c : Thread nD τ) none) Set.univ
          (.op (.store (Memref.whole cc0_stg2_0 : Memref sig .tc .vmem S4096x1024 .f32)
            (Rect.unit (s := S4096x1024) off (⟨2, ![sz t, 1024]⟩ : Shape).size inb) w Finset.univ hx hm) kk) Kt) := by
  subst hw ho
  unfold OutSt
  iintro ⟨%f, %hf, H⟩ Hk
  iapply (wp_store 𝒱₀ (c : Thread nD τ) none Set.univ (m := (Memref.whole cc0_stg2_0 : Memref sig .tc .vmem S4096x1024 .f32))
    (r := Rect.unit (s := S4096x1024) ![512 * o.val + roff t, 0] (⟨2, ![sz t, 1024]⟩ : Shape).size inb) (S := Finset.univ) (f := f) (Finset.subset_univ _)) $$ [H]
  · iexact H
  iintro H
  iapply Hk
  iexists _
  isplitr
  rotate_left
  · iexact H
  ipureintro
  have he : ∀ i : (⟨2, ![sz t, 1024]⟩ : Shape).Idx,
      ((Memref.whole cc0_stg2_0 : Memref sig .tc .vmem S4096x1024 .f32).access (Rect.unit (s := S4096x1024) ![512 * o.val + roff t, 0] (⟨2, ![sz t, 1024]⟩ : Shape).size inb)).emb i
        = place o t i := by
    intro i
    funext a
    refine Fin.ext ?_
    match a with
    | 0 => show (512 * o.val + roff t) + 1 * (i 0).val = 512 * o.val + roff t + (i 0).val; omega
    | 1 => show 0 + 1 * (i 1).val = (i 1).val; omega
  intro p hp i
  by_cases hpo : p = (o, t)
  · subst hpo
    rw [← he i, View.write_emb_of_mem _ _ (Finset.mem_univ _)]
    show osm t (xt X t o) (W c) i = val X W c o t i
    unfold val; rw [if_neg hne]
  · rw [View.write_of_not_mem]
    · exact hf p ((List.mem_cons.mp hp).resolve_left hpo) i
    · intro hmem
      obtain ⟨j, -, hj⟩ := Finset.mem_map.mp hmem
      rw [he j] at hj
      exact hpo (place_ne hj).symm

/-- The store at the rows of the device's own block. -/
theorem own_step {off : Fin 2 → ℕ} (ho : off = ![512 * c.val, 0])
    (inb : ∀ a, off a + S512x1024.size a ≤ S4096x1024.size a)
    {w : S512x1024.Idx → Elt F .f32} (hw : w = Gen.k0_pay1 (X c) (W c))
    {hx : ((Memref.whole cc0_stg2_0 : Memref sig .tc .vmem S4096x1024 .f32).access (Rect.unit (s := S4096x1024) off S512x1024.size inb)).Stores Finset.univ}
    {hm : Finset.univ = Finset.univ ∨ ∀ a, (Rect.unit (s := S4096x1024) off S512x1024.size inb).stride a = 1}
    {α : Type} {Kt : α → sProp 𝕄} {kk : PUnit → Prog (TpuEff nD τ sig (Elt F) Λ₀ .tc) α} :
    OutSt X W c []
      ⊢ iprop((OutSt X W c [(c, 0), (c, 1), (c, 2)] -∗ wp frame (wpE (defs₀ (F := F)) 𝒱₀ (c : Thread nD τ) none) Set.univ (kk ⟨⟩) Kt)
        -∗ wp frame (wpE (defs₀ (F := F)) 𝒱₀ (c : Thread nD τ) none) Set.univ
          (.op (.store (Memref.whole cc0_stg2_0 : Memref sig .tc .vmem S4096x1024 .f32)
            (Rect.unit (s := S4096x1024) off S512x1024.size inb) w Finset.univ hx hm) kk) Kt) := by
  subst hw ho
  unfold OutSt
  iintro ⟨%f, -, H⟩ Hk
  iapply (wp_store 𝒱₀ (c : Thread nD τ) none Set.univ (m := (Memref.whole cc0_stg2_0 : Memref sig .tc .vmem S4096x1024 .f32))
    (r := Rect.unit (s := S4096x1024) ![512 * c.val, 0] S512x1024.size inb) (S := Finset.univ) (f := f) (Finset.subset_univ _)) $$ [H]
  · iexact H
  iintro H
  iapply Hk
  iexists _
  isplitr
  rotate_left
  · iexact H
  ipureintro
  intro p hp i
  have hc : p.1 = c := by
    simp only [List.mem_cons, List.not_mem_nil, _root_.or_false] at hp
    rcases hp with rfl | rfl | rfl <;> rfl
  obtain ⟨o, t⟩ := p
  dsimp only at hc i ⊢
  subst hc
  have he : ((Memref.whole cc0_stg2_0 : Memref sig .tc .vmem S4096x1024 .f32).access (Rect.unit (s := S4096x1024) ![512 * o.val, 0] S512x1024.size inb)).emb (own t i)
        = place o t i := by
    funext a
    refine Fin.ext ?_
    match a with
    | 0 => show (512 * o.val) + 1 * (roff t + (i 0).val) = 512 * o.val + roff t + (i 0).val; omega
    | 1 => show 0 + 1 * (i 1).val = (i 1).val; omega
  rw [← he, View.write_emb_of_mem _ _ (Finset.mem_univ _)]
  show Gen.k0_pay1 (X o) (W o) (own t i) = val X W o o t i
  unfold val; rw [if_pos rfl]

/-! ## The two-slot buffer -/

/-- Slot `k`, at anything. -/
def gAny (k : Fin 2) : sProp 𝕄 := hAny c (gM 0 k)

/-- What is left of slot `k` beside the rows of slice `t`. -/
def gRest : (t : Fin 3) → (k : Fin 2) → sProp 𝕄
  | 0, _ => iprop(emp)
  | 1, 0 | 2, 0 => iprop(∃ f : Buf (Elt F) ((c : Thread nD τ).loc cc0_scratch6), ((c : Thread nD τ).loc cc0_scratch6 ↦[(gM 0 0).view.set \ (gM 1 0).view.set]{fullShare} f))
  | 1, 1 | 2, 1 => iprop(∃ f : Buf (Elt F) ((c : Thread nD τ).loc cc0_scratch6), ((c : Thread nD τ).loc cc0_scratch6 ↦[(gM 0 1).view.set \ (gM 1 1).view.set]{fullShare} f))

theorem holds_any {sp : Space} {s : Shape} (M : Memref sig .tc sp s .bf16) (x : s.Idx → Elt F .bf16) :
    holds c M fullShare x ⊢ (hAny c M : sProp 𝕄) := by
  unfold holds hAny
  iintro ⟨%f, -, H⟩
  iexists f; iexact H

theorem set_squeeze {s s' : Shape} (b : Ref sig .tc) (hb : b.ty.shape = s) (r : Rect b.ty.shape) (hr : ∀ a, r.stride a = 1) (hsq : r.shape.Squeezes s') :
    (((Memref.whole b).slice r hr).squeeze s' hsq).view.set = r.set :=
  (View.set_reshape ..).trans (View.set_slice_whole b r)

theorem g_sub0 : (gM 1 0).view.set ⊆ (gM 0 0).view.set := by
  show (((Memref.whole cc0_scratch6).slice (Rect.unit (s := S2x176x4096) ![0, 0, 0] S1x168x4096.size inb_S2x176x4096_S1x168x4096_0_0_0) (fun _ => rfl)).squeeze S168x4096 squeezes_S1x168x4096_S168x4096).view.set
    ⊆ (((Memref.whole cc0_scratch6).slice (Rect.unit (s := S2x176x4096) ![0, 0, 0] S1x176x4096.size inb_S2x176x4096_S1x176x4096_0_0_0) (fun _ => rfl)).squeeze S176x4096 squeezes_S1x176x4096_S176x4096).view.set
  rw [set_squeeze cc0_scratch6 rfl, set_squeeze cc0_scratch6 rfl]
  intro i hi
  rw [Rect.mem_set_unit] at hi ⊢
  intro a
  have h := hi a
  match a with
  | 0 => exact h
  | 1 => exact ⟨h.1, lt_of_lt_of_le h.2 (by decide)⟩
  | 2 => exact h

theorem g_sub1 : (gM 1 1).view.set ⊆ (gM 0 1).view.set := by
  show (((Memref.whole cc0_scratch6).slice (Rect.unit (s := S2x176x4096) ![1, 0, 0] S1x168x4096.size inb_S2x176x4096_S1x168x4096_1_0_0) (fun _ => rfl)).squeeze S168x4096 squeezes_S1x168x4096_S168x4096).view.set
    ⊆ (((Memref.whole cc0_scratch6).slice (Rect.unit (s := S2x176x4096) ![1, 0, 0] S1x176x4096.size inb_S2x176x4096_S1x176x4096_1_0_0) (fun _ => rfl)).squeeze S176x4096 squeezes_S1x176x4096_S176x4096).view.set
  rw [set_squeeze cc0_scratch6 rfl, set_squeeze cc0_scratch6 rfl]
  intro i hi
  rw [Rect.mem_set_unit] at hi ⊢
  intro a
  have h := hi a
  match a with
  | 0 => exact h
  | 1 => exact ⟨h.1, lt_of_lt_of_le h.2 (by decide)⟩
  | 2 => exact h

theorem g_split (ℓ : Loc nD τ sig) {I S : Finset (Idx ℓ)} (h : I ⊆ S) :
    iprop(∃ f : Buf (Elt F) ℓ, (ℓ ↦[S]{fullShare} f)) ⊢ (iprop((∃ f : Buf (Elt F) ℓ, (ℓ ↦[I]{fullShare} f)) ∗ ∃ f : Buf (Elt F) ℓ, (ℓ ↦[S \ I]{fullShare} f)) : sProp 𝕄) := by
  iintro ⟨%f, H⟩
  ihave H := (pointsTo_split_subset h).1 $$ H
  icases H with ⟨H1, H2⟩
  isplitl [H1]
  · iexists f; iexact H1
  iexists f; iexact H2

theorem g_join (ℓ : Loc nD τ sig) {I S : Finset (Idx ℓ)} (h : I ⊆ S) :
    iprop((∃ f : Buf (Elt F) ℓ, (ℓ ↦[I]{fullShare} f)) ∗ ∃ f : Buf (Elt F) ℓ, (ℓ ↦[S \ I]{fullShare} f)) ⊢ (iprop(∃ f : Buf (Elt F) ℓ, (ℓ ↦[S]{fullShare} f)) : sProp 𝕄) := by
  iintro ⟨⟨%f, H1⟩, ⟨%g, H2⟩⟩
  iexists _
  iapply (pointsTo_join_subset h)
  isplitl [H1]
  · iexact H1
  iexact H2

/-- The rows of slice `t` out of slot `k`. -/
theorem gAny_take (t : Fin 3) (k : Fin 2) : gAny c k ⊢ (iprop(hAny c (gM t k) ∗ gRest c t k) : sProp 𝕄) := by
  match t, k with
  | 0, k => exact Laws.sep_emp.2
  | 1, 0 => exact g_split ((c : Thread nD τ).loc cc0_scratch6) g_sub0
  | 2, 0 => exact g_split ((c : Thread nD τ).loc cc0_scratch6) g_sub0
  | 1, 1 => exact g_split ((c : Thread nD τ).loc cc0_scratch6) g_sub1
  | 2, 1 => exact g_split ((c : Thread nD τ).loc cc0_scratch6) g_sub1

/-- And back. -/
theorem gAny_put (t : Fin 3) (k : Fin 2) : (iprop(hAny c (gM t k) ∗ gRest c t k) : sProp 𝕄) ⊢ gAny c k := by
  match t, k with
  | 0, k =>
    unfold gAny
    iintro ⟨H, -⟩
    iexact H
  | 1, 0 => exact g_join ((c : Thread nD τ).loc cc0_scratch6) g_sub0
  | 2, 0 => exact g_join ((c : Thread nD τ).loc cc0_scratch6) g_sub0
  | 1, 1 => exact g_join ((c : Thread nD τ).loc cc0_scratch6) g_sub1
  | 2, 1 => exact g_join ((c : Thread nD τ).loc cc0_scratch6) g_sub1

/-! ## Landed buffers, split among their readers -/

theorem holds_split {sp : Space} {s : Shape} (M : Memref sig .tc sp s .bf16) (q : PosShare TreeShare) (x : s.Idx → Elt F .bf16) :
    holds c M q x ⊢ (iprop(holds c M q.left x ∗ holds c M q.right x) : sProp 𝕄) := by
  unfold holds
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

theorem holds_merge {sp : Space} {s : Shape} (M : Memref sig .tc sp s .bf16) (q : PosShare TreeShare) (x : s.Idx → Elt F .bf16) :
    (iprop(holds c M q.left x ∗ holds c M q.right x) : sProp 𝕄) ⊢ holds c M q x := by
  unfold holds
  iintro ⟨⟨%f, %hf, H1⟩, ⟨%g, %hg, H2⟩⟩
  have e : ∀ i ∈ M.view.set, g i = f i := by
    intro i hi
    obtain ⟨j, -, rfl⟩ := Finset.mem_map.mp hi
    have h := congrFun (hg.trans hf.symm) j
    rw [View.read_apply, View.read_apply] at h
    exact (cast_bijective _).1 h
  ihave H2 := (Entails.of_eq (pointsTo_congr e)) $$ H2
  iexists f
  isplitr; · ipureintro; exact hf
  iapply (pointsTo_share (PosShare.mem_left_op_right q)).2
  isplitl [H1]
  · iexact H1
  iexact H2

/-- What stays with `c` of a landed first buffer, and of a landed slot of the second. -/
abbrev R0 (t : Fin 3) : sProp 𝕄 := holds c (r0M t) q3 (xt X t (org t c 0))
abbrev R1 (t : Fin 3) (k : Fin 2) (s : Fin 7) : sProp 𝕄 := holds c (r1M t k) (fullShare : PosShare TreeShare).right (xt X t (org t c s))

theorem got0 (t : Fin 3) : recvPay X t c 0 ⊢ iprop(sendPay X t c 2 ∗ sendPay X t c 4 ∗ R0 X c t) := by
  show holds c (r0M t) fullShare (xt X t (org t c 0)) ⊢ iprop(holds c (r0M t) q1 (xt X t (org t c 0)) ∗ holds c (r0M t) q2 (xt X t (org t c 0)) ∗ holds c (r0M t) q3 (xt X t (org t c 0)))
  exact (holds_split c _ _ _).trans (BIClass.sep_mono .rfl (holds_split c _ _ _))
theorem got1 (t : Fin 3) : recvPay X t c 1 ⊢ iprop(sendPay X t c 5 ∗ R1 X c t 0 1) := holds_split c _ _ _
theorem got2 (t : Fin 3) : recvPay X t c 2 ⊢ iprop(sendPay X t c 6 ∗ R1 X c t 1 2) := holds_split c _ _ _

theorem ungot0 (t : Fin 3) : iprop(sendPay X t c 2 ∗ sendPay X t c 4 ∗ R0 X c t) ⊢ recvPay X t c 0 := by
  show iprop(holds c (r0M t) q1 (xt X t (org t c 0)) ∗ holds c (r0M t) q2 (xt X t (org t c 0)) ∗ holds c (r0M t) q3 (xt X t (org t c 0))) ⊢ holds c (r0M t) fullShare (xt X t (org t c 0))
  exact (BIClass.sep_mono .rfl (holds_merge c _ _ _)).trans (holds_merge c _ _ _)
theorem ungot1 (t : Fin 3) : iprop(sendPay X t c 5 ∗ R1 X c t 0 1) ⊢ recvPay X t c 1 := holds_merge c _ _ _
theorem ungot2 (t : Fin 3) : iprop(sendPay X t c 6 ∗ R1 X c t 1 2) ⊢ recvPay X t c 2 := holds_merge c _ _ _

end Cert.KernelIdeal.Ring

end
-- ==== Proof.Ring.PartsBase.lean ====
/-
  Names for what a device holds in the course of its run, and the steps between the parts of the body.
-/
module

public import proofs.«01_k».proof.Proof.Ring.Compute
public import Idealize.ShloMosaic.Lib.Pipeline.TalkSched

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- The weakest precondition of a program of device `c`'s core. -/
abbrev wpc {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-- What device `c` needs to signal its neighbour in direction `k`. -/
def Sig (k : Fin 3) : sProp 𝕄 :=
  iprop(dutyTok ER (barCell (px k c)) 0 k ∗ bigSepL (trs k) (Land c) ∗ reached ER (barCell (px k c)) 0)

/-- What it needs to wait for its neighbours. -/
def Bar : sProp 𝕄 := iprop(cred (tallyAt (barCell c) () 3) ∗ atPos ER (barCell c) 0 (∅ : Finset (Fin 3)) 0)

/-- The half of the staged block of `x` that is not lent to transfers; the staged block of `w_mat`. -/
abbrev Xl : sProp 𝕄 := holds c (Memref.whole cc0_stg0_0 : Memref sig .tc .vmem S512x4096 .bf16) (fullShare : PosShare TreeShare).left (X c)
abbrev Wt : sProp 𝕄 := holds c (Memref.whole cc0_stg1_0 : Memref sig .tc .vmem S4096x1024 .bf16) fullShare (W c)

/-- A landed slot of the third buffer. -/
abbrev R2 (t : Fin 3) (j : Fin 4) : sProp 𝕄 := holds c (r2M t j) fullShare (xt X t (org t c (cs j)))

theorem got3 (t : Fin 3) (j : Fin 4) {s : Fin 7} (hs : s = cs j) : recvPay X t c s ⊢ R2 X c t j := by
  subst hs
  match j with
  | 0 => exact .rfl
  | 1 => exact .rfl
  | 2 => exact .rfl
  | 3 => exact .rfl

/-- A statement about all devices, at one. -/
theorem at_dev {P : Dev nD → Prop} (h : ∀ c, P c) (c : Dev nD) : P c := h c

theorem dev_step {α : Type} {Kt : α → sProp 𝕄} {kk : Dev nD → Prog (TpuEff nD τ sig (Elt F) Λ₀ .tc) α} :
    wpc c (kk c) Kt ⊢ wpc c (.op .deviceId kk) Kt := by
  unfold wpc
  rw [wp_deviceId]

theorem ret_step {α : Type} {Kt : α → sProp 𝕄} {a : α} : Kt a ⊢ wpc c (.ret a) Kt := by
  unfold wpc
  rw [wp_ret]
  iintro H
  imodintro
  iexact H

theorem bind_step {α β : Type} (p : Prog (TpuEff nD τ sig (Elt F) Λ₀ .tc) α) (kk : α → Prog (TpuEff nD τ sig (Elt F) Λ₀ .tc) β) {Kt : β → sProp 𝕄} :
    wpc c p (fun x => wpc c (kk x) Kt) ⊢ wpc c (p >>= kk) Kt := by
  unfold wpc
  rw [wp_bind]

theorem sig_pre (k : Fin 3) (n : ℕ) : iprop(Ctx X K ∗ Owe c n ∗ Sig c k)
    ⊢ iprop(Ctx X K ∗ Owe c n ∗ dutyTok ER (barCell (px k c)) 0 k ∗ bigSepL (trs k) (Land c) ∗ reached ER (barCell (px k c)) 0) := .rfl

theorem bigSepL_same {I : Type} {l : List I} {Φ Ψ : I → sProp 𝕄} (h : ∀ i ∈ l, Φ i = Ψ i) : bigSepL l Φ = bigSepL l Ψ := by
  induction l with
  | nil => rfl
  | cons x l ih =>
    rw [bigSepL_cons', bigSepL_cons', h x (List.mem_cons_self ..), ih fun i hi => h i (List.mem_cons_of_mem _ hi)]

theorem trs_dir : ∀ k, ∀ p ∈ trs k, dir p.1 p.2 = k := by decide

theorem barPay_eq (k : Fin 3) : (barPay c k : sProp 𝕄) = bigSepL (trs k) (fun p => Land (px (dir p.1 p.2) c) p) :=
  bigSepL_same fun p hp => by rw [trs_dir k p hp]

theorem bigSepL_zip {I : Type} (l : List I) (Φ Ψ : I → sProp 𝕄) : iprop(bigSepL l Φ ∗ bigSepL l Ψ) ⊢ bigSepL l (fun i => iprop(Φ i ∗ Ψ i)) := by
  induction l with
  | nil => exact Laws.sep_emp.1
  | cons x l ih =>
    rw [bigSepL_cons', bigSepL_cons', bigSepL_cons']
    iintro ⟨⟨H1, H2⟩, ⟨H3, H4⟩⟩
    isplitl [H1 H3]
    · isplitl [H1]; · iexact H1
      iexact H3
    iapply ih
    isplitl [H2]; · iexact H2
    iexact H4

/-- After the barrier everything is ready to send. -/
theorem ready : iprop(Owe c 3 ∗ bigSepL starts (Tok c) ∗ (barPay c 0 ∗ barPay c 1 ∗ barPay c 2)) ⊢ (Snd c 0 : sProp 𝕄) := by
  rw [barPay_eq, barPay_eq, barPay_eq]
  unfold Snd
  iintro ⟨HO, Ht, H0, H1, H2⟩
  isplitl [HO]; · iexact HO
  isplitl
  rotate_left
  · rw [List.take_zero, bigSepL_nil]; iempintro
  rw [List.drop_zero]
  unfold Ready
  iapply (bigSepL_zip (F := F) starts)
  isplitl [Ht]; · iexact Ht
  have e : (bigSepL starts (fun p => Land (px (dir p.1 p.2) c) p) : sProp 𝕄) = bigSepL (trs 0 ++ (trs 1 ++ trs 2)) (fun p => Land (px (dir p.1 p.2) c) p) :=
    TalkSites.bigSepL_perm (by decide) (by decide) _
  rw [e, bigSepL_append, bigSepL_append]
  isplitl [H0]; · iexact H0
  isplitl [H1]; · iexact H1
  iexact H2

/-- Once all transfers are started, the sources are waited for. -/
theorem sent_all : Snd c 21 ⊢ Drn X c 0 := by
  unfold Snd Drn
  have e1 : starts.drop 21 = [] := rfl
  have e2 : starts.take 21 = starts := rfl
  rw [e1, e2, List.drop_zero, List.take_zero, bigSepL_nil, bigSepL_nil]
  iintro ⟨HO, -, H⟩
  isplitl [HO]; · iexact HO
  isplitl [H]; · iexact H
  iempintro

theorem gAny_back (t : Fin 3) (k : Fin 2) (x : (shp t).Idx → Elt F .bf16) : iprop(holds c (gM t k) fullShare x ∗ gRest c t k) ⊢ (gAny c k : sProp 𝕄) :=
  (BIClass.sep_mono (holds_any c _ _) .rfl).trans (gAny_put c t k)

end Cert.KernelIdeal.Ring

end
-- ==== Proof.Ring.Parts1.lean ====
/-
  The parts of the kernel's body, in order: what a device holds before and after each.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- Part 1. -/
theorem part1  {Kt : (Σ' (d0 : Dev nD) (v2 : BitVec 32) (v13 : BitVec 32), BitVec 32) → sProp 𝕄} :
    iprop(Ctx X K
        ∗ Owe c 0
        ∗ Sig c 0
        ∗ Sig c 1
        ∗ Sig c 2
        ∗ Bar c
        ∗ bigSepL starts (Tok c)
        ∗ sendPay X 0 c 0
        ∗ ((atPos ER (barCell c) 1 (∅ : Finset (Fin 3)) 0
          ∗ Snd c 1)
          -∗ ∀ a1 a2 a3, Kt ⟨c, a1, a2, a3⟩))
      ⊢ wpc c (k0_part1 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Kt := by
  rw [Gen.k0_part1_eq_skeleton]
  unfold Gen.k0_part1_skel
  iintro ⟨#HC, HO, Hg0, Hg1, Hg2, Hbar, Htok, Hp00, Hk⟩
  iapply (dev_step c)
  iapply (signal_step X K c (k := 0) (d := (⟨k0_dev1 c, k0_dev1_lt c⟩ : Dev nD)) ((by decide +kernel : ∀ c : Dev nD, (⟨k0_dev1 c, k0_dev1_lt c⟩ : Dev nD) = px 0 c) c) rfl (n := 0) rfl) $$ [HO Hg0]
  · iapply (sig_pre X K c 0 0); isplitr; · iexact HC
    isplitl [HO]; · iexact HO
    iexact Hg0
  iintro HO
  iapply (signal_step X K c (k := 1) (d := (⟨k0_dev2 c, k0_dev2_lt c⟩ : Dev nD)) ((by decide +kernel : ∀ c : Dev nD, (⟨k0_dev2 c, k0_dev2_lt c⟩ : Dev nD) = px 1 c) c) rfl (n := 1) rfl) $$ [HO Hg1]
  · iapply (sig_pre X K c 1 1); isplitr; · iexact HC
    isplitl [HO]; · iexact HO
    iexact Hg1
  iintro HO
  iapply (signal_step X K c (k := 2) (d := (⟨k0_dev3 c, k0_dev3_lt c⟩ : Dev nD)) ((by decide +kernel : ∀ c : Dev nD, (⟨k0_dev3 c, k0_dev3_lt c⟩ : Dev nD) = px 2 c) c) rfl (n := 2) rfl) $$ [HO Hg2]
  · iapply (sig_pre X K c 2 2); isplitr; · iexact HC
    isplitl [HO]; · iexact HO
    iexact Hg2
  iintro HO
  unfold Bar
  icases Hbar with ⟨Hbc, Hba⟩
  iapply (barrier_step X K c rfl) $$ [HO Hbc Hba]
  · isplitr; · iexact HC
    isplitl [HO]; · iexact HO
    isplitl [Hbc]; · iexact Hbc
    iexact Hba
  iintro ⟨HO, Hbd, Hl⟩
  ihave HS := (ready c) $$ [HO Htok Hl]
  · isplitl [HO]; · iexact HO
    isplitl [Htok]; · iexact Htok
    iexact Hl
  iapply (start_step X K c (n := 0) (t := 0) (s := 0) (by decide) rfl (xM 0) (r0M 0) rfl rfl rfl (d := (⟨k0_dev4 c, k0_dev4_lt c⟩ : Dev nD)) ((by decide +kernel : ∀ c : Dev nD, (⟨k0_dev4 c, k0_dev4_lt c⟩ : Dev nD) = px (dir 0 0) c) c) rfl rfl rfl) $$ [HS Hp00]
  · isplitr; · iexact HC
    isplitl [HS]; · iexact HS
    iexact Hp00
  iintro HS
  iapply (ret_step c)
  ihave Hk := Hk $$ [Hbd HS]
  · isplitl [Hbd]; · iexact Hbd
    iexact HS
  iapply Hk

/-- Part 2. -/
theorem part2 (v2 : BitVec 32) {Kt : (Σ' (v29 : BitVec 32) (v37 : BitVec 32), BitVec 32) → sProp 𝕄} :
    iprop(Ctx X K
        ∗ Snd c 1
        ∗ sendPay X 1 c 0
        ∗ sendPay X 2 c 0
        ∗ sendPay X 0 c 1
        ∗ ((Snd c 4)
          -∗ ∀ a0 a1 a2, Kt ⟨a0, a1, a2⟩))
      ⊢ wpc c (k0_part2 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2) Kt := by
  rw [Gen.k0_part2_eq_skeleton]
  unfold Gen.k0_part2_skel
  iintro ⟨#HC, HS, Hp10, Hp20, Hp01, Hk⟩
  iapply (start_step X K c (n := 1) (t := 1) (s := 0) (by decide) rfl (xM 1) (r0M 1) rfl rfl rfl (d := (⟨k0_dev5 c, k0_dev5_lt c⟩ : Dev nD)) ((by decide +kernel : ∀ c : Dev nD, (⟨k0_dev5 c, k0_dev5_lt c⟩ : Dev nD) = px (dir 1 0) c) c) rfl rfl rfl) $$ [HS Hp10]
  · isplitr; · iexact HC
    isplitl [HS]; · iexact HS
    iexact Hp10
  iintro HS
  iapply (start_step X K c (n := 2) (t := 2) (s := 0) (by decide) rfl (xM 2) (r0M 2) rfl rfl rfl (d := (⟨k0_dev6 c, k0_dev6_lt c⟩ : Dev nD)) ((by decide +kernel : ∀ c : Dev nD, (⟨k0_dev6 c, k0_dev6_lt c⟩ : Dev nD) = px (dir 2 0) c) c) rfl rfl rfl) $$ [HS Hp20]
  · isplitr; · iexact HC
    isplitl [HS]; · iexact HS
    iexact Hp20
  iintro HS
  iapply (start_step X K c (n := 3) (t := 0) (s := 1) (by decide) rfl (xM 0) (r1M 0 0) rfl rfl rfl (d := (⟨k0_dev7 c, k0_dev7_lt c⟩ : Dev nD)) ((by decide +kernel : ∀ c : Dev nD, (⟨k0_dev7 c, k0_dev7_lt c⟩ : Dev nD) = px (dir 0 1) c) c) rfl rfl rfl) $$ [HS Hp01]
  · isplitr; · iexact HC
    isplitl [HS]; · iexact HS
    iexact Hp01
  iintro HS
  iapply (ret_step c)
  ihave Hk := Hk $$ [HS]
  · iexact HS
  iapply Hk

/-- Part 3. -/
theorem part3 (v2 : BitVec 32) {Kt : (Σ' (v57 : BitVec 32) (v67 : BitVec 32), BitVec 32) → sProp 𝕄} :
    iprop(Ctx X K
        ∗ Snd c 4
        ∗ sendPay X 1 c 1
        ∗ sendPay X 2 c 1
        ∗ sendPay X 0 c 3
        ∗ ((Snd c 7)
          -∗ ∀ a0 a1 a2, Kt ⟨a0, a1, a2⟩))
      ⊢ wpc c (k0_part3 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2) Kt := by
  rw [Gen.k0_part3_eq_skeleton]
  unfold Gen.k0_part3_skel
  iintro ⟨#HC, HS, Hp11, Hp21, Hp03, Hk⟩
  iapply (start_step X K c (n := 4) (t := 1) (s := 1) (by decide) rfl (xM 1) (r1M 1 0) rfl rfl rfl (d := (⟨k0_dev8 c, k0_dev8_lt c⟩ : Dev nD)) ((by decide +kernel : ∀ c : Dev nD, (⟨k0_dev8 c, k0_dev8_lt c⟩ : Dev nD) = px (dir 1 1) c) c) rfl rfl rfl) $$ [HS Hp11]
  · isplitr; · iexact HC
    isplitl [HS]; · iexact HS
    iexact Hp11
  iintro HS
  iapply (start_step X K c (n := 5) (t := 2) (s := 1) (by decide) rfl (xM 2) (r1M 2 0) rfl rfl rfl (d := (⟨k0_dev9 c, k0_dev9_lt c⟩ : Dev nD)) ((by decide +kernel : ∀ c : Dev nD, (⟨k0_dev9 c, k0_dev9_lt c⟩ : Dev nD) = px (dir 2 1) c) c) rfl rfl rfl) $$ [HS Hp21]
  · isplitr; · iexact HC
    isplitl [HS]; · iexact HS
    iexact Hp21
  iintro HS
  iapply (start_step X K c (n := 6) (t := 0) (s := 3) (by decide) rfl (xM 0) (r2M 0 0) rfl rfl rfl (d := (⟨k0_dev10 c, k0_dev10_lt c⟩ : Dev nD)) ((by decide +kernel : ∀ c : Dev nD, (⟨k0_dev10 c, k0_dev10_lt c⟩ : Dev nD) = px (dir 0 3) c) c) rfl rfl rfl) $$ [HS Hp03]
  · isplitr; · iexact HC
    isplitl [HS]; · iexact HS
    iexact Hp03
  iintro HS
  iapply (ret_step c)
  ihave Hk := Hk $$ [HS]
  · iexact HS
  iapply Hk

/-- Part 4. -/
theorem part4 (v2 : BitVec 32) (v13 : BitVec 32) {Kt : (BitVec 32) → sProp 𝕄} :
    iprop(Ctx X K
        ∗ Snd c 7
        ∗ sendPay X 1 c 3
        ∗ sendPay X 2 c 3
        ∗ Xl X c
        ∗ Wt W c
        ∗ OutSt X W c []
        ∗ ((Snd c 9
          ∗ Xl X c
          ∗ Wt W c
          ∗ OutSt X W c [(c, 0), (c, 1), (c, 2)])
          -∗ ∀ a0, Kt a0))
      ⊢ wpc c (k0_part4 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v13) Kt := by
  rw [Gen.k0_part4_eq_skeleton]
  unfold Gen.k0_part4_skel
  iintro ⟨#HC, HS, Hp13, Hp23, Hx, Hw, Hout, Hk⟩
  iapply (start_step X K c (n := 7) (t := 1) (s := 3) (by decide) rfl (xM 1) (r2M 1 0) rfl rfl rfl (d := (⟨k0_dev11 c, k0_dev11_lt c⟩ : Dev nD)) ((by decide +kernel : ∀ c : Dev nD, (⟨k0_dev11 c, k0_dev11_lt c⟩ : Dev nD) = px (dir 1 3) c) c) rfl rfl rfl) $$ [HS Hp13]
  · isplitr; · iexact HC
    isplitl [HS]; · iexact HS
    iexact Hp13
  iintro HS
  iapply (start_step X K c (n := 8) (t := 2) (s := 3) (by decide) rfl (xM 2) (r2M 2 0) rfl rfl rfl (d := (⟨k0_dev12 c, k0_dev12_lt c⟩ : Dev nD)) ((by decide +kernel : ∀ c : Dev nD, (⟨k0_dev12 c, k0_dev12_lt c⟩ : Dev nD) = px (dir 2 3) c) c) rfl rfl rfl) $$ [HS Hp23]
  · isplitr; · iexact HC
    isplitl [HS]; · iexact HS
    iexact Hp23
  iintro HS
  iapply (load_step c 512 4096 (Memref.whole cc0_stg0_0)) $$ [Hx]
  · iexact Hx
  iintro Hx
  iapply (load_step c 4096 1024 (Memref.whole cc0_stg1_0)) $$ [Hw]
  · iexact Hw
  iintro Hw
  iapply (out_load_step X W c) $$ [Hout]
  · iexact Hout
  iintro %vo0 Hout
  iapply (own_step X W c (off := (k0_off1 c)) ((by decide +kernel : ∀ c : Dev nD, (k0_off1 c) = ![512 * c.val, 0]) c) _ (w := (Gen.k0_pay1 (X c) (W c))) rfl) $$ [Hout]
  · iexact Hout
  iintro Hout
  iapply (ret_step c)
  ihave Hk := Hk $$ [HS Hx Hw Hout]
  · isplitl [HS]; · iexact HS
    isplitl [Hx]; · iexact Hx
    isplitl [Hw]; · iexact Hw
    iexact Hout
  iapply Hk

/-- Part 5. -/
theorem part5 (v2 : BitVec 32) (v21 : BitVec 32) {Kt : (Σ' (v117 : BitVec 32) (v126 : BitVec 32) (v140 : BitVec 32), BitVec 32) → sProp 𝕄} :
    iprop(Ctx X K
        ∗ Rcv c 0
        ∗ Snd c 9
        ∗ ((R0 X c 0
          ∗ Rcv c 2
          ∗ Snd c 11
          ∗ sendPay X 1 c 2
          ∗ sendPay X 1 c 4
          ∗ R0 X c 1)
          -∗ ∀ a0 a1 a2 a3, Kt ⟨a0, a1, a2, a3⟩))
      ⊢ wpc c (k0_part5 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v21) Kt := by
  rw [Gen.k0_part5_eq_skeleton]
  unfold Gen.k0_part5_skel
  iintro ⟨#HC, HR, HS, Hk⟩
  iapply (recv_step X K c (m := 0) (n := 9) (t := 0) (s := 0) (by decide) rfl (by decide) (xM 0) (r0M 0) rfl) $$ [HR HS]
  · isplitr; · iexact HC
    isplitl [HR]; · iexact HR
    iexact HS
  iintro ⟨HR, HS, Hq⟩
  ihave Hq := (got0 X c 0) $$ Hq
  icases Hq with ⟨Hp02, Hp04, Ha0⟩
  iapply (start_step X K c (n := 9) (t := 0) (s := 2) (by decide) rfl (r0M 0) (r1M 0 1) rfl rfl rfl (d := (⟨k0_dev13 c, k0_dev13_lt c⟩ : Dev nD)) ((by decide +kernel : ∀ c : Dev nD, (⟨k0_dev13 c, k0_dev13_lt c⟩ : Dev nD) = px (dir 0 2) c) c) rfl rfl rfl) $$ [HS Hp02]
  · isplitr; · iexact HC
    isplitl [HS]; · iexact HS
    iexact Hp02
  iintro HS
  iapply (start_step X K c (n := 10) (t := 0) (s := 4) (by decide) rfl (r0M 0) (r2M 0 1) rfl rfl rfl (d := (⟨k0_dev14 c, k0_dev14_lt c⟩ : Dev nD)) ((by decide +kernel : ∀ c : Dev nD, (⟨k0_dev14 c, k0_dev14_lt c⟩ : Dev nD) = px (dir 0 4) c) c) rfl rfl rfl) $$ [HS Hp04]
  · isplitr; · iexact HC
    isplitl [HS]; · iexact HS
    iexact Hp04
  iintro HS
  iapply (recv_step X K c (m := 1) (n := 11) (t := 1) (s := 0) (by decide) rfl (by decide) (xM 1) (r0M 1) rfl) $$ [HR HS]
  · isplitr; · iexact HC
    isplitl [HR]; · iexact HR
    iexact HS
  iintro ⟨HR, HS, Hq⟩
  ihave Hq := (got0 X c 1) $$ Hq
  icases Hq with ⟨Hp12, Hp14, Ha1⟩
  iapply (ret_step c)
  ihave Hk := Hk $$ [Ha0 HR HS Hp12 Hp14 Ha1]
  · isplitl [Ha0]; · iexact Ha0
    isplitl [HR]; · iexact HR
    isplitl [HS]; · iexact HS
    isplitl [Hp12]; · iexact Hp12
    isplitl [Hp14]; · iexact Hp14
    iexact Ha1
  iapply Hk

/-- Part 6. -/
theorem part6 (v2 : BitVec 32) (v29 : BitVec 32) (v140 : BitVec 32) (c1_i32_127 : BitVec 32) {Kt : (Σ' (v149 : BitVec 32), BitVec 32) → sProp 𝕄} :
    iprop(Ctx X K
        ∗ Snd c 11
        ∗ sendPay X 1 c 2
        ∗ sendPay X 1 c 4
        ∗ Rcv c 2
        ∗ ((Rcv c 3
          ∗ sendPay X 2 c 4
          ∗ R0 X c 2
          ∗ Snd c 14)
          -∗ ∀ a0 a1, Kt ⟨a0, a1⟩))
      ⊢ wpc c (k0_part6 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v29 v140 c1_i32_127) Kt := by
  rw [Gen.k0_part6_eq_skeleton]
  unfold Gen.k0_part6_skel
  iintro ⟨#HC, HS, Hp12, Hp14, HR, Hk⟩
  iapply (start_step X K c (n := 11) (t := 1) (s := 2) (by decide) rfl (r0M 1) (r1M 1 1) rfl rfl rfl (d := (⟨k0_dev15 c, k0_dev15_lt c⟩ : Dev nD)) ((by decide +kernel : ∀ c : Dev nD, (⟨k0_dev15 c, k0_dev15_lt c⟩ : Dev nD) = px (dir 1 2) c) c) rfl rfl rfl) $$ [HS Hp12]
  · isplitr; · iexact HC
    isplitl [HS]; · iexact HS
    iexact Hp12
  iintro HS
  iapply (start_step X K c (n := 12) (t := 1) (s := 4) (by decide) rfl (r0M 1) (r2M 1 1) rfl rfl rfl (d := (⟨k0_dev16 c, k0_dev16_lt c⟩ : Dev nD)) ((by decide +kernel : ∀ c : Dev nD, (⟨k0_dev16 c, k0_dev16_lt c⟩ : Dev nD) = px (dir 1 4) c) c) rfl rfl rfl) $$ [HS Hp14]
  · isplitr; · iexact HC
    isplitl [HS]; · iexact HS
    iexact Hp14
  iintro HS
  iapply (recv_step X K c (m := 2) (n := 13) (t := 2) (s := 0) (by decide) rfl (by decide) (xM 2) (r0M 2) rfl) $$ [HR HS]
  · isplitr; · iexact HC
    isplitl [HR]; · iexact HR
    iexact HS
  iintro ⟨HR, HS, Hq⟩
  ihave Hq := (got0 X c 2) $$ Hq
  icases Hq with ⟨Hp22, Hp24, Ha2⟩
  iapply (start_step X K c (n := 13) (t := 2) (s := 2) (by decide) rfl (r0M 2) (r1M 2 1) rfl rfl rfl (d := (⟨k0_dev17 c, k0_dev17_lt c⟩ : Dev nD)) ((by decide +kernel : ∀ c : Dev nD, (⟨k0_dev17 c, k0_dev17_lt c⟩ : Dev nD) = px (dir 2 2) c) c) rfl rfl rfl) $$ [HS Hp22]
  · isplitr; · iexact HC
    isplitl [HS]; · iexact HS
    iexact Hp22
  iintro HS
  iapply (ret_step c)
  ihave Hk := Hk $$ [HR Hp24 Ha2 HS]
  · isplitl [HR]; · iexact HR
    isplitl [Hp24]; · iexact Hp24
    isplitl [Ha2]; · iexact Ha2
    iexact HS
  iapply Hk

/-- Part 7. -/
theorem part7 (v2 : BitVec 32) {Kt : (Σ' (v172 : BitVec 32) (v197 : BitVec 32) (v200 : FVec F S168x1024 .f32), FVec F S168x1024 .f32) → sProp 𝕄} :
    iprop(Ctx X K
        ∗ Snd c 14
        ∗ sendPay X 2 c 4
        ∗ R0 X c 0
        ∗ Wt W c
        ∗ OutSt X W c [(c, 0), (c, 1), (c, 2)]
        ∗ R0 X c 1
        ∗ ((Snd c 15
          ∗ R0 X c 0
          ∗ OutSt X W c ((org 0 c 0, 0) :: [(c, 0), (c, 1), (c, 2)])
          ∗ R0 X c 1
          ∗ Wt W c)
          -∗ ∀ a0 a1, Kt ⟨a0, a1, (Gen.k0_pay3 (xt X 1 (org 1 c 0)) (W c)), (Gen.k0_pay4 (xt X 1 (org 1 c 0)) (W c))⟩))
      ⊢ wpc c (k0_part7 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2) Kt := by
  rw [Gen.k0_part7_eq_skeleton]
  unfold Gen.k0_part7_skel
  iintro ⟨#HC, HS, Hp24, Ha0, Hw, Hout, Ha1, Hk⟩
  iapply (start_step X K c (n := 14) (t := 2) (s := 4) (by decide) rfl (r0M 2) (r2M 2 1) rfl rfl rfl (d := (⟨k0_dev18 c, k0_dev18_lt c⟩ : Dev nD)) ((by decide +kernel : ∀ c : Dev nD, (⟨k0_dev18 c, k0_dev18_lt c⟩ : Dev nD) = px (dir 2 4) c) c) rfl rfl rfl) $$ [HS Hp24]
  · isplitr; · iexact HC
    isplitl [HS]; · iexact HS
    iexact Hp24
  iintro HS
  iapply (load_step c 176 4096 (r0M 0)) $$ [Ha0]
  · iexact Ha0
  iintro Ha0
  iapply (load_step c 4096 1024 (Memref.whole cc0_stg1_0)) $$ [Hw]
  · iexact Hw
  iintro Hw
  iapply (out_load_step X W c) $$ [Hout]
  · iexact Hout
  iintro %vo0 Hout
  iapply (store_step X W c (org 0 c 0) 0 (off := (k0_off2 c 1#32)) ((by decide +kernel : ∀ c : Dev nD, (k0_off2 c 1#32) = ![512 * (org 0 c 0).val + roff 0, 0]) c) ((by decide +kernel : ∀ c : Dev nD, (org 0 c 0) ≠ c) c) _ (w := (Gen.k0_pay2 (xt X 0 (org 0 c 0)) (W c))) rfl) $$ [Hout]
  · iexact Hout
  iintro Hout
  iapply (load_step c 168 4096 (r0M 1)) $$ [Ha1]
  · iexact Ha1
  iintro Ha1
  iapply (load_step c 4096 1024 (Memref.whole cc0_stg1_0)) $$ [Hw]
  · iexact Hw
  iintro Hw
  iapply (ret_step c)
  ihave Hk := Hk $$ [HS Ha0 Hout Ha1 Hw]
  · isplitl [HS]; · iexact HS
    isplitl [Ha0]; · iexact Ha0
    isplitl [Hout]; · iexact Hout
    isplitl [Ha1]; · iexact Ha1
    iexact Hw
  iapply Hk

end Cert.KernelIdeal.Ring

end
-- ==== Proof.Ring.Parts2.lean ====
/-
  The parts of the kernel's body, in order: what a device holds before and after each.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- Part 8. -/
theorem part8 (v2 : BitVec 32) (v37 : BitVec 32) (v197 : BitVec 32) {Kt : (BitVec 32) → sProp 𝕄} :
    iprop(Ctx X K
        ∗ OutSt X W c ((org 0 c 0, 0) :: [(c, 0), (c, 1), (c, 2)])
        ∗ R0 X c 2
        ∗ Wt W c
        ∗ Rcv c 3
        ∗ Snd c 15
        ∗ ((R0 X c 2
          ∗ Wt W c
          ∗ OutSt X W c ((org 2 c 0, 2) :: ((org 1 c 0, 1) :: ((org 0 c 0, 0) :: [(c, 0), (c, 1), (c, 2)])))
          ∗ Rcv c 4
          ∗ Snd c 15
          ∗ sendPay X 0 c 5
          ∗ R1 X c 0 0 1)
          -∗ ∀ a0, Kt a0))
      ⊢ wpc c (k0_part8 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v37 v197 (Gen.k0_pay3 (xt X 1 (org 1 c 0)) (W c)) (Gen.k0_pay4 (xt X 1 (org 1 c 0)) (W c))) Kt := by
  rw [Gen.k0_part8_eq_skeleton]
  unfold Gen.k0_part8_skel
  iintro ⟨#HC, Hout, Ha2, Hw, HR, HS, Hk⟩
  iapply (out_load_step X W c) $$ [Hout]
  · iexact Hout
  iintro %vo0 Hout
  iapply (store_step X W c (org 1 c 0) 1 (off := (k0_off3 c 3#32 176#32)) ((by decide +kernel : ∀ c : Dev nD, (k0_off3 c 3#32 176#32) = ![512 * (org 1 c 0).val + roff 1, 0]) c) ((by decide +kernel : ∀ c : Dev nD, (org 1 c 0) ≠ c) c) _ (w := (Gen.k0_pay5 (Gen.k0_pay3 (xt X 1 (org 1 c 0)) (W c)) (Gen.k0_pay4 (xt X 1 (org 1 c 0)) (W c)))) rfl) $$ [Hout]
  · iexact Hout
  iintro Hout
  iapply (load_step c 168 4096 (r0M 2)) $$ [Ha2]
  · iexact Ha2
  iintro Ha2
  iapply (load_step c 4096 1024 (Memref.whole cc0_stg1_0)) $$ [Hw]
  · iexact Hw
  iintro Hw
  iapply (out_load_step X W c) $$ [Hout]
  · iexact Hout
  iintro %vo1 Hout
  iapply (store_step X W c (org 2 c 0) 2 (off := (k0_off3 c 4#32 344#32)) ((by decide +kernel : ∀ c : Dev nD, (k0_off3 c 4#32 344#32) = ![512 * (org 2 c 0).val + roff 2, 0]) c) ((by decide +kernel : ∀ c : Dev nD, (org 2 c 0) ≠ c) c) _ (w := (Gen.k0_pay6 (xt X 2 (org 2 c 0)) (W c))) rfl) $$ [Hout]
  · iexact Hout
  iintro Hout
  iapply (recv_step X K c (m := 3) (n := 15) (t := 0) (s := 1) (by decide) rfl (by decide) (xM 0) (r1M 0 0) rfl) $$ [HR HS]
  · isplitr; · iexact HC
    isplitl [HR]; · iexact HR
    iexact HS
  iintro ⟨HR, HS, Hq⟩
  ihave Hq := (got1 X c 0) $$ Hq
  icases Hq with ⟨Hp05, Hs00⟩
  iapply (ret_step c)
  ihave Hk := Hk $$ [Ha2 Hw Hout HR HS Hp05 Hs00]
  · isplitl [Ha2]; · iexact Ha2
    isplitl [Hw]; · iexact Hw
    isplitl [Hout]; · iexact Hout
    isplitl [HR]; · iexact HR
    isplitl [HS]; · iexact HS
    isplitl [Hp05]; · iexact Hp05
    iexact Hs00
  iapply Hk

/-- Part 9. -/
theorem part9 (v2 : BitVec 32) (v47 : BitVec 32) (v117 : BitVec 32) (c1_i32_206 : BitVec 32) {Kt : (Σ' (v239 : BitVec 32) (v260 : BitVec 32), BitVec 32) → sProp 𝕄} :
    iprop(Ctx X K
        ∗ Rcv c 4
        ∗ Snd c 15
        ∗ sendPay X 0 c 5
        ∗ ((Rcv c 5
          ∗ R1 X c 0 1 2
          ∗ Snd c 17)
          -∗ ∀ a0 a1 a2, Kt ⟨a0, a1, a2⟩))
      ⊢ wpc c (k0_part9 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v47 v117 c1_i32_206) Kt := by
  rw [Gen.k0_part9_eq_skeleton]
  unfold Gen.k0_part9_skel
  iintro ⟨#HC, HR, HS, Hp05, Hk⟩
  iapply (recv_step X K c (m := 4) (n := 15) (t := 0) (s := 2) (by decide) rfl (by decide) (r0M 0) (r1M 0 1) rfl) $$ [HR HS]
  · isplitr; · iexact HC
    isplitl [HR]; · iexact HR
    iexact HS
  iintro ⟨HR, HS, Hq⟩
  ihave Hq := (got2 X c 0) $$ Hq
  icases Hq with ⟨Hp06, Hs01⟩
  iapply (start_step X K c (n := 15) (t := 0) (s := 5) (by decide) rfl (r1M 0 0) (r2M 0 2) rfl rfl rfl (d := (⟨k0_dev19 c, k0_dev19_lt c⟩ : Dev nD)) ((by decide +kernel : ∀ c : Dev nD, (⟨k0_dev19 c, k0_dev19_lt c⟩ : Dev nD) = px (dir 0 5) c) c) rfl rfl rfl) $$ [HS Hp05]
  · isplitr; · iexact HC
    isplitl [HS]; · iexact HS
    iexact Hp05
  iintro HS
  iapply (start_step X K c (n := 16) (t := 0) (s := 6) (by decide) rfl (r1M 0 1) (r2M 0 3) rfl rfl rfl (d := (⟨k0_dev20 c, k0_dev20_lt c⟩ : Dev nD)) ((by decide +kernel : ∀ c : Dev nD, (⟨k0_dev20 c, k0_dev20_lt c⟩ : Dev nD) = px (dir 0 6) c) c) rfl rfl rfl) $$ [HS Hp06]
  · isplitr; · iexact HC
    isplitl [HS]; · iexact HS
    iexact Hp06
  iintro HS
  iapply (ret_step c)
  ihave Hk := Hk $$ [HR Hs01 HS]
  · isplitl [HR]; · iexact HR
    isplitl [Hs01]; · iexact Hs01
    iexact HS
  iapply Hk

/-- Part 10. -/
theorem part10 (v2 : BitVec 32) (v140 : BitVec 32) (v260 : BitVec 32) (c0_i32_233 : BitVec 32) {Kt : (BitVec 32) → sProp 𝕄} :
    iprop(Ctx X K
        ∗ Rcv c 5
        ∗ Snd c 17
        ∗ ((R1 X c 1 0 1
          ∗ Rcv c 7
          ∗ sendPay X 1 c 6
          ∗ R1 X c 1 1 2
          ∗ Snd c 18)
          -∗ ∀ a0, Kt a0))
      ⊢ wpc c (k0_part10 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v140 v260 c0_i32_233) Kt := by
  rw [Gen.k0_part10_eq_skeleton]
  unfold Gen.k0_part10_skel
  iintro ⟨#HC, HR, HS, Hk⟩
  iapply (recv_step X K c (m := 5) (n := 17) (t := 1) (s := 1) (by decide) rfl (by decide) (xM 1) (r1M 1 0) rfl) $$ [HR HS]
  · isplitr; · iexact HC
    isplitl [HR]; · iexact HR
    iexact HS
  iintro ⟨HR, HS, Hq⟩
  ihave Hq := (got1 X c 1) $$ Hq
  icases Hq with ⟨Hp15, Hs10⟩
  iapply (recv_step X K c (m := 6) (n := 17) (t := 1) (s := 2) (by decide) rfl (by decide) (r0M 1) (r1M 1 1) rfl) $$ [HR HS]
  · isplitr; · iexact HC
    isplitl [HR]; · iexact HR
    iexact HS
  iintro ⟨HR, HS, Hq⟩
  ihave Hq := (got2 X c 1) $$ Hq
  icases Hq with ⟨Hp16, Hs11⟩
  iapply (start_step X K c (n := 17) (t := 1) (s := 5) (by decide) rfl (r1M 1 0) (r2M 1 2) rfl rfl rfl (d := (⟨k0_dev21 c, k0_dev21_lt c⟩ : Dev nD)) ((by decide +kernel : ∀ c : Dev nD, (⟨k0_dev21 c, k0_dev21_lt c⟩ : Dev nD) = px (dir 1 5) c) c) rfl rfl rfl) $$ [HS Hp15]
  · isplitr; · iexact HC
    isplitl [HS]; · iexact HS
    iexact Hp15
  iintro HS
  iapply (ret_step c)
  ihave Hk := Hk $$ [Hs10 HR Hp16 Hs11 HS]
  · isplitl [Hs10]; · iexact Hs10
    isplitl [HR]; · iexact HR
    isplitl [Hp16]; · iexact Hp16
    isplitl [Hs11]; · iexact Hs11
    iexact HS
  iapply Hk

/-- Part 11. -/
theorem part11 (v2 : BitVec 32) (v57 : BitVec 32) (v163 : BitVec 32) {Kt : (BitVec 32) → sProp 𝕄} :
    iprop(Ctx X K
        ∗ Snd c 18
        ∗ sendPay X 1 c 6
        ∗ Rcv c 7
        ∗ ((sendPay X 2 c 5
          ∗ R1 X c 2 0 1
          ∗ Rcv c 9
          ∗ Snd c 19
          ∗ sendPay X 2 c 6
          ∗ R1 X c 2 1 2)
          -∗ ∀ a0, Kt a0))
      ⊢ wpc c (k0_part11 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v57 v163) Kt := by
  rw [Gen.k0_part11_eq_skeleton]
  unfold Gen.k0_part11_skel
  iintro ⟨#HC, HS, Hp16, HR, Hk⟩
  iapply (start_step X K c (n := 18) (t := 1) (s := 6) (by decide) rfl (r1M 1 1) (r2M 1 3) rfl rfl rfl (d := (⟨k0_dev22 c, k0_dev22_lt c⟩ : Dev nD)) ((by decide +kernel : ∀ c : Dev nD, (⟨k0_dev22 c, k0_dev22_lt c⟩ : Dev nD) = px (dir 1 6) c) c) rfl rfl rfl) $$ [HS Hp16]
  · isplitr; · iexact HC
    isplitl [HS]; · iexact HS
    iexact Hp16
  iintro HS
  iapply (recv_step X K c (m := 7) (n := 19) (t := 2) (s := 1) (by decide) rfl (by decide) (xM 2) (r1M 2 0) rfl) $$ [HR HS]
  · isplitr; · iexact HC
    isplitl [HR]; · iexact HR
    iexact HS
  iintro ⟨HR, HS, Hq⟩
  ihave Hq := (got1 X c 2) $$ Hq
  icases Hq with ⟨Hp25, Hs20⟩
  iapply (recv_step X K c (m := 8) (n := 19) (t := 2) (s := 2) (by decide) rfl (by decide) (r0M 2) (r1M 2 1) rfl) $$ [HR HS]
  · isplitr; · iexact HC
    isplitl [HR]; · iexact HR
    iexact HS
  iintro ⟨HR, HS, Hq⟩
  ihave Hq := (got2 X c 2) $$ Hq
  icases Hq with ⟨Hp26, Hs21⟩
  iapply (ret_step c)
  ihave Hk := Hk $$ [Hp25 Hs20 HR HS Hp26 Hs21]
  · isplitl [Hp25]; · iexact Hp25
    isplitl [Hs20]; · iexact Hs20
    isplitl [HR]; · iexact HR
    isplitl [HS]; · iexact HS
    isplitl [Hp26]; · iexact Hp26
    iexact Hs21
  iapply Hk

/-- Part 12. -/
theorem part12 (v2 : BitVec 32) (v307 : BitVec 32) {Kt : (Σ' (v345 : FVec F S176x4096 .bf16), BitVec 32) → sProp 𝕄} :
    iprop(Ctx X K
        ∗ Snd c 19
        ∗ sendPay X 2 c 5
        ∗ sendPay X 2 c 6
        ∗ R1 X c 0 0 1
        ∗ Wt W c
        ∗ OutSt X W c ((org 2 c 0, 2) :: ((org 1 c 0, 1) :: ((org 0 c 0, 0) :: [(c, 0), (c, 1), (c, 2)])))
        ∗ R1 X c 0 1 2
        ∗ ((Snd c 21
          ∗ R1 X c 0 0 1
          ∗ Wt W c
          ∗ OutSt X W c ((org 0 c 1, 0) :: ((org 2 c 0, 2) :: ((org 1 c 0, 1) :: ((org 0 c 0, 0) :: [(c, 0), (c, 1), (c, 2)]))))
          ∗ R1 X c 0 1 2)
          -∗ ∀ a1, Kt ⟨(xt X 0 (org 0 c 2)), a1⟩))
      ⊢ wpc c (k0_part12 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 v307) Kt := by
  rw [Gen.k0_part12_eq_skeleton]
  unfold Gen.k0_part12_skel
  iintro ⟨#HC, HS, Hp25, Hp26, Hs00, Hw, Hout, Hs01, Hk⟩
  iapply (start_step X K c (n := 19) (t := 2) (s := 5) (by decide) rfl (r1M 2 0) (r2M 2 2) rfl rfl rfl (d := (⟨k0_dev23 c, k0_dev23_lt c⟩ : Dev nD)) ((by decide +kernel : ∀ c : Dev nD, (⟨k0_dev23 c, k0_dev23_lt c⟩ : Dev nD) = px (dir 2 5) c) c) rfl rfl rfl) $$ [HS Hp25]
  · isplitr; · iexact HC
    isplitl [HS]; · iexact HS
    iexact Hp25
  iintro HS
  iapply (start_step X K c (n := 20) (t := 2) (s := 6) (by decide) rfl (r1M 2 1) (r2M 2 3) rfl rfl rfl (d := (⟨k0_dev24 c, k0_dev24_lt c⟩ : Dev nD)) ((by decide +kernel : ∀ c : Dev nD, (⟨k0_dev24 c, k0_dev24_lt c⟩ : Dev nD) = px (dir 2 6) c) c) rfl rfl rfl) $$ [HS Hp26]
  · isplitr; · iexact HC
    isplitl [HS]; · iexact HS
    iexact Hp26
  iintro HS
  iapply (slot_step c (m := Memref.whole cc0_scratch3) (Rect.unit (s := S2x176x4096) ![0, 0, 0] S1x176x4096.size inb_S2x176x4096_S1x176x4096_0_0_0) (fun _ => rfl) squeezes_S1x176x4096_S176x4096) $$ [Hs00]
  · iexact Hs00
  iintro %v328 %hv328 Hs00
  iapply (load_step c 4096 1024 (Memref.whole cc0_stg1_0)) $$ [Hw]
  · iexact Hw
  iintro Hw
  iapply (out_load_step X W c) $$ [Hout]
  · iexact Hout
  iintro %vo0 Hout
  iapply (store_step X W c (org 0 c 1) 0 (off := (k0_off2 c 3#32)) ((by decide +kernel : ∀ c : Dev nD, (k0_off2 c 3#32) = ![512 * (org 0 c 1).val + roff 0, 0]) c) ((by decide +kernel : ∀ c : Dev nD, (org 0 c 1) ≠ c) c) _ (w := (Gen.k0_pay7 v328 (W c))) (congrArg (fun x => osm 0 x (W c)) hv328)) $$ [Hout]
  · iexact Hout
  iintro Hout
  iapply (slot_step c (m := Memref.whole cc0_scratch3) (Rect.unit (s := S2x176x4096) ![1, 0, 0] S1x176x4096.size inb_S2x176x4096_S1x176x4096_1_0_0) (fun _ => rfl) squeezes_S1x176x4096_S176x4096) $$ [Hs01]
  · iexact Hs01
  iintro %v344 %hv344 Hs01
  iapply (ret_step c)
  ihave Hk := Hk $$ [HS Hs00 Hw Hout Hs01]
  · isplitl [HS]; · iexact HS
    isplitl [Hs00]; · iexact Hs00
    isplitl [Hw]; · iexact Hw
    isplitl [Hout]; · iexact Hout
    iexact Hs01
  have e : Gen.k0_pay8 v344 = (xt X 0 (org 0 c 2)) := hv344
  rw [e]
  iapply Hk

/-- Part 13. -/
theorem part13 (v2 : BitVec 32) (v346 : BitVec 32) {Kt : (Σ' (v378 : FVec F S168x4096 .bf16), BitVec 32) → sProp 𝕄} :
    iprop(Ctx X K
        ∗ Wt W c
        ∗ OutSt X W c ((org 0 c 1, 0) :: ((org 2 c 0, 2) :: ((org 1 c 0, 1) :: ((org 0 c 0, 0) :: [(c, 0), (c, 1), (c, 2)]))))
        ∗ R1 X c 1 0 1
        ∗ R1 X c 1 1 2
        ∗ ((R1 X c 1 0 1
          ∗ Wt W c
          ∗ OutSt X W c ((org 1 c 1, 1) :: ((org 0 c 2, 0) :: ((org 0 c 1, 0) :: ((org 2 c 0, 2) :: ((org 1 c 0, 1) :: ((org 0 c 0, 0) :: [(c, 0), (c, 1), (c, 2)]))))))
          ∗ R1 X c 1 1 2)
          -∗ ∀ a1, Kt ⟨(xt X 1 (org 1 c 2)), a1⟩))
      ⊢ wpc c (k0_part13 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 (xt X 0 (org 0 c 2)) v346) Kt := by
  rw [Gen.k0_part13_eq_skeleton]
  unfold Gen.k0_part13_skel
  iintro ⟨#HC, Hw, Hout, Hs10, Hs11, Hk⟩
  iapply (load_step c 4096 1024 (Memref.whole cc0_stg1_0)) $$ [Hw]
  · iexact Hw
  iintro Hw
  iapply (out_load_step X W c) $$ [Hout]
  · iexact Hout
  iintro %vo0 Hout
  iapply (store_step X W c (org 0 c 2) 0 (off := (k0_off4 c 3#32 1#32)) ((by decide +kernel : ∀ c : Dev nD, (k0_off4 c 3#32 1#32) = ![512 * (org 0 c 2).val + roff 0, 0]) c) ((by decide +kernel : ∀ c : Dev nD, (org 0 c 2) ≠ c) c) _ (w := (Gen.k0_pay9 (xt X 0 (org 0 c 2)) (W c))) rfl) $$ [Hout]
  · iexact Hout
  iintro Hout
  iapply (slot_step c (m := Memref.whole cc0_scratch4) (Rect.unit (s := S2x168x4096) ![0, 0, 0] S1x168x4096.size inb_S2x168x4096_S1x168x4096_0_0_0) (fun _ => rfl) squeezes_S1x168x4096_S168x4096) $$ [Hs10]
  · iexact Hs10
  iintro %v361 %hv361 Hs10
  iapply (load_step c 4096 1024 (Memref.whole cc0_stg1_0)) $$ [Hw]
  · iexact Hw
  iintro Hw
  iapply (out_load_step X W c) $$ [Hout]
  · iexact Hout
  iintro %vo1 Hout
  iapply (store_step X W c (org 1 c 1) 1 (off := (k0_off3 c 4#32 176#32)) ((by decide +kernel : ∀ c : Dev nD, (k0_off3 c 4#32 176#32) = ![512 * (org 1 c 1).val + roff 1, 0]) c) ((by decide +kernel : ∀ c : Dev nD, (org 1 c 1) ≠ c) c) _ (w := (Gen.k0_pay10 v361 (W c))) (congrArg (fun x => osm 1 x (W c)) hv361)) $$ [Hout]
  · iexact Hout
  iintro Hout
  iapply (slot_step c (m := Memref.whole cc0_scratch4) (Rect.unit (s := S2x168x4096) ![1, 0, 0] S1x168x4096.size inb_S2x168x4096_S1x168x4096_1_0_0) (fun _ => rfl) squeezes_S1x168x4096_S168x4096) $$ [Hs11]
  · iexact Hs11
  iintro %v377 %hv377 Hs11
  iapply (ret_step c)
  ihave Hk := Hk $$ [Hs10 Hw Hout Hs11]
  · isplitl [Hs10]; · iexact Hs10
    isplitl [Hw]; · iexact Hw
    isplitl [Hout]; · iexact Hout
    iexact Hs11
  have e : Gen.k0_pay11 v377 = (xt X 1 (org 1 c 2)) := hv377
  rw [e]
  iapply Hk

/-- Part 14. -/
theorem part14 (v2 : BitVec 32) (v379 : BitVec 32) {Kt : (Σ' (v411 : FVec F S168x4096 .bf16), BitVec 32) → sProp 𝕄} :
    iprop(Ctx X K
        ∗ Wt W c
        ∗ OutSt X W c ((org 1 c 1, 1) :: ((org 0 c 2, 0) :: ((org 0 c 1, 0) :: ((org 2 c 0, 2) :: ((org 1 c 0, 1) :: ((org 0 c 0, 0) :: [(c, 0), (c, 1), (c, 2)]))))))
        ∗ R1 X c 2 0 1
        ∗ R1 X c 2 1 2
        ∗ ((R1 X c 2 0 1
          ∗ Wt W c
          ∗ OutSt X W c ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))
          ∗ R1 X c 2 1 2)
          -∗ ∀ a1, Kt ⟨(xt X 2 (org 2 c 2)), a1⟩))
      ⊢ wpc c (k0_part14 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 (xt X 1 (org 1 c 2)) v379) Kt := by
  rw [Gen.k0_part14_eq_skeleton]
  unfold Gen.k0_part14_skel
  iintro ⟨#HC, Hw, Hout, Hs20, Hs21, Hk⟩
  iapply (load_step c 4096 1024 (Memref.whole cc0_stg1_0)) $$ [Hw]
  · iexact Hw
  iintro Hw
  iapply (out_load_step X W c) $$ [Hout]
  · iexact Hout
  iintro %vo0 Hout
  iapply (store_step X W c (org 1 c 2) 1 (off := (k0_off5 c 4#32 3#32 176#32)) ((by decide +kernel : ∀ c : Dev nD, (k0_off5 c 4#32 3#32 176#32) = ![512 * (org 1 c 2).val + roff 1, 0]) c) ((by decide +kernel : ∀ c : Dev nD, (org 1 c 2) ≠ c) c) _ (w := (Gen.k0_pay12 (xt X 1 (org 1 c 2)) (W c))) rfl) $$ [Hout]
  · iexact Hout
  iintro Hout
  iapply (slot_step c (m := Memref.whole cc0_scratch5) (Rect.unit (s := S2x168x4096) ![0, 0, 0] S1x168x4096.size inb_S2x168x4096_S1x168x4096_0_0_0) (fun _ => rfl) squeezes_S1x168x4096_S168x4096) $$ [Hs20]
  · iexact Hs20
  iintro %v394 %hv394 Hs20
  iapply (load_step c 4096 1024 (Memref.whole cc0_stg1_0)) $$ [Hw]
  · iexact Hw
  iintro Hw
  iapply (out_load_step X W c) $$ [Hout]
  · iexact Hout
  iintro %vo1 Hout
  iapply (store_step X W c (org 2 c 1) 2 (off := (k0_off3 c 1#32 344#32)) ((by decide +kernel : ∀ c : Dev nD, (k0_off3 c 1#32 344#32) = ![512 * (org 2 c 1).val + roff 2, 0]) c) ((by decide +kernel : ∀ c : Dev nD, (org 2 c 1) ≠ c) c) _ (w := (Gen.k0_pay13 v394 (W c))) (congrArg (fun x => osm 2 x (W c)) hv394)) $$ [Hout]
  · iexact Hout
  iintro Hout
  iapply (slot_step c (m := Memref.whole cc0_scratch5) (Rect.unit (s := S2x168x4096) ![1, 0, 0] S1x168x4096.size inb_S2x168x4096_S1x168x4096_1_0_0) (fun _ => rfl) squeezes_S1x168x4096_S168x4096) $$ [Hs21]
  · iexact Hs21
  iintro %v410 %hv410 Hs21
  iapply (ret_step c)
  ihave Hk := Hk $$ [Hs20 Hw Hout Hs21]
  · isplitl [Hs20]; · iexact Hs20
    isplitl [Hw]; · iexact Hw
    isplitl [Hout]; · iexact Hout
    iexact Hs21
  have e : Gen.k0_pay14 v410 = (xt X 2 (org 2 c 2)) := hv410
  rw [e]
  iapply Hk

/-- Part 15. -/
theorem part15 (v2 : BitVec 32) (v412 : BitVec 32) {Kt : (Σ' (v428 : BitVec 32) (v430 : BitVec 32) (v432 : BitVec 32) (v434 : BitVec 32) (v436 : BitVec 32) (v438 : BitVec 32) (v440 : BitVec 32) (v442 : BitVec 32), BitVec 32) → sProp 𝕄} :
    iprop(Ctx X K
        ∗ Wt W c
        ∗ OutSt X W c ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))
        ∗ ((Wt W c
          ∗ OutSt X W c ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))
          -∗ ∀ a0 a1 a2 a3 a4 a5 a6 a7 a8, Kt ⟨a0, a1, a2, a3, a4, a5, a6, a7, a8⟩))
      ⊢ wpc c (k0_part15 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v2 (xt X 2 (org 2 c 2)) v412) Kt := by
  rw [Gen.k0_part15_eq_skeleton]
  unfold Gen.k0_part15_skel
  iintro ⟨#HC, Hw, Hout, Hk⟩
  iapply (load_step c 4096 1024 (Memref.whole cc0_stg1_0)) $$ [Hw]
  · iexact Hw
  iintro Hw
  iapply (out_load_step X W c) $$ [Hout]
  · iexact Hout
  iintro %vo0 Hout
  iapply (store_step X W c (org 2 c 2) 2 (off := (k0_off5 c 1#32 4#32 344#32)) ((by decide +kernel : ∀ c : Dev nD, (k0_off5 c 1#32 4#32 344#32) = ![512 * (org 2 c 2).val + roff 2, 0]) c) ((by decide +kernel : ∀ c : Dev nD, (org 2 c 2) ≠ c) c) _ (w := (Gen.k0_pay15 (xt X 2 (org 2 c 2)) (W c))) rfl) $$ [Hout]
  · iexact Hout
  iintro Hout
  iapply (ret_step c)
  ihave Hk := Hk $$ [Hw Hout]
  · isplitl [Hw]; · iexact Hw
    iexact Hout
  iapply Hk

end Cert.KernelIdeal.Ring

end
-- ==== Proof.Ring.Parts3.lean ====
/-
  The parts of the kernel's body, in order: what a device holds before and after each.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- Part 16. -/
theorem part16 (v2 : BitVec 32) (v67 : BitVec 32) (v77 : BitVec 32) {Kt : (Σ' (v446 : BitVec 32) (v448 : BitVec 32), BitVec 32) → sProp 𝕄} :
    iprop(Ctx X K
        ∗ Rcv c 9
        ∗ Snd c 21
        ∗ CTok c 0
        ∗ CPos c 0 0
        ∗ gAny c 0
        ∗ ((CTok c 1
          ∗ CPos c 0 0
          ∗ CFly c 0 0
          ∗ gRest c 0 0
          ∗ Rcv c 11
          ∗ Snd c 21
          ∗ R2 X c 1 0)
          -∗ ∀ a0 a1 a2, Kt ⟨a0, a1, a2⟩))
      ⊢ wpc c (k0_part16 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v2 v67 v77) Kt := by
  rw [Gen.k0_part16_eq_skeleton]
  unfold Gen.k0_part16_skel
  iintro ⟨#HC, HR, HS, HT, HC0, Hb0, Hk⟩
  iapply (recv_step X K c (m := 9) (n := 21) (t := 0) (s := 3) (by decide) rfl (by decide) (xM 0) (r2M 0 0) rfl) $$ [HR HS]
  · isplitr; · iexact HC
    isplitl [HR]; · iexact HR
    iexact HS
  iintro ⟨HR, HS, Hq⟩
  ihave Hr00 := (got3 X c 0 0 (s := 3) rfl) $$ Hq
  ihave Hb := (gAny_take c 0 0) $$ [Hb0]
  · iexact Hb0
  icases Hb with ⟨Hb, He0⟩
  iapply (copy_step X K c (i := 0) (k := 0) (r := 0) (by decide) (by decide) (t := 0) (j := 0) rfl rfl rfl rfl) $$ [HT HC0 Hb Hr00]
  · isplitr; · iexact HC
    isplitl [HT]; · iexact HT
    isplitl [HC0]; · iexact HC0
    isplitl [Hb]; · iexact Hb
    iexact Hr00
  iintro ⟨HT, HC0, HF0⟩
  iapply (recv_step X K c (m := 10) (n := 21) (t := 1) (s := 3) (by decide) rfl (by decide) (xM 1) (r2M 1 0) rfl) $$ [HR HS]
  · isplitr; · iexact HC
    isplitl [HR]; · iexact HR
    iexact HS
  iintro ⟨HR, HS, Hq⟩
  ihave Hr10 := (got3 X c 1 0 (s := 3) rfl) $$ Hq
  iapply (ret_step c)
  ihave Hk := Hk $$ [HT HC0 HF0 He0 HR HS Hr10]
  · isplitl [HT]; · iexact HT
    isplitl [HC0]; · iexact HC0
    isplitl [HF0]; · iexact HF0
    isplitl [He0]; · iexact He0
    isplitl [HR]; · iexact HR
    isplitl [HS]; · iexact HS
    iexact Hr10
  iapply Hk

/-- Part 17. -/
theorem part17 (v87 : BitVec 32) (v428 : BitVec 32) {Kt : (BitVec 32) → sProp 𝕄} :
    iprop(Ctx X K
        ∗ CTok c 1
        ∗ CPos c 1 0
        ∗ gAny c 1
        ∗ R2 X c 1 0
        ∗ CPos c 0 0
        ∗ CFly c 0 0
        ∗ Snd c 21
        ∗ gRest c 0 0
        ∗ Wt W c
        ∗ OutSt X W c ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))
        ∗ ((CTok c 2
          ∗ CPos c 1 0
          ∗ CFly c 1 0
          ∗ gRest c 1 1
          ∗ CPos c 0 1
          ∗ Snd c 21
          ∗ R2 X c 0 0
          ∗ gAny c 0
          ∗ Wt W c
          ∗ OutSt X W c ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))
          -∗ ∀ a0, Kt a0))
      ⊢ wpc c (k0_part17 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v87 v428) Kt := by
  rw [Gen.k0_part17_eq_skeleton]
  unfold Gen.k0_part17_skel
  iintro ⟨#HC, HT, HC1, Hb1, Hr10, HC0, HF0, HS, He0, Hw, Hout, Hk⟩
  ihave Hb := (gAny_take c 1 1) $$ [Hb1]
  · iexact Hb1
  icases Hb with ⟨Hb, He1⟩
  iapply (copy_step X K c (i := 1) (k := 1) (r := 0) (by decide) (by decide) (t := 1) (j := 0) rfl rfl rfl rfl) $$ [HT HC1 Hb Hr10]
  · isplitr; · iexact HC
    isplitl [HT]; · iexact HT
    isplitl [HC1]; · iexact HC1
    isplitl [Hb]; · iexact Hb
    iexact Hr10
  iintro ⟨HT, HC1, HF1⟩
  iapply (copied_step X K c (k := 0) (r := 0) (by decide) (t := 0) (j := 0) rfl rfl rfl (r2M 0 0) (gM 0 0) rfl) $$ [HC0 HF0 HS]
  · isplitr; · iexact HC
    isplitl [HC0]; · iexact HC0
    isplitl [HF0]; · iexact HF0
    iexact HS
  iintro ⟨HC0, HS, Hc0, Hr00⟩
  iapply (slot_step c (m := Memref.whole cc0_scratch6) (Rect.unit (s := S2x176x4096) ![0, 0, 0] S1x176x4096.size inb_S2x176x4096_S1x176x4096_0_0_0) (fun _ => rfl) squeezes_S1x176x4096_S176x4096) $$ [Hc0]
  · iexact Hc0
  iintro %v483 %hv483 Hc0
  ihave Hb0 := (gAny_back c 0 0 _) $$ [Hc0 He0]
  · isplitl [Hc0]; · iexact Hc0
    iexact He0
  iapply (load_step c 4096 1024 (Memref.whole cc0_stg1_0)) $$ [Hw]
  · iexact Hw
  iintro Hw
  iapply (out_load_step X W c) $$ [Hout]
  · iexact Hout
  iintro %vo0 Hout
  iapply (store_step X W c (org 0 c 3) 0 (off := (k0_off4 c 4#32 0#32)) ((by decide +kernel : ∀ c : Dev nD, (k0_off4 c 4#32 0#32) = ![512 * (org 0 c 3).val + roff 0, 0]) c) ((by decide +kernel : ∀ c : Dev nD, (org 0 c 3) ≠ c) c) _ (w := (Gen.k0_pay16 v483 (W c))) (congrArg (fun x => osm 0 x (W c)) hv483)) $$ [Hout]
  · iexact Hout
  iintro Hout
  iapply (ret_step c)
  ihave Hk := Hk $$ [HT HC1 HF1 He1 HC0 HS Hr00 Hb0 Hw Hout]
  · isplitl [HT]; · iexact HT
    isplitl [HC1]; · iexact HC1
    isplitl [HF1]; · iexact HF1
    isplitl [He1]; · iexact He1
    isplitl [HC0]; · iexact HC0
    isplitl [HS]; · iexact HS
    isplitl [Hr00]; · iexact Hr00
    isplitl [Hb0]; · iexact Hb0
    isplitl [Hw]; · iexact Hw
    iexact Hout
  iapply Hk

/-- Part 18. -/
theorem part18 (v498 : BitVec 32) {Kt : (Σ' (v527 : FVec F S168x1024 .f32), BitVec 32) → sProp 𝕄} :
    iprop(Ctx X K
        ∗ Rcv c 11
        ∗ Snd c 21
        ∗ CTok c 2
        ∗ CPos c 0 1
        ∗ gAny c 0
        ∗ CPos c 1 0
        ∗ CFly c 1 0
        ∗ gRest c 1 1
        ∗ Wt W c
        ∗ ((Rcv c 12
          ∗ CTok c 3
          ∗ CPos c 0 1
          ∗ CFly c 0 1
          ∗ gRest c 2 0
          ∗ CPos c 1 1
          ∗ Snd c 21
          ∗ R2 X c 1 0
          ∗ gAny c 1
          ∗ Wt W c)
          -∗ ∀ a1, Kt ⟨(osm 1 (xt X 1 (org 1 c 3)) (W c)), a1⟩))
      ⊢ wpc c (k0_part18 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v498) Kt := by
  rw [Gen.k0_part18_eq_skeleton]
  unfold Gen.k0_part18_skel
  iintro ⟨#HC, HR, HS, HT, HC0, Hb0, HC1, HF1, He1, Hw, Hk⟩
  iapply (recv_step X K c (m := 11) (n := 21) (t := 2) (s := 3) (by decide) rfl (by decide) (xM 2) (r2M 2 0) rfl) $$ [HR HS]
  · isplitr; · iexact HC
    isplitl [HR]; · iexact HR
    iexact HS
  iintro ⟨HR, HS, Hq⟩
  ihave Hr20 := (got3 X c 2 0 (s := 3) rfl) $$ Hq
  ihave Hb := (gAny_take c 2 0) $$ [Hb0]
  · iexact Hb0
  icases Hb with ⟨Hb, He0⟩
  iapply (copy_step X K c (i := 2) (k := 0) (r := 1) (by decide) (by decide) (t := 2) (j := 0) rfl rfl rfl rfl) $$ [HT HC0 Hb Hr20]
  · isplitr; · iexact HC
    isplitl [HT]; · iexact HT
    isplitl [HC0]; · iexact HC0
    isplitl [Hb]; · iexact Hb
    iexact Hr20
  iintro ⟨HT, HC0, HF0⟩
  iapply (copied_step X K c (k := 1) (r := 0) (by decide) (t := 1) (j := 0) rfl rfl rfl (r2M 1 0) (gM 1 1) rfl) $$ [HC1 HF1 HS]
  · isplitr; · iexact HC
    isplitl [HC1]; · iexact HC1
    isplitl [HF1]; · iexact HF1
    iexact HS
  iintro ⟨HC1, HS, Hc1, Hr10⟩
  iapply (slot_step c (m := Memref.whole cc0_scratch6) (Rect.unit (s := S2x176x4096) ![1, 0, 0] S1x168x4096.size inb_S2x176x4096_S1x168x4096_1_0_0) (fun _ => rfl) squeezes_S1x168x4096_S168x4096) $$ [Hc1]
  · iexact Hc1
  iintro %v517 %hv517 Hc1
  ihave Hb1 := (gAny_back c 1 1 _) $$ [Hc1 He1]
  · isplitl [Hc1]; · iexact Hc1
    iexact He1
  iapply (load_step c 4096 1024 (Memref.whole cc0_stg1_0)) $$ [Hw]
  · iexact Hw
  iintro Hw
  iapply (ret_step c)
  ihave Hk := Hk $$ [HR HT HC0 HF0 He0 HC1 HS Hr10 Hb1 Hw]
  · isplitl [HR]; · iexact HR
    isplitl [HT]; · iexact HT
    isplitl [HC0]; · iexact HC0
    isplitl [HF0]; · iexact HF0
    isplitl [He0]; · iexact He0
    isplitl [HC1]; · iexact HC1
    isplitl [HS]; · iexact HS
    isplitl [Hr10]; · iexact Hr10
    isplitl [Hb1]; · iexact Hb1
    iexact Hw
  have e : Gen.k0_pay17 v517 (W c) = (osm 1 (xt X 1 (org 1 c 3)) (W c)) := congrArg (fun x => osm 1 x (W c)) hv517
  rw [e]
  iapply Hk

/-- Part 19. -/
theorem part19 (v126 : BitVec 32) (v430 : BitVec 32) (c512_i32_481 : BitVec 32) {Kt : (FVec F S168x1024 .f32) → sProp 𝕄} :
    iprop(Ctx X K
        ∗ OutSt X W c ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))
        ∗ Rcv c 12
        ∗ Snd c 21
        ∗ CTok c 3
        ∗ CPos c 1 1
        ∗ gAny c 1
        ∗ CPos c 0 1
        ∗ CFly c 0 1
        ∗ gRest c 2 0
        ∗ Wt W c
        ∗ ((OutSt X W c ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))
          ∗ Rcv c 13
          ∗ CTok c 4
          ∗ CPos c 1 1
          ∗ CFly c 1 1
          ∗ gRest c 0 1
          ∗ CPos c 0 2
          ∗ Snd c 21
          ∗ R2 X c 2 0
          ∗ gAny c 0
          ∗ Wt W c)
          -∗ Kt (Gen.k0_pay3 (xt X 2 (org 2 c 3)) (W c))))
      ⊢ wpc c (k0_part19 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v126 v430 (osm 1 (xt X 1 (org 1 c 3)) (W c)) c512_i32_481) Kt := by
  rw [Gen.k0_part19_eq_skeleton]
  unfold Gen.k0_part19_skel
  iintro ⟨#HC, Hout, HR, HS, HT, HC1, Hb1, HC0, HF0, He0, Hw, Hk⟩
  iapply (out_load_step X W c) $$ [Hout]
  · iexact Hout
  iintro %vo0 Hout
  iapply (store_step X W c (org 1 c 3) 1 (off := (k0_off5 c 1#32 0#32 176#32)) ((by decide +kernel : ∀ c : Dev nD, (k0_off5 c 1#32 0#32 176#32) = ![512 * (org 1 c 3).val + roff 1, 0]) c) ((by decide +kernel : ∀ c : Dev nD, (org 1 c 3) ≠ c) c) _ (w := (osm 1 (xt X 1 (org 1 c 3)) (W c))) rfl) $$ [Hout]
  · iexact Hout
  iintro Hout
  iapply (recv_step X K c (m := 12) (n := 21) (t := 0) (s := 4) (by decide) rfl (by decide) (r0M 0) (r2M 0 1) rfl) $$ [HR HS]
  · isplitr; · iexact HC
    isplitl [HR]; · iexact HR
    iexact HS
  iintro ⟨HR, HS, Hq⟩
  ihave Hr01 := (got3 X c 0 1 (s := 4) rfl) $$ Hq
  ihave Hb := (gAny_take c 0 1) $$ [Hb1]
  · iexact Hb1
  icases Hb with ⟨Hb, He1⟩
  iapply (copy_step X K c (i := 3) (k := 1) (r := 1) (by decide) (by decide) (t := 0) (j := 1) rfl rfl rfl rfl) $$ [HT HC1 Hb Hr01]
  · isplitr; · iexact HC
    isplitl [HT]; · iexact HT
    isplitl [HC1]; · iexact HC1
    isplitl [Hb]; · iexact Hb
    iexact Hr01
  iintro ⟨HT, HC1, HF1⟩
  iapply (copied_step X K c (k := 0) (r := 1) (by decide) (t := 2) (j := 0) rfl rfl rfl (r2M 2 0) (gM 2 0) rfl) $$ [HC0 HF0 HS]
  · isplitr; · iexact HC
    isplitl [HC0]; · iexact HC0
    isplitl [HF0]; · iexact HF0
    iexact HS
  iintro ⟨HC0, HS, Hc0, Hr20⟩
  iapply (slot_step c (m := Memref.whole cc0_scratch6) (Rect.unit (s := S2x176x4096) ![0, 0, 0] S1x168x4096.size inb_S2x176x4096_S1x168x4096_0_0_0) (fun _ => rfl) squeezes_S1x168x4096_S168x4096) $$ [Hc0]
  · iexact Hc0
  iintro %v550 %hv550 Hc0
  ihave Hb0 := (gAny_back c 2 0 _) $$ [Hc0 He0]
  · isplitl [Hc0]; · iexact Hc0
    iexact He0
  iapply (load_step c 4096 1024 (Memref.whole cc0_stg1_0)) $$ [Hw]
  · iexact Hw
  iintro Hw
  iapply (ret_step c)
  ihave Hk := Hk $$ [Hout HR HT HC1 HF1 He1 HC0 HS Hr20 Hb0 Hw]
  · isplitl [Hout]; · iexact Hout
    isplitl [HR]; · iexact HR
    isplitl [HT]; · iexact HT
    isplitl [HC1]; · iexact HC1
    isplitl [HF1]; · iexact HF1
    isplitl [He1]; · iexact He1
    isplitl [HC0]; · iexact HC0
    isplitl [HS]; · iexact HS
    isplitl [Hr20]; · iexact Hr20
    isplitl [Hb0]; · iexact Hb0
    iexact Hw
  have e : Gen.k0_pay18 v550 (W c) = (Gen.k0_pay3 (xt X 2 (org 2 c 3)) (W c)) := congrArg (fun x => Gen.k0_pay3 x (W c)) hv550
  rw [e]
  iapply Hk

/-- Part 20. -/
theorem part20 (v149 : BitVec 32) (v432 : BitVec 32) {Kt : (PUnit) → sProp 𝕄} :
    iprop(Ctx X K
        ∗ OutSt X W c ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))
        ∗ Rcv c 13
        ∗ Snd c 21
        ∗ CTok c 4
        ∗ CPos c 0 2
        ∗ gAny c 0
        ∗ CPos c 1 1
        ∗ CFly c 1 1
        ∗ ((OutSt X W c ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))
          ∗ Rcv c 14
          ∗ CTok c 5
          ∗ CPos c 0 2
          ∗ CFly c 0 2
          ∗ gRest c 1 0
          ∗ CPos c 1 2
          ∗ Snd c 21
          ∗ holds c (gM 0 1) fullShare (xt X 0 (org 0 c (cs 1)))
          ∗ R2 X c 0 1)
          -∗ Kt ⟨⟩))
      ⊢ wpc c (k0_part20 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v149 v432 (Gen.k0_pay3 (xt X 2 (org 2 c 3)) (W c))) Kt := by
  rw [Gen.k0_part20_eq_skeleton]
  unfold Gen.k0_part20_skel
  iintro ⟨#HC, Hout, HR, HS, HT, HC0, Hb0, HC1, HF1, Hk⟩
  iapply (out_load_step X W c) $$ [Hout]
  · iexact Hout
  iintro %vo0 Hout
  iapply (store_step X W c (org 2 c 3) 2 (off := (k0_off5 c 3#32 0#32 344#32)) ((by decide +kernel : ∀ c : Dev nD, (k0_off5 c 3#32 0#32 344#32) = ![512 * (org 2 c 3).val + roff 2, 0]) c) ((by decide +kernel : ∀ c : Dev nD, (org 2 c 3) ≠ c) c) _ (w := (Gen.k0_pay19 (Gen.k0_pay3 (xt X 2 (org 2 c 3)) (W c)))) rfl) $$ [Hout]
  · iexact Hout
  iintro Hout
  iapply (recv_step X K c (m := 13) (n := 21) (t := 1) (s := 4) (by decide) rfl (by decide) (r0M 1) (r2M 1 1) rfl) $$ [HR HS]
  · isplitr; · iexact HC
    isplitl [HR]; · iexact HR
    iexact HS
  iintro ⟨HR, HS, Hq⟩
  ihave Hr11 := (got3 X c 1 1 (s := 4) rfl) $$ Hq
  ihave Hb := (gAny_take c 1 0) $$ [Hb0]
  · iexact Hb0
  icases Hb with ⟨Hb, He0⟩
  iapply (copy_step X K c (i := 4) (k := 0) (r := 2) (by decide) (by decide) (t := 1) (j := 1) rfl rfl rfl rfl) $$ [HT HC0 Hb Hr11]
  · isplitr; · iexact HC
    isplitl [HT]; · iexact HT
    isplitl [HC0]; · iexact HC0
    isplitl [Hb]; · iexact Hb
    iexact Hr11
  iintro ⟨HT, HC0, HF0⟩
  iapply (copied_step X K c (k := 1) (r := 1) (by decide) (t := 0) (j := 1) rfl rfl rfl (r2M 0 1) (gM 0 1) rfl) $$ [HC1 HF1 HS]
  · isplitr; · iexact HC
    isplitl [HC1]; · iexact HC1
    isplitl [HF1]; · iexact HF1
    iexact HS
  iintro ⟨HC1, HS, Hc1, Hr01⟩
  iapply (ret_step c)
  ihave Hk := Hk $$ [Hout HR HT HC0 HF0 He0 HC1 HS Hc1 Hr01]
  · isplitl [Hout]; · iexact Hout
    isplitl [HR]; · iexact HR
    isplitl [HT]; · iexact HT
    isplitl [HC0]; · iexact HC0
    isplitl [HF0]; · iexact HF0
    isplitl [He0]; · iexact He0
    isplitl [HC1]; · iexact HC1
    isplitl [HS]; · iexact HS
    isplitl [Hc1]; · iexact Hc1
    iexact Hr01
  iapply Hk

/-- Part 21. -/
theorem part21 (v172 : BitVec 32) (v434 : BitVec 32) {Kt : (PUnit) → sProp 𝕄} :
    iprop(Ctx X K
        ∗ holds c (gM 0 1) fullShare (xt X 0 (org 0 c (cs 1)))
        ∗ gRest c 0 1
        ∗ Wt W c
        ∗ OutSt X W c ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))
        ∗ Rcv c 14
        ∗ Snd c 21
        ∗ CTok c 5
        ∗ CPos c 1 2
        ∗ ((Wt W c
          ∗ OutSt X W c ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))
          ∗ Rcv c 15
          ∗ Snd c 21
          ∗ CTok c 6
          ∗ CPos c 1 2
          ∗ CFly c 1 2
          ∗ gRest c 2 1)
          -∗ Kt ⟨⟩))
      ⊢ wpc c (k0_part21 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v172 v434) Kt := by
  rw [Gen.k0_part21_eq_skeleton]
  unfold Gen.k0_part21_skel
  iintro ⟨#HC, Hc1, He1, Hw, Hout, HR, HS, HT, HC1, Hk⟩
  iapply (slot_step c (m := Memref.whole cc0_scratch6) (Rect.unit (s := S2x176x4096) ![1, 0, 0] S1x176x4096.size inb_S2x176x4096_S1x176x4096_1_0_0) (fun _ => rfl) squeezes_S1x176x4096_S176x4096) $$ [Hc1]
  · iexact Hc1
  iintro %v583 %hv583 Hc1
  ihave Hb1 := (gAny_back c 0 1 _) $$ [Hc1 He1]
  · isplitl [Hc1]; · iexact Hc1
    iexact He1
  iapply (load_step c 4096 1024 (Memref.whole cc0_stg1_0)) $$ [Hw]
  · iexact Hw
  iintro Hw
  iapply (out_load_step X W c) $$ [Hout]
  · iexact Hout
  iintro %vo0 Hout
  iapply (store_step X W c (org 0 c 4) 0 (off := (k0_off4 c 4#32 1#32)) ((by decide +kernel : ∀ c : Dev nD, (k0_off4 c 4#32 1#32) = ![512 * (org 0 c 4).val + roff 0, 0]) c) ((by decide +kernel : ∀ c : Dev nD, (org 0 c 4) ≠ c) c) _ (w := (Gen.k0_pay20 v583 (W c))) (congrArg (fun x => osm 0 x (W c)) hv583)) $$ [Hout]
  · iexact Hout
  iintro Hout
  iapply (recv_step X K c (m := 14) (n := 21) (t := 2) (s := 4) (by decide) rfl (by decide) (r0M 2) (r2M 2 1) rfl) $$ [HR HS]
  · isplitr; · iexact HC
    isplitl [HR]; · iexact HR
    iexact HS
  iintro ⟨HR, HS, Hq⟩
  ihave Hr21 := (got3 X c 2 1 (s := 4) rfl) $$ Hq
  ihave Hb := (gAny_take c 2 1) $$ [Hb1]
  · iexact Hb1
  icases Hb with ⟨Hb, He1⟩
  iapply (copy_step X K c (i := 5) (k := 1) (r := 2) (by decide) (by decide) (t := 2) (j := 1) rfl rfl rfl rfl) $$ [HT HC1 Hb Hr21]
  · isplitr; · iexact HC
    isplitl [HT]; · iexact HT
    isplitl [HC1]; · iexact HC1
    isplitl [Hb]; · iexact Hb
    iexact Hr21
  iintro ⟨HT, HC1, HF1⟩
  iapply (ret_step c)
  ihave Hk := Hk $$ [Hw Hout HR HS HT HC1 HF1 He1]
  · isplitl [Hw]; · iexact Hw
    isplitl [Hout]; · iexact Hout
    isplitl [HR]; · iexact HR
    isplitl [HS]; · iexact HS
    isplitl [HT]; · iexact HT
    isplitl [HC1]; · iexact HC1
    isplitl [HF1]; · iexact HF1
    iexact He1
  iapply Hk

end Cert.KernelIdeal.Ring

end
-- ==== Proof.Ring.Parts4.lean ====
/-
  The parts of the kernel's body, in order: what a device holds before and after each.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- Part 22. -/
theorem part22 (v239 : BitVec 32) (v436 : BitVec 32) {Kt : (PUnit) → sProp 𝕄} :
    iprop(Ctx X K
        ∗ CPos c 0 2
        ∗ CFly c 0 2
        ∗ Snd c 21
        ∗ gRest c 1 0
        ∗ Wt W c
        ∗ OutSt X W c ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))
        ∗ Rcv c 15
        ∗ ((CPos c 0 3
          ∗ R2 X c 1 1
          ∗ gAny c 0
          ∗ Wt W c
          ∗ OutSt X W c ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))
          ∗ Rcv c 16
          ∗ Snd c 21
          ∗ R2 X c 0 2)
          -∗ Kt ⟨⟩))
      ⊢ wpc c (k0_part22 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v239 v436) Kt := by
  rw [Gen.k0_part22_eq_skeleton]
  unfold Gen.k0_part22_skel
  iintro ⟨#HC, HC0, HF0, HS, He0, Hw, Hout, HR, Hk⟩
  iapply (copied_step X K c (k := 0) (r := 2) (by decide) (t := 1) (j := 1) rfl rfl rfl (r2M 1 1) (gM 1 0) rfl) $$ [HC0 HF0 HS]
  · isplitr; · iexact HC
    isplitl [HC0]; · iexact HC0
    isplitl [HF0]; · iexact HF0
    iexact HS
  iintro ⟨HC0, HS, Hc0, Hr11⟩
  iapply (slot_step c (m := Memref.whole cc0_scratch6) (Rect.unit (s := S2x176x4096) ![0, 0, 0] S1x168x4096.size inb_S2x176x4096_S1x168x4096_0_0_0) (fun _ => rfl) squeezes_S1x168x4096_S168x4096) $$ [Hc0]
  · iexact Hc0
  iintro %v616 %hv616 Hc0
  ihave Hb0 := (gAny_back c 1 0 _) $$ [Hc0 He0]
  · isplitl [Hc0]; · iexact Hc0
    iexact He0
  iapply (load_step c 4096 1024 (Memref.whole cc0_stg1_0)) $$ [Hw]
  · iexact Hw
  iintro Hw
  iapply (out_load_step X W c) $$ [Hout]
  · iexact Hout
  iintro %vo0 Hout
  iapply (store_step X W c (org 1 c 4) 1 (off := (k0_off5 c 1#32 3#32 176#32)) ((by decide +kernel : ∀ c : Dev nD, (k0_off5 c 1#32 3#32 176#32) = ![512 * (org 1 c 4).val + roff 1, 0]) c) ((by decide +kernel : ∀ c : Dev nD, (org 1 c 4) ≠ c) c) _ (w := (Gen.k0_pay21 v616 (W c))) (congrArg (fun x => osm 1 x (W c)) hv616)) $$ [Hout]
  · iexact Hout
  iintro Hout
  iapply (recv_step X K c (m := 15) (n := 21) (t := 0) (s := 5) (by decide) rfl (by decide) (r1M 0 0) (r2M 0 2) rfl) $$ [HR HS]
  · isplitr; · iexact HC
    isplitl [HR]; · iexact HR
    iexact HS
  iintro ⟨HR, HS, Hq⟩
  ihave Hr02 := (got3 X c 0 2 (s := 5) rfl) $$ Hq
  iapply (ret_step c)
  ihave Hk := Hk $$ [HC0 Hr11 Hb0 Hw Hout HR HS Hr02]
  · isplitl [HC0]; · iexact HC0
    isplitl [Hr11]; · iexact Hr11
    isplitl [Hb0]; · iexact Hb0
    isplitl [Hw]; · iexact Hw
    isplitl [Hout]; · iexact Hout
    isplitl [HR]; · iexact HR
    isplitl [HS]; · iexact HS
    iexact Hr02
  iapply Hk

/-- Part 23. -/
theorem part23 (v273 : BitVec 32) (v438 : BitVec 32) {Kt : (PUnit) → sProp 𝕄} :
    iprop(Ctx X K
        ∗ CTok c 6
        ∗ CPos c 0 3
        ∗ gAny c 0
        ∗ R2 X c 0 2
        ∗ CPos c 1 2
        ∗ CFly c 1 2
        ∗ Snd c 21
        ∗ gRest c 2 1
        ∗ Wt W c
        ∗ OutSt X W c ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))
        ∗ ((CTok c 7
          ∗ CPos c 0 3
          ∗ CFly c 0 3
          ∗ gRest c 0 0
          ∗ CPos c 1 3
          ∗ Snd c 21
          ∗ R2 X c 2 1
          ∗ gAny c 1
          ∗ Wt W c
          ∗ OutSt X W c ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))
          -∗ Kt ⟨⟩))
      ⊢ wpc c (k0_part23 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v273 v438) Kt := by
  rw [Gen.k0_part23_eq_skeleton]
  unfold Gen.k0_part23_skel
  iintro ⟨#HC, HT, HC0, Hb0, Hr02, HC1, HF1, HS, He1, Hw, Hout, Hk⟩
  ihave Hb := (gAny_take c 0 0) $$ [Hb0]
  · iexact Hb0
  icases Hb with ⟨Hb, He0⟩
  iapply (copy_step X K c (i := 6) (k := 0) (r := 3) (by decide) (by decide) (t := 0) (j := 2) rfl rfl rfl rfl) $$ [HT HC0 Hb Hr02]
  · isplitr; · iexact HC
    isplitl [HT]; · iexact HT
    isplitl [HC0]; · iexact HC0
    isplitl [Hb]; · iexact Hb
    iexact Hr02
  iintro ⟨HT, HC0, HF0⟩
  iapply (copied_step X K c (k := 1) (r := 2) (by decide) (t := 2) (j := 1) rfl rfl rfl (r2M 2 1) (gM 2 1) rfl) $$ [HC1 HF1 HS]
  · isplitr; · iexact HC
    isplitl [HC1]; · iexact HC1
    isplitl [HF1]; · iexact HF1
    iexact HS
  iintro ⟨HC1, HS, Hc1, Hr21⟩
  iapply (slot_step c (m := Memref.whole cc0_scratch6) (Rect.unit (s := S2x176x4096) ![1, 0, 0] S1x168x4096.size inb_S2x176x4096_S1x168x4096_1_0_0) (fun _ => rfl) squeezes_S1x168x4096_S168x4096) $$ [Hc1]
  · iexact Hc1
  iintro %v651 %hv651 Hc1
  ihave Hb1 := (gAny_back c 2 1 _) $$ [Hc1 He1]
  · isplitl [Hc1]; · iexact Hc1
    iexact He1
  iapply (load_step c 4096 1024 (Memref.whole cc0_stg1_0)) $$ [Hw]
  · iexact Hw
  iintro Hw
  iapply (out_load_step X W c) $$ [Hout]
  · iexact Hout
  iintro %vo0 Hout
  iapply (store_step X W c (org 2 c 4) 2 (off := (k0_off5 c 3#32 4#32 344#32)) ((by decide +kernel : ∀ c : Dev nD, (k0_off5 c 3#32 4#32 344#32) = ![512 * (org 2 c 4).val + roff 2, 0]) c) ((by decide +kernel : ∀ c : Dev nD, (org 2 c 4) ≠ c) c) _ (w := (Gen.k0_pay22 v651 (W c))) (congrArg (fun x => osm 2 x (W c)) hv651)) $$ [Hout]
  · iexact Hout
  iintro Hout
  iapply (ret_step c)
  ihave Hk := Hk $$ [HT HC0 HF0 He0 HC1 HS Hr21 Hb1 Hw Hout]
  · isplitl [HT]; · iexact HT
    isplitl [HC0]; · iexact HC0
    isplitl [HF0]; · iexact HF0
    isplitl [He0]; · iexact He0
    isplitl [HC1]; · iexact HC1
    isplitl [HS]; · iexact HS
    isplitl [Hr21]; · iexact Hr21
    isplitl [Hb1]; · iexact Hb1
    isplitl [Hw]; · iexact Hw
    iexact Hout
  iapply Hk

/-- Part 24. -/
theorem part24 (v440 : BitVec 32) {Kt : (FVec F S176x1024 .f32) → sProp 𝕄} :
    iprop(Ctx X K
        ∗ Rcv c 16
        ∗ Snd c 21
        ∗ CTok c 7
        ∗ CPos c 1 3
        ∗ gAny c 1
        ∗ CPos c 0 3
        ∗ CFly c 0 3
        ∗ gRest c 0 0
        ∗ Wt W c
        ∗ ((Rcv c 17
          ∗ CTok c 8
          ∗ CPos c 1 3
          ∗ CFly c 1 3
          ∗ gRest c 1 1
          ∗ CPos c 0 4
          ∗ Snd c 21
          ∗ R2 X c 0 2
          ∗ gAny c 0
          ∗ Wt W c)
          -∗ Kt (osm 0 (xt X 0 (org 0 c 5)) (W c))))
      ⊢ wpc c (k0_part24 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 v440) Kt := by
  rw [Gen.k0_part24_eq_skeleton]
  unfold Gen.k0_part24_skel
  iintro ⟨#HC, HR, HS, HT, HC1, Hb1, HC0, HF0, He0, Hw, Hk⟩
  iapply (recv_step X K c (m := 16) (n := 21) (t := 1) (s := 5) (by decide) rfl (by decide) (r1M 1 0) (r2M 1 2) rfl) $$ [HR HS]
  · isplitr; · iexact HC
    isplitl [HR]; · iexact HR
    iexact HS
  iintro ⟨HR, HS, Hq⟩
  ihave Hr12 := (got3 X c 1 2 (s := 5) rfl) $$ Hq
  ihave Hb := (gAny_take c 1 1) $$ [Hb1]
  · iexact Hb1
  icases Hb with ⟨Hb, He1⟩
  iapply (copy_step X K c (i := 7) (k := 1) (r := 3) (by decide) (by decide) (t := 1) (j := 2) rfl rfl rfl rfl) $$ [HT HC1 Hb Hr12]
  · isplitr; · iexact HC
    isplitl [HT]; · iexact HT
    isplitl [HC1]; · iexact HC1
    isplitl [Hb]; · iexact Hb
    iexact Hr12
  iintro ⟨HT, HC1, HF1⟩
  iapply (copied_step X K c (k := 0) (r := 3) (by decide) (t := 0) (j := 2) rfl rfl rfl (r2M 0 2) (gM 0 0) rfl) $$ [HC0 HF0 HS]
  · isplitr; · iexact HC
    isplitl [HC0]; · iexact HC0
    isplitl [HF0]; · iexact HF0
    iexact HS
  iintro ⟨HC0, HS, Hc0, Hr02⟩
  iapply (slot_step c (m := Memref.whole cc0_scratch6) (Rect.unit (s := S2x176x4096) ![0, 0, 0] S1x176x4096.size inb_S2x176x4096_S1x176x4096_0_0_0) (fun _ => rfl) squeezes_S1x176x4096_S176x4096) $$ [Hc0]
  · iexact Hc0
  iintro %v686 %hv686 Hc0
  ihave Hb0 := (gAny_back c 0 0 _) $$ [Hc0 He0]
  · isplitl [Hc0]; · iexact Hc0
    iexact He0
  iapply (load_step c 4096 1024 (Memref.whole cc0_stg1_0)) $$ [Hw]
  · iexact Hw
  iintro Hw
  iapply (ret_step c)
  ihave Hk := Hk $$ [HR HT HC1 HF1 He1 HC0 HS Hr02 Hb0 Hw]
  · isplitl [HR]; · iexact HR
    isplitl [HT]; · iexact HT
    isplitl [HC1]; · iexact HC1
    isplitl [HF1]; · iexact HF1
    isplitl [He1]; · iexact He1
    isplitl [HC0]; · iexact HC0
    isplitl [HS]; · iexact HS
    isplitl [Hr02]; · iexact Hr02
    isplitl [Hb0]; · iexact Hb0
    iexact Hw
  have e : Gen.k0_pay23 v686 (W c) = (osm 0 (xt X 0 (org 0 c 5)) (W c)) := congrArg (fun x => osm 0 x (W c)) hv686
  rw [e]
  iapply Hk

/-- Part 25. -/
theorem part25 (v307 : BitVec 32) {Kt : (FVec F S168x1024 .f32) → sProp 𝕄} :
    iprop(Ctx X K
        ∗ OutSt X W c ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))
        ∗ Rcv c 17
        ∗ Snd c 21
        ∗ CTok c 8
        ∗ CPos c 0 4
        ∗ gAny c 0
        ∗ CPos c 1 3
        ∗ CFly c 1 3
        ∗ gRest c 1 1
        ∗ Wt W c
        ∗ ((OutSt X W c ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))
          ∗ Rcv c 18
          ∗ CTok c 9
          ∗ CPos c 0 4
          ∗ CFly c 0 4
          ∗ gRest c 2 0
          ∗ CPos c 1 4
          ∗ Snd c 21
          ∗ R2 X c 1 2
          ∗ gAny c 1
          ∗ Wt W c)
          -∗ Kt (Gen.k0_pay3 (xt X 1 (org 1 c 5)) (W c))))
      ⊢ wpc c (k0_part25 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v307 (osm 0 (xt X 0 (org 0 c 5)) (W c))) Kt := by
  rw [Gen.k0_part25_eq_skeleton]
  unfold Gen.k0_part25_skel
  iintro ⟨#HC, Hout, HR, HS, HT, HC0, Hb0, HC1, HF1, He1, Hw, Hk⟩
  iapply (out_load_step X W c) $$ [Hout]
  · iexact Hout
  iintro %vo0 Hout
  iapply (store_step X W c (org 0 c 5) 0 (off := (k0_off4 c 4#32 3#32)) ((by decide +kernel : ∀ c : Dev nD, (k0_off4 c 4#32 3#32) = ![512 * (org 0 c 5).val + roff 0, 0]) c) ((by decide +kernel : ∀ c : Dev nD, (org 0 c 5) ≠ c) c) _ (w := (osm 0 (xt X 0 (org 0 c 5)) (W c))) rfl) $$ [Hout]
  · iexact Hout
  iintro Hout
  iapply (recv_step X K c (m := 17) (n := 21) (t := 2) (s := 5) (by decide) rfl (by decide) (r1M 2 0) (r2M 2 2) rfl) $$ [HR HS]
  · isplitr; · iexact HC
    isplitl [HR]; · iexact HR
    iexact HS
  iintro ⟨HR, HS, Hq⟩
  ihave Hr22 := (got3 X c 2 2 (s := 5) rfl) $$ Hq
  ihave Hb := (gAny_take c 2 0) $$ [Hb0]
  · iexact Hb0
  icases Hb with ⟨Hb, He0⟩
  iapply (copy_step X K c (i := 8) (k := 0) (r := 4) (by decide) (by decide) (t := 2) (j := 2) rfl rfl rfl rfl) $$ [HT HC0 Hb Hr22]
  · isplitr; · iexact HC
    isplitl [HT]; · iexact HT
    isplitl [HC0]; · iexact HC0
    isplitl [Hb]; · iexact Hb
    iexact Hr22
  iintro ⟨HT, HC0, HF0⟩
  iapply (copied_step X K c (k := 1) (r := 3) (by decide) (t := 1) (j := 2) rfl rfl rfl (r2M 1 2) (gM 1 1) rfl) $$ [HC1 HF1 HS]
  · isplitr; · iexact HC
    isplitl [HC1]; · iexact HC1
    isplitl [HF1]; · iexact HF1
    iexact HS
  iintro ⟨HC1, HS, Hc1, Hr12⟩
  iapply (slot_step c (m := Memref.whole cc0_scratch6) (Rect.unit (s := S2x176x4096) ![1, 0, 0] S1x168x4096.size inb_S2x176x4096_S1x168x4096_1_0_0) (fun _ => rfl) squeezes_S1x168x4096_S168x4096) $$ [Hc1]
  · iexact Hc1
  iintro %v721 %hv721 Hc1
  ihave Hb1 := (gAny_back c 1 1 _) $$ [Hc1 He1]
  · isplitl [Hc1]; · iexact Hc1
    iexact He1
  iapply (load_step c 4096 1024 (Memref.whole cc0_stg1_0)) $$ [Hw]
  · iexact Hw
  iintro Hw
  iapply (ret_step c)
  ihave Hk := Hk $$ [Hout HR HT HC0 HF0 He0 HC1 HS Hr12 Hb1 Hw]
  · isplitl [Hout]; · iexact Hout
    isplitl [HR]; · iexact HR
    isplitl [HT]; · iexact HT
    isplitl [HC0]; · iexact HC0
    isplitl [HF0]; · iexact HF0
    isplitl [He0]; · iexact He0
    isplitl [HC1]; · iexact HC1
    isplitl [HS]; · iexact HS
    isplitl [Hr12]; · iexact Hr12
    isplitl [Hb1]; · iexact Hb1
    iexact Hw
  have e : Gen.k0_pay24 v721 (W c) = (Gen.k0_pay3 (xt X 1 (org 1 c 5)) (W c)) := congrArg (fun x => Gen.k0_pay3 x (W c)) hv721
  rw [e]
  iapply Hk

/-- Part 26. -/
theorem part26 (v239 : BitVec 32) (v442 : BitVec 32) {Kt : (PUnit) → sProp 𝕄} :
    iprop(Ctx X K
        ∗ OutSt X W c ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))
        ∗ Rcv c 18
        ∗ Snd c 21
        ∗ CTok c 9
        ∗ CPos c 1 4
        ∗ gAny c 1
        ∗ ((OutSt X W c ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))
          ∗ Rcv c 19
          ∗ Snd c 21
          ∗ CTok c 10
          ∗ CPos c 1 4
          ∗ CFly c 1 4
          ∗ gRest c 0 1)
          -∗ Kt ⟨⟩))
      ⊢ wpc c (k0_part26 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v239 v442 (Gen.k0_pay3 (xt X 1 (org 1 c 5)) (W c))) Kt := by
  rw [Gen.k0_part26_eq_skeleton]
  unfold Gen.k0_part26_skel
  iintro ⟨#HC, Hout, HR, HS, HT, HC1, Hb1, Hk⟩
  iapply (out_load_step X W c) $$ [Hout]
  · iexact Hout
  iintro %vo0 Hout
  iapply (store_step X W c (org 1 c 5) 1 (off := (k0_off5 c 1#32 4#32 176#32)) ((by decide +kernel : ∀ c : Dev nD, (k0_off5 c 1#32 4#32 176#32) = ![512 * (org 1 c 5).val + roff 1, 0]) c) ((by decide +kernel : ∀ c : Dev nD, (org 1 c 5) ≠ c) c) _ (w := (Gen.k0_pay25 (Gen.k0_pay3 (xt X 1 (org 1 c 5)) (W c)))) rfl) $$ [Hout]
  · iexact Hout
  iintro Hout
  iapply (recv_step X K c (m := 18) (n := 21) (t := 0) (s := 6) (by decide) rfl (by decide) (r1M 0 1) (r2M 0 3) rfl) $$ [HR HS]
  · isplitr; · iexact HC
    isplitl [HR]; · iexact HR
    iexact HS
  iintro ⟨HR, HS, Hq⟩
  ihave Hr03 := (got3 X c 0 3 (s := 6) rfl) $$ Hq
  ihave Hb := (gAny_take c 0 1) $$ [Hb1]
  · iexact Hb1
  icases Hb with ⟨Hb, He1⟩
  iapply (copy_step X K c (i := 9) (k := 1) (r := 4) (by decide) (by decide) (t := 0) (j := 3) rfl rfl rfl rfl) $$ [HT HC1 Hb Hr03]
  · isplitr; · iexact HC
    isplitl [HT]; · iexact HT
    isplitl [HC1]; · iexact HC1
    isplitl [Hb]; · iexact Hb
    iexact Hr03
  iintro ⟨HT, HC1, HF1⟩
  iapply (ret_step c)
  ihave Hk := Hk $$ [Hout HR HS HT HC1 HF1 He1]
  · isplitl [Hout]; · iexact Hout
    isplitl [HR]; · iexact HR
    isplitl [HS]; · iexact HS
    isplitl [HT]; · iexact HT
    isplitl [HC1]; · iexact HC1
    isplitl [HF1]; · iexact HF1
    iexact He1
  iapply Hk

/-- Part 27. -/
theorem part27 (v273 : BitVec 32) (v444 : BitVec 32) {Kt : (PUnit) → sProp 𝕄} :
    iprop(Ctx X K
        ∗ CPos c 0 4
        ∗ CFly c 0 4
        ∗ Snd c 21
        ∗ gRest c 2 0
        ∗ Wt W c
        ∗ OutSt X W c ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))
        ∗ Rcv c 19
        ∗ ((CPos c 0 5
          ∗ R2 X c 2 2
          ∗ gAny c 0
          ∗ Wt W c
          ∗ OutSt X W c ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))))
          ∗ Rcv c 20
          ∗ Snd c 21
          ∗ R2 X c 1 3)
          -∗ Kt ⟨⟩))
      ⊢ wpc c (k0_part27 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v273 v444) Kt := by
  rw [Gen.k0_part27_eq_skeleton]
  unfold Gen.k0_part27_skel
  iintro ⟨#HC, HC0, HF0, HS, He0, Hw, Hout, HR, Hk⟩
  iapply (copied_step X K c (k := 0) (r := 4) (by decide) (t := 2) (j := 2) rfl rfl rfl (r2M 2 2) (gM 2 0) rfl) $$ [HC0 HF0 HS]
  · isplitr; · iexact HC
    isplitl [HC0]; · iexact HC0
    isplitl [HF0]; · iexact HF0
    iexact HS
  iintro ⟨HC0, HS, Hc0, Hr22⟩
  iapply (slot_step c (m := Memref.whole cc0_scratch6) (Rect.unit (s := S2x176x4096) ![0, 0, 0] S1x168x4096.size inb_S2x176x4096_S1x168x4096_0_0_0) (fun _ => rfl) squeezes_S1x168x4096_S168x4096) $$ [Hc0]
  · iexact Hc0
  iintro %v756 %hv756 Hc0
  ihave Hb0 := (gAny_back c 2 0 _) $$ [Hc0 He0]
  · isplitl [Hc0]; · iexact Hc0
    iexact He0
  iapply (load_step c 4096 1024 (Memref.whole cc0_stg1_0)) $$ [Hw]
  · iexact Hw
  iintro Hw
  iapply (out_load_step X W c) $$ [Hout]
  · iexact Hout
  iintro %vo0 Hout
  iapply (store_step X W c (org 2 c 5) 2 (off := (k0_off5 c 3#32 1#32 344#32)) ((by decide +kernel : ∀ c : Dev nD, (k0_off5 c 3#32 1#32 344#32) = ![512 * (org 2 c 5).val + roff 2, 0]) c) ((by decide +kernel : ∀ c : Dev nD, (org 2 c 5) ≠ c) c) _ (w := (Gen.k0_pay26 v756 (W c))) (congrArg (fun x => osm 2 x (W c)) hv756)) $$ [Hout]
  · iexact Hout
  iintro Hout
  iapply (recv_step X K c (m := 19) (n := 21) (t := 1) (s := 6) (by decide) rfl (by decide) (r1M 1 1) (r2M 1 3) rfl) $$ [HR HS]
  · isplitr; · iexact HC
    isplitl [HR]; · iexact HR
    iexact HS
  iintro ⟨HR, HS, Hq⟩
  ihave Hr13 := (got3 X c 1 3 (s := 6) rfl) $$ Hq
  iapply (ret_step c)
  ihave Hk := Hk $$ [HC0 Hr22 Hb0 Hw Hout HR HS Hr13]
  · isplitl [HC0]; · iexact HC0
    isplitl [Hr22]; · iexact Hr22
    isplitl [Hb0]; · iexact Hb0
    isplitl [Hw]; · iexact Hw
    isplitl [Hout]; · iexact Hout
    isplitl [HR]; · iexact HR
    isplitl [HS]; · iexact HS
    iexact Hr13
  iapply Hk

end Cert.KernelIdeal.Ring

end
-- ==== Proof.Ring.Parts5.lean ====
/-
  The parts of the kernel's body, in order: what a device holds before and after each.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- Part 28. -/
theorem part28 (v307 : BitVec 32) (v446 : BitVec 32) {Kt : (PUnit) → sProp 𝕄} :
    iprop(Ctx X K
        ∗ CTok c 10
        ∗ CPos c 0 5
        ∗ gAny c 0
        ∗ R2 X c 1 3
        ∗ CPos c 1 4
        ∗ CFly c 1 4
        ∗ Snd c 21
        ∗ gRest c 0 1
        ∗ Wt W c
        ∗ OutSt X W c ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))))
        ∗ ((CTok c 11
          ∗ CPos c 0 5
          ∗ CFly c 0 5
          ∗ gRest c 1 0
          ∗ CPos c 1 5
          ∗ Snd c 21
          ∗ R2 X c 0 3
          ∗ gAny c 1
          ∗ Wt W c
          ∗ OutSt X W c ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))))))
          -∗ Kt ⟨⟩))
      ⊢ wpc c (k0_part28 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v307 v446) Kt := by
  rw [Gen.k0_part28_eq_skeleton]
  unfold Gen.k0_part28_skel
  iintro ⟨#HC, HT, HC0, Hb0, Hr13, HC1, HF1, HS, He1, Hw, Hout, Hk⟩
  ihave Hb := (gAny_take c 1 0) $$ [Hb0]
  · iexact Hb0
  icases Hb with ⟨Hb, He0⟩
  iapply (copy_step X K c (i := 10) (k := 0) (r := 5) (by decide) (by decide) (t := 1) (j := 3) rfl rfl rfl rfl) $$ [HT HC0 Hb Hr13]
  · isplitr; · iexact HC
    isplitl [HT]; · iexact HT
    isplitl [HC0]; · iexact HC0
    isplitl [Hb]; · iexact Hb
    iexact Hr13
  iintro ⟨HT, HC0, HF0⟩
  iapply (copied_step X K c (k := 1) (r := 4) (by decide) (t := 0) (j := 3) rfl rfl rfl (r2M 0 3) (gM 0 1) rfl) $$ [HC1 HF1 HS]
  · isplitr; · iexact HC
    isplitl [HC1]; · iexact HC1
    isplitl [HF1]; · iexact HF1
    iexact HS
  iintro ⟨HC1, HS, Hc1, Hr03⟩
  iapply (slot_step c (m := Memref.whole cc0_scratch6) (Rect.unit (s := S2x176x4096) ![1, 0, 0] S1x176x4096.size inb_S2x176x4096_S1x176x4096_1_0_0) (fun _ => rfl) squeezes_S1x176x4096_S176x4096) $$ [Hc1]
  · iexact Hc1
  iintro %v791 %hv791 Hc1
  ihave Hb1 := (gAny_back c 0 1 _) $$ [Hc1 He1]
  · isplitl [Hc1]; · iexact Hc1
    iexact He1
  iapply (load_step c 4096 1024 (Memref.whole cc0_stg1_0)) $$ [Hw]
  · iexact Hw
  iintro Hw
  iapply (out_load_step X W c) $$ [Hout]
  · iexact Hout
  iintro %vo0 Hout
  iapply (store_step X W c (org 0 c 6) 0 (off := (k0_off4 c 4#32 2#32)) ((by decide +kernel : ∀ c : Dev nD, (k0_off4 c 4#32 2#32) = ![512 * (org 0 c 6).val + roff 0, 0]) c) ((by decide +kernel : ∀ c : Dev nD, (org 0 c 6) ≠ c) c) _ (w := (Gen.k0_pay27 v791 (W c))) (congrArg (fun x => osm 0 x (W c)) hv791)) $$ [Hout]
  · iexact Hout
  iintro Hout
  iapply (ret_step c)
  ihave Hk := Hk $$ [HT HC0 HF0 He0 HC1 HS Hr03 Hb1 Hw Hout]
  · isplitl [HT]; · iexact HT
    isplitl [HC0]; · iexact HC0
    isplitl [HF0]; · iexact HF0
    isplitl [He0]; · iexact He0
    isplitl [HC1]; · iexact HC1
    isplitl [HS]; · iexact HS
    isplitl [Hr03]; · iexact Hr03
    isplitl [Hb1]; · iexact Hb1
    isplitl [Hw]; · iexact Hw
    iexact Hout
  iapply Hk

/-- Part 29. -/
theorem part29 (v448 : BitVec 32) {Kt : (PUnit) → sProp 𝕄} :
    iprop(Ctx X K
        ∗ Rcv c 20
        ∗ Snd c 21
        ∗ CTok c 11
        ∗ CPos c 1 5
        ∗ gAny c 1
        ∗ CPos c 0 5
        ∗ CFly c 0 5
        ∗ gRest c 1 0
        ∗ Wt W c
        ∗ OutSt X W c ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))))
        ∗ ((Rcv c 21
          ∗ CTok c 12
          ∗ CPos c 1 5
          ∗ CFly c 1 5
          ∗ gRest c 2 1
          ∗ CPos c 0 6
          ∗ Snd c 21
          ∗ R2 X c 1 3
          ∗ gAny c 0
          ∗ Wt W c
          ∗ OutSt X W c ((org 1 c 6, 1) :: ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))))))
          -∗ Kt ⟨⟩))
      ⊢ wpc c (k0_part29 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v448) Kt := by
  rw [Gen.k0_part29_eq_skeleton]
  unfold Gen.k0_part29_skel
  iintro ⟨#HC, HR, HS, HT, HC1, Hb1, HC0, HF0, He0, Hw, Hout, Hk⟩
  iapply (recv_step X K c (m := 20) (n := 21) (t := 2) (s := 6) (by decide) rfl (by decide) (r1M 2 1) (r2M 2 3) rfl) $$ [HR HS]
  · isplitr; · iexact HC
    isplitl [HR]; · iexact HR
    iexact HS
  iintro ⟨HR, HS, Hq⟩
  ihave Hr23 := (got3 X c 2 3 (s := 6) rfl) $$ Hq
  ihave Hb := (gAny_take c 2 1) $$ [Hb1]
  · iexact Hb1
  icases Hb with ⟨Hb, He1⟩
  iapply (copy_step X K c (i := 11) (k := 1) (r := 5) (by decide) (by decide) (t := 2) (j := 3) rfl rfl rfl rfl) $$ [HT HC1 Hb Hr23]
  · isplitr; · iexact HC
    isplitl [HT]; · iexact HT
    isplitl [HC1]; · iexact HC1
    isplitl [Hb]; · iexact Hb
    iexact Hr23
  iintro ⟨HT, HC1, HF1⟩
  iapply (copied_step X K c (k := 0) (r := 5) (by decide) (t := 1) (j := 3) rfl rfl rfl (r2M 1 3) (gM 1 0) rfl) $$ [HC0 HF0 HS]
  · isplitr; · iexact HC
    isplitl [HC0]; · iexact HC0
    isplitl [HF0]; · iexact HF0
    iexact HS
  iintro ⟨HC0, HS, Hc0, Hr13⟩
  iapply (slot_step c (m := Memref.whole cc0_scratch6) (Rect.unit (s := S2x176x4096) ![0, 0, 0] S1x168x4096.size inb_S2x176x4096_S1x168x4096_0_0_0) (fun _ => rfl) squeezes_S1x168x4096_S168x4096) $$ [Hc0]
  · iexact Hc0
  iintro %v826 %hv826 Hc0
  ihave Hb0 := (gAny_back c 1 0 _) $$ [Hc0 He0]
  · isplitl [Hc0]; · iexact Hc0
    iexact He0
  iapply (load_step c 4096 1024 (Memref.whole cc0_stg1_0)) $$ [Hw]
  · iexact Hw
  iintro Hw
  iapply (out_load_step X W c) $$ [Hout]
  · iexact Hout
  iintro %vo0 Hout
  iapply (store_step X W c (org 1 c 6) 1 (off := (k0_off5 c 1#32 7#32 176#32)) ((by decide +kernel : ∀ c : Dev nD, (k0_off5 c 1#32 7#32 176#32) = ![512 * (org 1 c 6).val + roff 1, 0]) c) ((by decide +kernel : ∀ c : Dev nD, (org 1 c 6) ≠ c) c) _ (w := (Gen.k0_pay28 v826 (W c))) (congrArg (fun x => osm 1 x (W c)) hv826)) $$ [Hout]
  · iexact Hout
  iintro Hout
  iapply (ret_step c)
  ihave Hk := Hk $$ [HR HT HC1 HF1 He1 HC0 HS Hr13 Hb0 Hw Hout]
  · isplitl [HR]; · iexact HR
    isplitl [HT]; · iexact HT
    isplitl [HC1]; · iexact HC1
    isplitl [HF1]; · iexact HF1
    isplitl [He1]; · iexact He1
    isplitl [HC0]; · iexact HC0
    isplitl [HS]; · iexact HS
    isplitl [Hr13]; · iexact Hr13
    isplitl [Hb0]; · iexact Hb0
    isplitl [Hw]; · iexact Hw
    iexact Hout
  iapply Hk

/-- Part 30. -/
theorem part30 (v450 : BitVec 32) {Kt : (PUnit) → sProp 𝕄} :
    iprop(Ctx X K
        ∗ CPos c 1 5
        ∗ CFly c 1 5
        ∗ Snd c 21
        ∗ gRest c 2 1
        ∗ Wt W c
        ∗ OutSt X W c ((org 1 c 6, 1) :: ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))))))
        ∗ ((CPos c 1 6
          ∗ R2 X c 2 3
          ∗ gAny c 1
          ∗ Wt W c
          ∗ OutSt X W c ((org 2 c 6, 2) :: ((org 1 c 6, 1) :: ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))))))
          ∗ Drn X c 2)
          -∗ Kt ⟨⟩))
      ⊢ wpc c (k0_part30 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 c v450) Kt := by
  rw [Gen.k0_part30_eq_skeleton]
  unfold Gen.k0_part30_skel
  iintro ⟨#HC, HC1, HF1, HS, He1, Hw, Hout, Hk⟩
  iapply (copied_step X K c (k := 1) (r := 5) (by decide) (t := 2) (j := 3) rfl rfl rfl (r2M 2 3) (gM 2 1) rfl) $$ [HC1 HF1 HS]
  · isplitr; · iexact HC
    isplitl [HC1]; · iexact HC1
    isplitl [HF1]; · iexact HF1
    iexact HS
  iintro ⟨HC1, HS, Hc1, Hr23⟩
  iapply (slot_step c (m := Memref.whole cc0_scratch6) (Rect.unit (s := S2x176x4096) ![1, 0, 0] S1x168x4096.size inb_S2x176x4096_S1x168x4096_1_0_0) (fun _ => rfl) squeezes_S1x168x4096_S168x4096) $$ [Hc1]
  · iexact Hc1
  iintro %v847 %hv847 Hc1
  ihave Hb1 := (gAny_back c 2 1 _) $$ [Hc1 He1]
  · isplitl [Hc1]; · iexact Hc1
    iexact He1
  iapply (load_step c 4096 1024 (Memref.whole cc0_stg1_0)) $$ [Hw]
  · iexact Hw
  iintro Hw
  iapply (out_load_step X W c) $$ [Hout]
  · iexact Hout
  iintro %vo0 Hout
  iapply (store_step X W c (org 2 c 6) 2 (off := (k0_off5 c 3#32 5#32 344#32)) ((by decide +kernel : ∀ c : Dev nD, (k0_off5 c 3#32 5#32 344#32) = ![512 * (org 2 c 6).val + roff 2, 0]) c) ((by decide +kernel : ∀ c : Dev nD, (org 2 c 6) ≠ c) c) _ (w := (Gen.k0_pay29 v847 (W c))) (congrArg (fun x => osm 2 x (W c)) hv847)) $$ [Hout]
  · iexact Hout
  iintro Hout
  ihave HD := (sent_all X c) $$ HS
  iapply (sent_step X K c (n := 0) (t := 0) (s := 0) (by decide) rfl (r0M 0) (xM 0) rfl) $$ [HD]
  · isplitr; · iexact HC
    iexact HD
  iintro HD
  iapply (sent_step X K c (n := 1) (t := 1) (s := 0) (by decide) rfl (r0M 1) (xM 1) rfl) $$ [HD]
  · isplitr; · iexact HC
    iexact HD
  iintro HD
  iapply (ret_step c)
  ihave Hk := Hk $$ [HC1 Hr23 Hb1 Hw Hout HD]
  · isplitl [HC1]; · iexact HC1
    isplitl [Hr23]; · iexact Hr23
    isplitl [Hb1]; · iexact Hb1
    isplitl [Hw]; · iexact Hw
    isplitl [Hout]; · iexact Hout
    iexact HD
  iapply Hk

/-- Part 31. -/
theorem part31  {Kt : (PUnit) → sProp 𝕄} :
    iprop(Ctx X K
        ∗ Drn X c 2
        ∗ ((Drn X c 6)
          -∗ Kt ⟨⟩))
      ⊢ wpc c (k0_part31 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Kt := by
  rw [Gen.k0_part31_eq_skeleton]
  unfold Gen.k0_part31_skel
  iintro ⟨#HC, HD, Hk⟩
  iapply (sent_step X K c (n := 2) (t := 2) (s := 0) (by decide) rfl (r0M 2) (xM 2) rfl) $$ [HD]
  · isplitr; · iexact HC
    iexact HD
  iintro HD
  iapply (sent_step X K c (n := 3) (t := 0) (s := 1) (by decide) rfl (r1M 0 0) (xM 0) rfl) $$ [HD]
  · isplitr; · iexact HC
    iexact HD
  iintro HD
  iapply (sent_step X K c (n := 4) (t := 1) (s := 1) (by decide) rfl (r1M 1 0) (xM 1) rfl) $$ [HD]
  · isplitr; · iexact HC
    iexact HD
  iintro HD
  iapply (sent_step X K c (n := 5) (t := 2) (s := 1) (by decide) rfl (r1M 2 0) (xM 2) rfl) $$ [HD]
  · isplitr; · iexact HC
    iexact HD
  iintro HD
  iapply (ret_step c)
  ihave Hk := Hk $$ [HD]
  · iexact HD
  iapply Hk

/-- Part 32. -/
theorem part32  {Kt : (PUnit) → sProp 𝕄} :
    iprop(Ctx X K
        ∗ Drn X c 6
        ∗ ((Drn X c 11)
          -∗ Kt ⟨⟩))
      ⊢ wpc c (k0_part32 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Kt := by
  rw [Gen.k0_part32_eq_skeleton]
  unfold Gen.k0_part32_skel
  iintro ⟨#HC, HD, Hk⟩
  iapply (sent_step X K c (n := 6) (t := 0) (s := 3) (by decide) rfl (r2M 0 0) (xM 0) rfl) $$ [HD]
  · isplitr; · iexact HC
    iexact HD
  iintro HD
  iapply (sent_step X K c (n := 7) (t := 1) (s := 3) (by decide) rfl (r2M 1 0) (xM 1) rfl) $$ [HD]
  · isplitr; · iexact HC
    iexact HD
  iintro HD
  iapply (sent_step X K c (n := 8) (t := 2) (s := 3) (by decide) rfl (r2M 2 0) (xM 2) rfl) $$ [HD]
  · isplitr; · iexact HC
    iexact HD
  iintro HD
  iapply (sent_step X K c (n := 9) (t := 0) (s := 2) (by decide) rfl (r1M 0 1) (r0M 0) rfl) $$ [HD]
  · isplitr; · iexact HC
    iexact HD
  iintro HD
  iapply (sent_step X K c (n := 10) (t := 0) (s := 4) (by decide) rfl (r2M 0 1) (r0M 0) rfl) $$ [HD]
  · isplitr; · iexact HC
    iexact HD
  iintro HD
  iapply (ret_step c)
  ihave Hk := Hk $$ [HD]
  · iexact HD
  iapply Hk

/-- Part 33. -/
theorem part33  {Kt : (PUnit) → sProp 𝕄} :
    iprop(Ctx X K
        ∗ Drn X c 11
        ∗ ((Drn X c 16)
          -∗ Kt ⟨⟩))
      ⊢ wpc c (k0_part33 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Kt := by
  rw [Gen.k0_part33_eq_skeleton]
  unfold Gen.k0_part33_skel
  iintro ⟨#HC, HD, Hk⟩
  iapply (sent_step X K c (n := 11) (t := 1) (s := 2) (by decide) rfl (r1M 1 1) (r0M 1) rfl) $$ [HD]
  · isplitr; · iexact HC
    iexact HD
  iintro HD
  iapply (sent_step X K c (n := 12) (t := 1) (s := 4) (by decide) rfl (r2M 1 1) (r0M 1) rfl) $$ [HD]
  · isplitr; · iexact HC
    iexact HD
  iintro HD
  iapply (sent_step X K c (n := 13) (t := 2) (s := 2) (by decide) rfl (r1M 2 1) (r0M 2) rfl) $$ [HD]
  · isplitr; · iexact HC
    iexact HD
  iintro HD
  iapply (sent_step X K c (n := 14) (t := 2) (s := 4) (by decide) rfl (r2M 2 1) (r0M 2) rfl) $$ [HD]
  · isplitr; · iexact HC
    iexact HD
  iintro HD
  iapply (sent_step X K c (n := 15) (t := 0) (s := 5) (by decide) rfl (r2M 0 2) (r1M 0 0) rfl) $$ [HD]
  · isplitr; · iexact HC
    iexact HD
  iintro HD
  iapply (ret_step c)
  ihave Hk := Hk $$ [HD]
  · iexact HD
  iapply Hk

/-- Part 34. -/
theorem part34  {Kt : (PUnit) → sProp 𝕄} :
    iprop(Ctx X K
        ∗ Drn X c 16
        ∗ ((Drn X c 20)
          -∗ Kt ⟨⟩))
      ⊢ wpc c (k0_part34 (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 ) Kt := by
  rw [Gen.k0_part34_eq_skeleton]
  unfold Gen.k0_part34_skel
  iintro ⟨#HC, HD, Hk⟩
  iapply (sent_step X K c (n := 16) (t := 0) (s := 6) (by decide) rfl (r2M 0 3) (r1M 0 1) rfl) $$ [HD]
  · isplitr; · iexact HC
    iexact HD
  iintro HD
  iapply (sent_step X K c (n := 17) (t := 1) (s := 5) (by decide) rfl (r2M 1 2) (r1M 1 0) rfl) $$ [HD]
  · isplitr; · iexact HC
    iexact HD
  iintro HD
  iapply (sent_step X K c (n := 18) (t := 1) (s := 6) (by decide) rfl (r2M 1 3) (r1M 1 1) rfl) $$ [HD]
  · isplitr; · iexact HC
    iexact HD
  iintro HD
  iapply (sent_step X K c (n := 19) (t := 2) (s := 5) (by decide) rfl (r2M 2 2) (r1M 2 0) rfl) $$ [HD]
  · isplitr; · iexact HC
    iexact HD
  iintro HD
  iapply (ret_step c)
  ihave Hk := Hk $$ [HD]
  · iexact HD
  iapply Hk

end Cert.KernelIdeal.Ring

end
-- ==== Proof.Ring.Chain.lean ====
/-
  The whole body of the kernel on one device, from its parts.
-/
module

public import proofs.«01_k».proof.Proof.Ring.Parts1
public import proofs.«01_k».proof.Proof.Ring.Parts2
public import proofs.«01_k».proof.Proof.Ring.Parts3
public import proofs.«01_k».proof.Proof.Ring.Parts4
public import proofs.«01_k».proof.Proof.Ring.Parts5

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-- What a device holds when the body starts. -/
def Start : sProp 𝕄 :=
  iprop(Owe c 0
    ∗ Sig c 0
    ∗ Sig c 1
    ∗ Sig c 2
    ∗ Bar c
    ∗ bigSepL starts (Tok c)
    ∗ Rcv c 0
    ∗ CTok c 0
    ∗ CPos c 0 0
    ∗ CPos c 1 0
    ∗ Wt W c
    ∗ Xl X c
    ∗ OutSt X W c []
    ∗ sendPay X 0 c 0
    ∗ sendPay X 0 c 1
    ∗ sendPay X 0 c 3
    ∗ sendPay X 1 c 0
    ∗ sendPay X 1 c 1
    ∗ sendPay X 1 c 3
    ∗ sendPay X 2 c 0
    ∗ sendPay X 2 c 1
    ∗ sendPay X 2 c 3
    ∗ gAny c 0
    ∗ gAny c 1)

/-- What it holds when the body ends. -/
def Finish : sProp 𝕄 :=
  iprop(atPos ER (barCell c) 1 (∅ : Finset (Fin 3)) 0
    ∗ Xl X c
    ∗ R0 X c 0
    ∗ R0 X c 1
    ∗ R0 X c 2
    ∗ R1 X c 0 0 1
    ∗ R1 X c 0 1 2
    ∗ R1 X c 1 0 1
    ∗ R1 X c 1 1 2
    ∗ R1 X c 2 0 1
    ∗ R1 X c 2 1 2
    ∗ R2 X c 0 0
    ∗ R2 X c 1 0
    ∗ R2 X c 2 0
    ∗ R2 X c 0 1
    ∗ R2 X c 1 1
    ∗ R2 X c 2 1
    ∗ R2 X c 0 2
    ∗ R2 X c 1 2
    ∗ R2 X c 2 2
    ∗ R2 X c 0 3
    ∗ Rcv c 21
    ∗ CTok c 12
    ∗ CPos c 0 6
    ∗ R2 X c 1 3
    ∗ gAny c 0
    ∗ CPos c 1 6
    ∗ R2 X c 2 3
    ∗ gAny c 1
    ∗ Wt W c
    ∗ OutSt X W c ((org 2 c 6, 2) :: ((org 1 c 6, 1) :: ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)])))))))))))))))))))))
    ∗ Drn X c 21)

set_option maxHeartbeats 4000000 in
/-- The body takes a device from the one to the other. -/
theorem body_core {Kt : PUnit → sProp 𝕄} :
    iprop(Ctx X K ∗ Start X W c ∗ (Finish X W c -∗ Kt ⟨⟩)) ⊢ wpc c (cc0_body (F := F) (Memref.whole cc0_stg0_0) (Memref.isWhole_whole _) (Memref.whole cc0_stg1_0) (Memref.isWhole_whole _) (Memref.whole cc0_stg2_0) (Memref.isWhole_whole _) (Memref.whole main_v3_1) (Memref.isWhole_whole _) (Memref.whole main_v3_2) (Memref.isWhole_whole _) (Memref.whole main_v3_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13) Kt := by
  rw [Gen.cc0_body_eq_skeleton]
  unfold Gen.cc0_body_skel Start Finish
  iintro ⟨#HC, ⟨HO, Hg0, Hg1, Hg2, Hbar, Htok, HR, HT, HC0, HC1, Hw, Hx, Hout, Hp00, Hp01, Hp03, Hp10, Hp11, Hp13, Hp20, Hp21, Hp23, Hb0, Hb1⟩, Hk⟩
  iapply (bind_step c)
  iapply (part1 X K c)
  isplitr; · iexact HC
  isplitl [HO]; · iexact HO
  isplitl [Hg0]; · iexact Hg0
  isplitl [Hg1]; · iexact Hg1
  isplitl [Hg2]; · iexact Hg2
  isplitl [Hbar]; · iexact Hbar
  isplitl [Htok]; · iexact Htok
  isplitl [Hp00]; · iexact Hp00
  iintro ⟨Hbd, HS⟩
  iintro %a1_1 %a2_1 %a3_1
  iapply (bind_step c)
  iapply (part2 X K c _)
  isplitr; · iexact HC
  isplitl [HS]; · iexact HS
  isplitl [Hp10]; · iexact Hp10
  isplitl [Hp20]; · iexact Hp20
  isplitl [Hp01]; · iexact Hp01
  iintro ⟨HS⟩
  iintro %a0_2 %a1_2 %a2_2
  iapply (bind_step c)
  iapply (part3 X K c _)
  isplitr; · iexact HC
  isplitl [HS]; · iexact HS
  isplitl [Hp11]; · iexact Hp11
  isplitl [Hp21]; · iexact Hp21
  isplitl [Hp03]; · iexact Hp03
  iintro ⟨HS⟩
  iintro %a0_3 %a1_3 %a2_3
  iapply (bind_step c)
  iapply (part4 X W K c _ _)
  isplitr; · iexact HC
  isplitl [HS]; · iexact HS
  isplitl [Hp13]; · iexact Hp13
  isplitl [Hp23]; · iexact Hp23
  isplitl [Hx]; · iexact Hx
  isplitl [Hw]; · iexact Hw
  isplitl [Hout]; · iexact Hout
  iintro ⟨HS, Hx, Hw, Hout⟩
  iintro %a0_4
  iapply (bind_step c)
  iapply (part5 X K c _ _)
  isplitr; · iexact HC
  isplitl [HR]; · iexact HR
  isplitl [HS]; · iexact HS
  iintro ⟨Ha0, HR, HS, Hp12, Hp14, Ha1⟩
  iintro %a0_5 %a1_5 %a2_5 %a3_5
  iapply (bind_step c)
  iapply (part6 X K c _ _ _ _)
  isplitr; · iexact HC
  isplitl [HS]; · iexact HS
  isplitl [Hp12]; · iexact Hp12
  isplitl [Hp14]; · iexact Hp14
  isplitl [HR]; · iexact HR
  iintro ⟨HR, Hp24, Ha2, HS⟩
  iintro %a0_6 %a1_6
  iapply (bind_step c)
  iapply (part7 X W K c _)
  isplitr; · iexact HC
  isplitl [HS]; · iexact HS
  isplitl [Hp24]; · iexact Hp24
  isplitl [Ha0]; · iexact Ha0
  isplitl [Hw]; · iexact Hw
  isplitl [Hout]; · iexact Hout
  isplitl [Ha1]; · iexact Ha1
  iintro ⟨HS, Ha0, Hout, Ha1, Hw⟩
  iintro %a0_7 %a1_7
  iapply (bind_step c)
  iapply (part8 X W K c _ _ _)
  isplitr; · iexact HC
  isplitl [Hout]; · iexact Hout
  isplitl [Ha2]; · iexact Ha2
  isplitl [Hw]; · iexact Hw
  isplitl [HR]; · iexact HR
  isplitl [HS]; · iexact HS
  iintro ⟨Ha2, Hw, Hout, HR, HS, Hp05, Hs00⟩
  iintro %a0_8
  iapply (bind_step c)
  iapply (part9 X K c _ _ _ _)
  isplitr; · iexact HC
  isplitl [HR]; · iexact HR
  isplitl [HS]; · iexact HS
  isplitl [Hp05]; · iexact Hp05
  iintro ⟨HR, Hs01, HS⟩
  iintro %a0_9 %a1_9 %a2_9
  iapply (bind_step c)
  iapply (part10 X K c _ _ _ _)
  isplitr; · iexact HC
  isplitl [HR]; · iexact HR
  isplitl [HS]; · iexact HS
  iintro ⟨Hs10, HR, Hp16, Hs11, HS⟩
  iintro %a0_10
  iapply (bind_step c)
  iapply (part11 X K c _ _ _)
  isplitr; · iexact HC
  isplitl [HS]; · iexact HS
  isplitl [Hp16]; · iexact Hp16
  isplitl [HR]; · iexact HR
  iintro ⟨Hp25, Hs20, HR, HS, Hp26, Hs21⟩
  iintro %a0_11
  iapply (bind_step c)
  iapply (part12 X W K c _ _)
  isplitr; · iexact HC
  isplitl [HS]; · iexact HS
  isplitl [Hp25]; · iexact Hp25
  isplitl [Hp26]; · iexact Hp26
  isplitl [Hs00]; · iexact Hs00
  isplitl [Hw]; · iexact Hw
  isplitl [Hout]; · iexact Hout
  isplitl [Hs01]; · iexact Hs01
  iintro ⟨HS, Hs00, Hw, Hout, Hs01⟩
  iintro %a1_12
  iapply (bind_step c)
  iapply (part13 X W K c _ _)
  isplitr; · iexact HC
  isplitl [Hw]; · iexact Hw
  isplitl [Hout]; · iexact Hout
  isplitl [Hs10]; · iexact Hs10
  isplitl [Hs11]; · iexact Hs11
  iintro ⟨Hs10, Hw, Hout, Hs11⟩
  iintro %a1_13
  iapply (bind_step c)
  iapply (part14 X W K c _ _)
  isplitr; · iexact HC
  isplitl [Hw]; · iexact Hw
  isplitl [Hout]; · iexact Hout
  isplitl [Hs20]; · iexact Hs20
  isplitl [Hs21]; · iexact Hs21
  iintro ⟨Hs20, Hw, Hout, Hs21⟩
  iintro %a1_14
  iapply (bind_step c)
  iapply (part15 X W K c _ _)
  isplitr; · iexact HC
  isplitl [Hw]; · iexact Hw
  isplitl [Hout]; · iexact Hout
  iintro ⟨Hw, Hout⟩
  iintro %a0_15 %a1_15 %a2_15 %a3_15 %a4_15 %a5_15 %a6_15 %a7_15 %a8_15
  iapply (bind_step c)
  iapply (part16 X K c _ _ _)
  isplitr; · iexact HC
  isplitl [HR]; · iexact HR
  isplitl [HS]; · iexact HS
  isplitl [HT]; · iexact HT
  isplitl [HC0]; · iexact HC0
  isplitl [Hb0]; · iexact Hb0
  iintro ⟨HT, HC0, HF0, He0, HR, HS, Hr10⟩
  iintro %a0_16 %a1_16 %a2_16
  iapply (bind_step c)
  iapply (part17 X W K c _ _)
  isplitr; · iexact HC
  isplitl [HT]; · iexact HT
  isplitl [HC1]; · iexact HC1
  isplitl [Hb1]; · iexact Hb1
  isplitl [Hr10]; · iexact Hr10
  isplitl [HC0]; · iexact HC0
  isplitl [HF0]; · iexact HF0
  isplitl [HS]; · iexact HS
  isplitl [He0]; · iexact He0
  isplitl [Hw]; · iexact Hw
  isplitl [Hout]; · iexact Hout
  iintro ⟨HT, HC1, HF1, He1, HC0, HS, Hr00, Hb0, Hw, Hout⟩
  iintro %a0_17
  iapply (bind_step c)
  iapply (part18 X W K c _)
  isplitr; · iexact HC
  isplitl [HR]; · iexact HR
  isplitl [HS]; · iexact HS
  isplitl [HT]; · iexact HT
  isplitl [HC0]; · iexact HC0
  isplitl [Hb0]; · iexact Hb0
  isplitl [HC1]; · iexact HC1
  isplitl [HF1]; · iexact HF1
  isplitl [He1]; · iexact He1
  isplitl [Hw]; · iexact Hw
  iintro ⟨HR, HT, HC0, HF0, He0, HC1, HS, Hr10, Hb1, Hw⟩
  iintro %a1_18
  iapply (bind_step c)
  iapply (part19 X W K c _ _ _)
  isplitr; · iexact HC
  isplitl [Hout]; · iexact Hout
  isplitl [HR]; · iexact HR
  isplitl [HS]; · iexact HS
  isplitl [HT]; · iexact HT
  isplitl [HC1]; · iexact HC1
  isplitl [Hb1]; · iexact Hb1
  isplitl [HC0]; · iexact HC0
  isplitl [HF0]; · iexact HF0
  isplitl [He0]; · iexact He0
  isplitl [Hw]; · iexact Hw
  iintro ⟨Hout, HR, HT, HC1, HF1, He1, HC0, HS, Hr20, Hb0, Hw⟩
  iapply (bind_step c)
  iapply (part20 X W K c _ _)
  isplitr; · iexact HC
  isplitl [Hout]; · iexact Hout
  isplitl [HR]; · iexact HR
  isplitl [HS]; · iexact HS
  isplitl [HT]; · iexact HT
  isplitl [HC0]; · iexact HC0
  isplitl [Hb0]; · iexact Hb0
  isplitl [HC1]; · iexact HC1
  isplitl [HF1]; · iexact HF1
  iintro ⟨Hout, HR, HT, HC0, HF0, He0, HC1, HS, Hc1, Hr01⟩
  iapply (bind_step c)
  iapply (part21 X W K c _ _)
  isplitr; · iexact HC
  isplitl [Hc1]; · iexact Hc1
  isplitl [He1]; · iexact He1
  isplitl [Hw]; · iexact Hw
  isplitl [Hout]; · iexact Hout
  isplitl [HR]; · iexact HR
  isplitl [HS]; · iexact HS
  isplitl [HT]; · iexact HT
  isplitl [HC1]; · iexact HC1
  iintro ⟨Hw, Hout, HR, HS, HT, HC1, HF1, He1⟩
  iapply (bind_step c)
  iapply (part22 X W K c _ _)
  isplitr; · iexact HC
  isplitl [HC0]; · iexact HC0
  isplitl [HF0]; · iexact HF0
  isplitl [HS]; · iexact HS
  isplitl [He0]; · iexact He0
  isplitl [Hw]; · iexact Hw
  isplitl [Hout]; · iexact Hout
  isplitl [HR]; · iexact HR
  iintro ⟨HC0, Hr11, Hb0, Hw, Hout, HR, HS, Hr02⟩
  iapply (bind_step c)
  iapply (part23 X W K c _ _)
  isplitr; · iexact HC
  isplitl [HT]; · iexact HT
  isplitl [HC0]; · iexact HC0
  isplitl [Hb0]; · iexact Hb0
  isplitl [Hr02]; · iexact Hr02
  isplitl [HC1]; · iexact HC1
  isplitl [HF1]; · iexact HF1
  isplitl [HS]; · iexact HS
  isplitl [He1]; · iexact He1
  isplitl [Hw]; · iexact Hw
  isplitl [Hout]; · iexact Hout
  iintro ⟨HT, HC0, HF0, He0, HC1, HS, Hr21, Hb1, Hw, Hout⟩
  iapply (bind_step c)
  iapply (part24 X W K c _)
  isplitr; · iexact HC
  isplitl [HR]; · iexact HR
  isplitl [HS]; · iexact HS
  isplitl [HT]; · iexact HT
  isplitl [HC1]; · iexact HC1
  isplitl [Hb1]; · iexact Hb1
  isplitl [HC0]; · iexact HC0
  isplitl [HF0]; · iexact HF0
  isplitl [He0]; · iexact He0
  isplitl [Hw]; · iexact Hw
  iintro ⟨HR, HT, HC1, HF1, He1, HC0, HS, Hr02, Hb0, Hw⟩
  iapply (bind_step c)
  iapply (part25 X W K c _)
  isplitr; · iexact HC
  isplitl [Hout]; · iexact Hout
  isplitl [HR]; · iexact HR
  isplitl [HS]; · iexact HS
  isplitl [HT]; · iexact HT
  isplitl [HC0]; · iexact HC0
  isplitl [Hb0]; · iexact Hb0
  isplitl [HC1]; · iexact HC1
  isplitl [HF1]; · iexact HF1
  isplitl [He1]; · iexact He1
  isplitl [Hw]; · iexact Hw
  iintro ⟨Hout, HR, HT, HC0, HF0, He0, HC1, HS, Hr12, Hb1, Hw⟩
  iapply (bind_step c)
  iapply (part26 X W K c _ _)
  isplitr; · iexact HC
  isplitl [Hout]; · iexact Hout
  isplitl [HR]; · iexact HR
  isplitl [HS]; · iexact HS
  isplitl [HT]; · iexact HT
  isplitl [HC1]; · iexact HC1
  isplitl [Hb1]; · iexact Hb1
  iintro ⟨Hout, HR, HS, HT, HC1, HF1, He1⟩
  iapply (bind_step c)
  iapply (part27 X W K c _ _)
  isplitr; · iexact HC
  isplitl [HC0]; · iexact HC0
  isplitl [HF0]; · iexact HF0
  isplitl [HS]; · iexact HS
  isplitl [He0]; · iexact He0
  isplitl [Hw]; · iexact Hw
  isplitl [Hout]; · iexact Hout
  isplitl [HR]; · iexact HR
  iintro ⟨HC0, Hr22, Hb0, Hw, Hout, HR, HS, Hr13⟩
  iapply (bind_step c)
  iapply (part28 X W K c _ _)
  isplitr; · iexact HC
  isplitl [HT]; · iexact HT
  isplitl [HC0]; · iexact HC0
  isplitl [Hb0]; · iexact Hb0
  isplitl [Hr13]; · iexact Hr13
  isplitl [HC1]; · iexact HC1
  isplitl [HF1]; · iexact HF1
  isplitl [HS]; · iexact HS
  isplitl [He1]; · iexact He1
  isplitl [Hw]; · iexact Hw
  isplitl [Hout]; · iexact Hout
  iintro ⟨HT, HC0, HF0, He0, HC1, HS, Hr03, Hb1, Hw, Hout⟩
  iapply (bind_step c)
  iapply (part29 X W K c _)
  isplitr; · iexact HC
  isplitl [HR]; · iexact HR
  isplitl [HS]; · iexact HS
  isplitl [HT]; · iexact HT
  isplitl [HC1]; · iexact HC1
  isplitl [Hb1]; · iexact Hb1
  isplitl [HC0]; · iexact HC0
  isplitl [HF0]; · iexact HF0
  isplitl [He0]; · iexact He0
  isplitl [Hw]; · iexact Hw
  isplitl [Hout]; · iexact Hout
  iintro ⟨HR, HT, HC1, HF1, He1, HC0, HS, Hr13, Hb0, Hw, Hout⟩
  iapply (bind_step c)
  iapply (part30 X W K c _)
  isplitr; · iexact HC
  isplitl [HC1]; · iexact HC1
  isplitl [HF1]; · iexact HF1
  isplitl [HS]; · iexact HS
  isplitl [He1]; · iexact He1
  isplitl [Hw]; · iexact Hw
  isplitl [Hout]; · iexact Hout
  iintro ⟨HC1, Hr23, Hb1, Hw, Hout, HD⟩
  iapply (bind_step c)
  iapply (part31 X K c)
  isplitr; · iexact HC
  isplitl [HD]; · iexact HD
  iintro ⟨HD⟩
  iapply (bind_step c)
  iapply (part32 X K c)
  isplitr; · iexact HC
  isplitl [HD]; · iexact HD
  iintro ⟨HD⟩
  iapply (bind_step c)
  iapply (part33 X K c)
  isplitr; · iexact HC
  isplitl [HD]; · iexact HD
  iintro ⟨HD⟩
  iapply (bind_step c)
  iapply (part34 X K c)
  isplitr; · iexact HC
  isplitl [HD]; · iexact HD
  iintro ⟨HD⟩
  iapply (sent_step X K c (n := 20) (t := 2) (s := 6) (by decide) rfl (r2M 2 3) (r1M 2 1) rfl) $$ [HD]
  · isplitr; · iexact HC
    iexact HD
  iintro HD
  iapply (ret_step c)
  iapply Hk
  isplitl [Hbd]; · iexact Hbd
  isplitl [Hx]; · iexact Hx
  isplitl [Ha0]; · iexact Ha0
  isplitl [Ha1]; · iexact Ha1
  isplitl [Ha2]; · iexact Ha2
  isplitl [Hs00]; · iexact Hs00
  isplitl [Hs01]; · iexact Hs01
  isplitl [Hs10]; · iexact Hs10
  isplitl [Hs11]; · iexact Hs11
  isplitl [Hs20]; · iexact Hs20
  isplitl [Hs21]; · iexact Hs21
  isplitl [Hr00]; · iexact Hr00
  isplitl [Hr10]; · iexact Hr10
  isplitl [Hr20]; · iexact Hr20
  isplitl [Hr01]; · iexact Hr01
  isplitl [Hr11]; · iexact Hr11
  isplitl [Hr21]; · iexact Hr21
  isplitl [Hr02]; · iexact Hr02
  isplitl [Hr12]; · iexact Hr12
  isplitl [Hr22]; · iexact Hr22
  isplitl [Hr03]; · iexact Hr03
  isplitl [HR]; · iexact HR
  isplitl [HT]; · iexact HT
  isplitl [HC0]; · iexact HC0
  isplitl [Hr13]; · iexact Hr13
  isplitl [Hb0]; · iexact Hb0
  isplitl [HC1]; · iexact HC1
  isplitl [Hr23]; · iexact Hr23
  isplitl [Hb1]; · iexact Hb1
  isplitl [Hw]; · iexact Hw
  isplitl [Hout]; · iexact Hout
  iexact HD

end Cert.KernelIdeal.Ring

end
-- ==== Proof.Ring.Slots.lean ====
/-
  Whole buffers and their slots: how the buffers a device starts with are cut into the pieces the exchange
  moves, and how the pieces come together again.
-/
module

public import proofs.«01_k».proof.Proof.Ring.PartsBase

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-! ## Cutting a buffer by a function of its indices -/

theorem slots (ℓ : Loc nD τ sig) {n : ℕ} (p : Idx ℓ → Fin n) (q : PosShare TreeShare) (f : Buf (Elt F) ℓ) :
    (ℓ ↦{q} f : sProp 𝕄) = bigSep Finset.univ fun j => (ℓ ↦[Finset.univ.filter fun i => p i = j]{q} f) := by
  rw [← pointsTo_biUnion Finset.univ (fun j => Finset.univ.filter fun i => p i = j) (fun j _ j' _ h => Finset.disjoint_left.mpr fun i hi hi' =>
    h ((Finset.mem_filter.mp hi).2.symm.trans (Finset.mem_filter.mp hi').2))]
  have e : (Finset.univ.biUnion fun j => Finset.univ.filter fun i => p i = j) = (Finset.univ : Finset (Idx ℓ)) :=
    Finset.eq_univ_iff_forall.mpr fun i => Finset.mem_biUnion.mpr ⟨p i, Finset.mem_univ _, Finset.mem_filter.mpr ⟨Finset.mem_univ _, rfl⟩⟩
  rw [e]

theorem slots_join (ℓ : Loc nD τ sig) {n : ℕ} (p : Idx ℓ → Fin n) (q : PosShare TreeShare) (f : Fin n → Buf (Elt F) ℓ) :
    (bigSep Finset.univ fun j => (ℓ ↦[Finset.univ.filter fun i => p i = j]{q} f j)) = (ℓ ↦{q} (fun i => f (p i) i) : sProp 𝕄) := by
  rw [slots ℓ p q]
  exact bigSep_congr fun j _ => pointsTo_congr fun i hi => by rw [(Finset.mem_filter.mp hi).2]

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Pieces at given contents -/

theorem holds_of {sp : Space} {s : Shape} (M : Memref sig .tc sp s .bf16) (q : PosShare TreeShare) (f : Buf (Elt F) (M.view.loc (c : Thread nD τ)))
    {S : Finset (Idx (M.view.loc (c : Thread nD τ)))} (hS : M.view.set = S) :
    (M.view.loc (c : Thread nD τ) ↦[S]{q} f : sProp 𝕄) ⊢ holds c M q (M.view.read (Elt F) f) := by
  subst hS
  unfold holds
  iintro H
  iexists f
  isplitr; · ipureintro; rfl
  iexact H

theorem holds_to {sp : Space} {s : Shape} (M : Memref sig .tc sp s .bf16) (q : PosShare TreeShare) (f : Buf (Elt F) (M.view.loc (c : Thread nD τ)))
    {x : s.Idx → Elt F .bf16} (hx : x = M.view.read (Elt F) f) {S : Finset (Idx (M.view.loc (c : Thread nD τ)))} (hS : M.view.set = S) :
    holds c M q x ⊢ (M.view.loc (c : Thread nD τ) ↦[S]{q} f : sProp 𝕄) := by
  subst hS hx
  unfold holds
  iintro ⟨%g, %hg, H⟩
  have e : ∀ i ∈ M.view.set, g i = f i := by
    intro i hi
    obtain ⟨j, -, rfl⟩ := Finset.mem_map.mp hi
    have h := congrFun hg j
    rw [View.read_apply, View.read_apply] at h
    exact (cast_bijective _).1 h
  iapply (Entails.of_eq (pointsTo_congr e))
  iexact H

theorem hAny_of {sp : Space} {s : Shape} (M : Memref sig .tc sp s .bf16) (f : Buf (Elt F) (M.view.loc (c : Thread nD τ)))
    {S : Finset (Idx (M.view.loc (c : Thread nD τ)))} (hS : M.view.set = S) :
    (M.view.loc (c : Thread nD τ) ↦[S]{fullShare} f : sProp 𝕄) ⊢ hAny c M := by
  subst hS
  unfold hAny
  iintro H
  iexists f
  iexact H

theorem hAny_to {sp : Space} {s : Shape} (M : Memref sig .tc sp s .bf16) {S : Finset (Idx (M.view.loc (c : Thread nD τ)))} (hS : M.view.set = S) :
    hAny c M ⊢ (iprop(∃ f : Buf (Elt F) (M.view.loc (c : Thread nD τ)), (M.view.loc (c : Thread nD τ) ↦[S]{fullShare} f)) : sProp 𝕄) := by
  subst hS
  exact .rfl

/-- A buffer at anything. -/
abbrev bAny (b : Ref sig .tc) : sProp 𝕄 := iprop(∃ f : Buf (Elt F) ((c : Thread nD τ).loc b), ((c : Thread nD τ).loc b ↦{fullShare} f))

/-! ## The places of the pieces -/

/-- The slot an index lies in. -/
def slotOf (n a : ℕ) (i : (⟨3, ![n, a, 4096]⟩ : Shape).Idx) : Fin n := i 0

theorem x_set0 : (xM 0).view.set = (Finset.univ.filter fun i : S512x4096.Idx => slc (i 0).val = 0) := by
  refine (View.set_slice_whole cc0_stg0_0 (Rect.unit (s := S512x4096) ![0, 0] S176x4096.size inb_S512x4096_S176x4096_0_0)).trans ?_
  ext i
  rw [Rect.mem_set_unit, Finset.mem_filter]
  have h0 : (i 0).val < 512 := (i 0).isLt
  have h1 : (i 1).val < 4096 := (i 1).isLt
  constructor
  · intro h
    have h' : 0 ≤ (i 0).val ∧ (i 0).val < 0 + 176 := h 0
    refine ⟨Finset.mem_univ _, ?_⟩
    unfold slc
    rw [if_pos (by omega)]
  · rintro ⟨-, h⟩ a
    have l := slc_le (i 0).val
    have u := slc_lt h0
    rw [h] at l u
    have l' : 0 ≤ (i 0).val := l
    have u' : (i 0).val - 0 < 176 := u
    match a with
    | 0 => exact ⟨l', by show (i 0).val < 0 + 176; omega⟩
    | 1 => exact ⟨Nat.zero_le _, by show (i 1).val < 0 + 4096; omega⟩

theorem x_set1 : (xM 1).view.set = (Finset.univ.filter fun i : S512x4096.Idx => slc (i 0).val = 1) := by
  refine (View.set_slice_whole cc0_stg0_0 (Rect.unit (s := S512x4096) ![176, 0] S168x4096.size inb_S512x4096_S168x4096_176_0)).trans ?_
  ext i
  rw [Rect.mem_set_unit, Finset.mem_filter]
  have h0 : (i 0).val < 512 := (i 0).isLt
  have h1 : (i 1).val < 4096 := (i 1).isLt
  constructor
  · intro h
    have h' : 176 ≤ (i 0).val ∧ (i 0).val < 176 + 168 := h 0
    refine ⟨Finset.mem_univ _, ?_⟩
    unfold slc
    rw [if_neg (by omega), if_pos (by omega)]
  · rintro ⟨-, h⟩ a
    have l := slc_le (i 0).val
    have u := slc_lt h0
    rw [h] at l u
    have l' : 176 ≤ (i 0).val := l
    have u' : (i 0).val - 176 < 168 := u
    match a with
    | 0 => exact ⟨l', by show (i 0).val < 176 + 168; omega⟩
    | 1 => exact ⟨Nat.zero_le _, by show (i 1).val < 0 + 4096; omega⟩

theorem x_set2 : (xM 2).view.set = (Finset.univ.filter fun i : S512x4096.Idx => slc (i 0).val = 2) := by
  refine (View.set_slice_whole cc0_stg0_0 (Rect.unit (s := S512x4096) ![344, 0] S168x4096.size inb_S512x4096_S168x4096_344_0)).trans ?_
  ext i
  rw [Rect.mem_set_unit, Finset.mem_filter]
  have h0 : (i 0).val < 512 := (i 0).isLt
  have h1 : (i 1).val < 4096 := (i 1).isLt
  constructor
  · intro h
    have h' : 344 ≤ (i 0).val ∧ (i 0).val < 344 + 168 := h 0
    refine ⟨Finset.mem_univ _, ?_⟩
    unfold slc
    rw [if_neg (by omega), if_neg (by omega)]
  · rintro ⟨-, h⟩ a
    have l := slc_le (i 0).val
    have u := slc_lt h0
    rw [h] at l u
    have l' : 344 ≤ (i 0).val := l
    have u' : (i 0).val - 344 < 168 := u
    match a with
    | 0 => exact ⟨l', by show (i 0).val < 344 + 168; omega⟩
    | 1 => exact ⟨Nat.zero_le _, by show (i 1).val < 0 + 4096; omega⟩

theorem r1_set00 : (r1M 0 0).view.set = (Finset.univ.filter fun i : S2x176x4096.Idx => slotOf 2 176 i = 0) := by
  refine (set_squeeze cc0_scratch3 rfl (Rect.unit (s := S2x176x4096) ![0, 0, 0] S1x176x4096.size inb_S2x176x4096_S1x176x4096_0_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 176; omega⟩
    | 2 => exact ⟨Nat.zero_le _, by show (i 2).val < 0 + 4096; omega⟩

theorem r1_set01 : (r1M 0 1).view.set = (Finset.univ.filter fun i : S2x176x4096.Idx => slotOf 2 176 i = 1) := by
  refine (set_squeeze cc0_scratch3 rfl (Rect.unit (s := S2x176x4096) ![1, 0, 0] S1x176x4096.size inb_S2x176x4096_S1x176x4096_1_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 176; omega⟩
    | 2 => exact ⟨Nat.zero_le _, by show (i 2).val < 0 + 4096; omega⟩

theorem r2_set00 : (r2M 0 0).view.set = (Finset.univ.filter fun i : S4x176x4096.Idx => slotOf 4 176 i = 0) := by
  refine (set_squeeze main_v3_1 rfl (Rect.unit (s := S4x176x4096) ![0, 0, 0] S1x176x4096.size inb_S4x176x4096_S1x176x4096_0_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 176; omega⟩
    | 2 => exact ⟨Nat.zero_le _, by show (i 2).val < 0 + 4096; omega⟩

theorem r2_set01 : (r2M 0 1).view.set = (Finset.univ.filter fun i : S4x176x4096.Idx => slotOf 4 176 i = 1) := by
  refine (set_squeeze main_v3_1 rfl (Rect.unit (s := S4x176x4096) ![1, 0, 0] S1x176x4096.size inb_S4x176x4096_S1x176x4096_1_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 176; omega⟩
    | 2 => exact ⟨Nat.zero_le _, by show (i 2).val < 0 + 4096; omega⟩

theorem r2_set02 : (r2M 0 2).view.set = (Finset.univ.filter fun i : S4x176x4096.Idx => slotOf 4 176 i = 2) := by
  refine (set_squeeze main_v3_1 rfl (Rect.unit (s := S4x176x4096) ![2, 0, 0] S1x176x4096.size inb_S4x176x4096_S1x176x4096_2_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 2 ≤ (i 0).val ∧ (i 0).val < 2 + 1 := h 0
    exact ⟨Finset.mem_univ _, Fin.ext (by show (i 0).val = 2; omega)⟩
  · rintro ⟨-, h⟩ a
    have h' : (i 0).val = 2 := congrArg Fin.val h
    match a with
    | 0 => exact ⟨by show 2 ≤ (i 0).val; omega, by show (i 0).val < 2 + 1; omega⟩
    | 1 => exact ⟨Nat.zero_le _, by show (i 1).val < 0 + 176; omega⟩
    | 2 => exact ⟨Nat.zero_le _, by show (i 2).val < 0 + 4096; omega⟩

theorem r2_set03 : (r2M 0 3).view.set = (Finset.univ.filter fun i : S4x176x4096.Idx => slotOf 4 176 i = 3) := by
  refine (set_squeeze main_v3_1 rfl (Rect.unit (s := S4x176x4096) ![3, 0, 0] S1x176x4096.size inb_S4x176x4096_S1x176x4096_3_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 3 ≤ (i 0).val ∧ (i 0).val < 3 + 1 := h 0
    exact ⟨Finset.mem_univ _, Fin.ext (by show (i 0).val = 3; omega)⟩
  · rintro ⟨-, h⟩ a
    have h' : (i 0).val = 3 := congrArg Fin.val h
    match a with
    | 0 => exact ⟨by show 3 ≤ (i 0).val; omega, by show (i 0).val < 3 + 1; omega⟩
    | 1 => exact ⟨Nat.zero_le _, by show (i 1).val < 0 + 176; omega⟩
    | 2 => exact ⟨Nat.zero_le _, by show (i 2).val < 0 + 4096; omega⟩

theorem r1_set10 : (r1M 1 0).view.set = (Finset.univ.filter fun i : S2x168x4096.Idx => slotOf 2 168 i = 0) := by
  refine (set_squeeze cc0_scratch4 rfl (Rect.unit (s := S2x168x4096) ![0, 0, 0] S1x168x4096.size inb_S2x168x4096_S1x168x4096_0_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 168; omega⟩
    | 2 => exact ⟨Nat.zero_le _, by show (i 2).val < 0 + 4096; omega⟩

theorem r1_set11 : (r1M 1 1).view.set = (Finset.univ.filter fun i : S2x168x4096.Idx => slotOf 2 168 i = 1) := by
  refine (set_squeeze cc0_scratch4 rfl (Rect.unit (s := S2x168x4096) ![1, 0, 0] S1x168x4096.size inb_S2x168x4096_S1x168x4096_1_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 168; omega⟩
    | 2 => exact ⟨Nat.zero_le _, by show (i 2).val < 0 + 4096; omega⟩

theorem r2_set10 : (r2M 1 0).view.set = (Finset.univ.filter fun i : S4x168x4096.Idx => slotOf 4 168 i = 0) := by
  refine (set_squeeze main_v3_2 rfl (Rect.unit (s := S4x168x4096) ![0, 0, 0] S1x168x4096.size inb_S4x168x4096_S1x168x4096_0_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 168; omega⟩
    | 2 => exact ⟨Nat.zero_le _, by show (i 2).val < 0 + 4096; omega⟩

theorem r2_set11 : (r2M 1 1).view.set = (Finset.univ.filter fun i : S4x168x4096.Idx => slotOf 4 168 i = 1) := by
  refine (set_squeeze main_v3_2 rfl (Rect.unit (s := S4x168x4096) ![1, 0, 0] S1x168x4096.size inb_S4x168x4096_S1x168x4096_1_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 168; omega⟩
    | 2 => exact ⟨Nat.zero_le _, by show (i 2).val < 0 + 4096; omega⟩

theorem r2_set12 : (r2M 1 2).view.set = (Finset.univ.filter fun i : S4x168x4096.Idx => slotOf 4 168 i = 2) := by
  refine (set_squeeze main_v3_2 rfl (Rect.unit (s := S4x168x4096) ![2, 0, 0] S1x168x4096.size inb_S4x168x4096_S1x168x4096_2_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 2 ≤ (i 0).val ∧ (i 0).val < 2 + 1 := h 0
    exact ⟨Finset.mem_univ _, Fin.ext (by show (i 0).val = 2; omega)⟩
  · rintro ⟨-, h⟩ a
    have h' : (i 0).val = 2 := congrArg Fin.val h
    match a with
    | 0 => exact ⟨by show 2 ≤ (i 0).val; omega, by show (i 0).val < 2 + 1; omega⟩
    | 1 => exact ⟨Nat.zero_le _, by show (i 1).val < 0 + 168; omega⟩
    | 2 => exact ⟨Nat.zero_le _, by show (i 2).val < 0 + 4096; omega⟩

theorem r2_set13 : (r2M 1 3).view.set = (Finset.univ.filter fun i : S4x168x4096.Idx => slotOf 4 168 i = 3) := by
  refine (set_squeeze main_v3_2 rfl (Rect.unit (s := S4x168x4096) ![3, 0, 0] S1x168x4096.size inb_S4x168x4096_S1x168x4096_3_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 3 ≤ (i 0).val ∧ (i 0).val < 3 + 1 := h 0
    exact ⟨Finset.mem_univ _, Fin.ext (by show (i 0).val = 3; omega)⟩
  · rintro ⟨-, h⟩ a
    have h' : (i 0).val = 3 := congrArg Fin.val h
    match a with
    | 0 => exact ⟨by show 3 ≤ (i 0).val; omega, by show (i 0).val < 3 + 1; omega⟩
    | 1 => exact ⟨Nat.zero_le _, by show (i 1).val < 0 + 168; omega⟩
    | 2 => exact ⟨Nat.zero_le _, by show (i 2).val < 0 + 4096; omega⟩

theorem r1_set20 : (r1M 2 0).view.set = (Finset.univ.filter fun i : S2x168x4096.Idx => slotOf 2 168 i = 0) := by
  refine (set_squeeze cc0_scratch5 rfl (Rect.unit (s := S2x168x4096) ![0, 0, 0] S1x168x4096.size inb_S2x168x4096_S1x168x4096_0_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 168; omega⟩
    | 2 => exact ⟨Nat.zero_le _, by show (i 2).val < 0 + 4096; omega⟩

theorem r1_set21 : (r1M 2 1).view.set = (Finset.univ.filter fun i : S2x168x4096.Idx => slotOf 2 168 i = 1) := by
  refine (set_squeeze cc0_scratch5 rfl (Rect.unit (s := S2x168x4096) ![1, 0, 0] S1x168x4096.size inb_S2x168x4096_S1x168x4096_1_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 168; omega⟩
    | 2 => exact ⟨Nat.zero_le _, by show (i 2).val < 0 + 4096; omega⟩

theorem r2_set20 : (r2M 2 0).view.set = (Finset.univ.filter fun i : S4x168x4096.Idx => slotOf 4 168 i = 0) := by
  refine (set_squeeze main_v3_3 rfl (Rect.unit (s := S4x168x4096) ![0, 0, 0] S1x168x4096.size inb_S4x168x4096_S1x168x4096_0_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 168; omega⟩
    | 2 => exact ⟨Nat.zero_le _, by show (i 2).val < 0 + 4096; omega⟩

theorem r2_set21 : (r2M 2 1).view.set = (Finset.univ.filter fun i : S4x168x4096.Idx => slotOf 4 168 i = 1) := by
  refine (set_squeeze main_v3_3 rfl (Rect.unit (s := S4x168x4096) ![1, 0, 0] S1x168x4096.size inb_S4x168x4096_S1x168x4096_1_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 168; omega⟩
    | 2 => exact ⟨Nat.zero_le _, by show (i 2).val < 0 + 4096; omega⟩

theorem r2_set22 : (r2M 2 2).view.set = (Finset.univ.filter fun i : S4x168x4096.Idx => slotOf 4 168 i = 2) := by
  refine (set_squeeze main_v3_3 rfl (Rect.unit (s := S4x168x4096) ![2, 0, 0] S1x168x4096.size inb_S4x168x4096_S1x168x4096_2_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 2 ≤ (i 0).val ∧ (i 0).val < 2 + 1 := h 0
    exact ⟨Finset.mem_univ _, Fin.ext (by show (i 0).val = 2; omega)⟩
  · rintro ⟨-, h⟩ a
    have h' : (i 0).val = 2 := congrArg Fin.val h
    match a with
    | 0 => exact ⟨by show 2 ≤ (i 0).val; omega, by show (i 0).val < 2 + 1; omega⟩
    | 1 => exact ⟨Nat.zero_le _, by show (i 1).val < 0 + 168; omega⟩
    | 2 => exact ⟨Nat.zero_le _, by show (i 2).val < 0 + 4096; omega⟩

theorem r2_set23 : (r2M 2 3).view.set = (Finset.univ.filter fun i : S4x168x4096.Idx => slotOf 4 168 i = 3) := by
  refine (set_squeeze main_v3_3 rfl (Rect.unit (s := S4x168x4096) ![3, 0, 0] S1x168x4096.size inb_S4x168x4096_S1x168x4096_3_0_0) (fun _ => rfl) squeezes_S1x168x4096_S168x4096).trans ?_
  ext i
  rw [Rect.mem_set_unit, Finset.mem_filter]
  have h1 : (i 1).val < 168 := (i 1).isLt
  have h2 : (i 2).val < 4096 := (i 2).isLt
  constructor
  · intro h
    have h' : 3 ≤ (i 0).val ∧ (i 0).val < 3 + 1 := h 0
    exact ⟨Finset.mem_univ _, Fin.ext (by show (i 0).val = 3; omega)⟩
  · rintro ⟨-, h⟩ a
    have h' : (i 0).val = 3 := congrArg Fin.val h
    match a with
    | 0 => exact ⟨by show 3 ≤ (i 0).val; omega, by show (i 0).val < 3 + 1; omega⟩
    | 1 => exact ⟨Nat.zero_le _, by show (i 1).val < 0 + 168; omega⟩
    | 2 => exact ⟨Nat.zero_le _, by show (i 2).val < 0 + 4096; omega⟩

theorem g_set0 : (gM 0 0).view.set = (Finset.univ.filter fun i : S2x176x4096.Idx => slotOf 2 176 i = 0) := by
  refine (set_squeeze cc0_scratch6 rfl (Rect.unit (s := S2x176x4096) ![0, 0, 0] S1x176x4096.size inb_S2x176x4096_S1x176x4096_0_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 0 ≤ (i 0).val ∧ (i 0).val < 0 + 1 := h 0
    exact ⟨Finset.mem_univ _, Fin.ext (by show (i 0).val = 0; omega)⟩
  · rintro ⟨-, h⟩ a
    have h' : (i 0).val = 0 := congrArg Fin.val h
    match a with
    | 0 => exact ⟨by show 0 ≤ (i 0).val; omega, by show (i 0).val < 0 + 1; omega⟩
    | 1 => exact ⟨Nat.zero_le _, by show (i 1).val < 0 + 176; omega⟩
    | 2 => exact ⟨Nat.zero_le _, by show (i 2).val < 0 + 4096; omega⟩

theorem g_set1 : (gM 0 1).view.set = (Finset.univ.filter fun i : S2x176x4096.Idx => slotOf 2 176 i = 1) := by
  refine (set_squeeze cc0_scratch6 rfl (Rect.unit (s := S2x176x4096) ![1, 0, 0] S1x176x4096.size inb_S2x176x4096_S1x176x4096_1_0_0) (fun _ => rfl) squeezes_S1x176x4096_S176x4096).trans ?_
  ext i
  rw [Rect.mem_set_unit, Finset.mem_filter]
  have h1 : (i 1).val < 176 := (i 1).isLt
  have h2 : (i 2).val < 4096 := (i 2).isLt
  constructor
  · intro h
    have h' : 1 ≤ (i 0).val ∧ (i 0).val < 1 + 1 := h 0
    exact ⟨Finset.mem_univ _, Fin.ext (by show (i 0).val = 1; omega)⟩
  · rintro ⟨-, h⟩ a
    have h' : (i 0).val = 1 := congrArg Fin.val h
    match a with
    | 0 => exact ⟨by show 1 ≤ (i 0).val; omega, by show (i 0).val < 1 + 1; omega⟩
    | 1 => exact ⟨Nat.zero_le _, by show (i 1).val < 0 + 176; omega⟩
    | 2 => exact ⟨Nat.zero_le _, by show (i 2).val < 0 + 4096; omega⟩

/-! ## The staged block of `x` -/

/-- The shares of slice `t` that are lent to the three transfers of a device's own rows. -/
abbrev XOut (t : Fin 3) : sProp 𝕄 := iprop(sendPay X t c 0 ∗ sendPay X t c 1 ∗ sendPay X t c 3)

theorem x_lend (t : Fin 3) : holds c (xM t) (fullShare : PosShare TreeShare).right (xt X t c) ⊢ XOut X c t := by
  show holds c (xM t) (fullShare : PosShare TreeShare).right (xt X t c) ⊢ iprop(holds c (xM t) p1 (xt X t c) ∗ holds c (xM t) p2 (xt X t c) ∗ holds c (xM t) p3 (xt X t c))
  exact (holds_split c _ _ _).trans (BIClass.sep_mono .rfl (holds_split c _ _ _))

theorem x_back (t : Fin 3) : XOut X c t ⊢ holds c (xM t) (fullShare : PosShare TreeShare).right (xt X t c) := by
  show iprop(holds c (xM t) p1 (xt X t c) ∗ holds c (xM t) p2 (xt X t c) ∗ holds c (xM t) p3 (xt X t c)) ⊢ holds c (xM t) (fullShare : PosShare TreeShare).right (xt X t c)
  exact (BIClass.sep_mono .rfl (holds_merge c _ _ _)).trans (holds_merge c _ _ _)

theorem x_in : (((c : Thread nD τ).loc cc0_stg0_0) ↦{fullShare} X c : sProp 𝕄) ⊢ iprop(Xl X c ∗ XOut X c 0 ∗ XOut X c 1 ∗ XOut X c 2) := by
  refine (pointsTo_share (PosShare.mem_left_op_right fullShare)).1.trans (BIClass.sep_mono ?_ ?_)
  · exact holds_of c (Memref.whole cc0_stg0_0 : Memref sig .tc .vmem S512x4096 .bf16) _ (X c) (View.set_whole _)
  · rw [slots ((c : Thread nD τ).loc cc0_stg0_0) (fun i : S512x4096.Idx => slc (i 0).val), bigSep_fin3]
    exact BIClass.sep_mono ((holds_of c (xM 0) _ (X c) x_set0).trans (x_lend X c 0))
      (BIClass.sep_mono ((holds_of c (xM 1) _ (X c) x_set1).trans (x_lend X c 1)) ((holds_of c (xM 2) _ (X c) x_set2).trans (x_lend X c 2)))

theorem x_out : iprop(Xl X c ∗ XOut X c 0 ∗ XOut X c 1 ∗ XOut X c 2) ⊢ (((c : Thread nD τ).loc cc0_stg0_0) ↦{fullShare} X c : sProp 𝕄) := by
  refine BIBase.Entails.trans (BIClass.sep_mono ?_ ?_) (pointsTo_share (PosShare.mem_left_op_right fullShare)).2
  · exact holds_to c (Memref.whole cc0_stg0_0 : Memref sig .tc .vmem S512x4096 .bf16) _ (X c) rfl (View.set_whole _)
  · rw [slots ((c : Thread nD τ).loc cc0_stg0_0) (fun i : S512x4096.Idx => slc (i 0).val), bigSep_fin3]
    exact BIClass.sep_mono ((x_back X c 0).trans (holds_to c (xM 0) _ (X c) rfl x_set0))
      (BIClass.sep_mono ((x_back X c 1).trans (holds_to c (xM 1) _ (X c) rfl x_set1)) ((x_back X c 2).trans (holds_to c (xM 2) _ (X c) rfl x_set2)))

theorem w_in : ((c : Thread nD τ).loc cc0_stg1_0 ↦{fullShare} W c : sProp 𝕄) ⊢ Wt W c :=
  holds_of c (Memref.whole cc0_stg1_0 : Memref sig .tc .vmem S4096x1024 .bf16) _ (W c) (View.set_whole _)
theorem w_out : Wt W c ⊢ ((c : Thread nD τ).loc cc0_stg1_0 ↦{fullShare} W c : sProp 𝕄) :=
  holds_to c (Memref.whole cc0_stg1_0 : Memref sig .tc .vmem S4096x1024 .bf16) _ (W c) rfl (View.set_whole _)

theorem out_in (f : Buf (Elt F) ((c : Thread nD τ).loc cc0_stg2_0)) : ((c : Thread nD τ).loc cc0_stg2_0 ↦{fullShare} f : sProp 𝕄) ⊢ OutSt X W c [] := by
  unfold OutSt
  iintro H
  iexists f
  isplitr
  · ipureintro
    intro p hp
    exact absurd hp (List.not_mem_nil)
  iexact H

/-! ## The landing buffers -/

theorem r0_in0 : bAny c cc0_scratch0 ⊢ (landPay 0 c 0 : sProp 𝕄) := by
  show bAny c cc0_scratch0 ⊢ (hAny c (r0M 0) : sProp 𝕄)
  iintro ⟨%f, H⟩
  iapply (hAny_of c (r0M 0) f (View.set_whole _))
  iexact H
theorem r0_out0 : recvPay X 0 c 0 ⊢ (bAny c cc0_scratch0 : sProp 𝕄) :=
  (holds_any c (r0M 0) _).trans (hAny_to c (r0M 0) (View.set_whole _))

theorem r0_in1 : bAny c cc0_scratch1 ⊢ (landPay 1 c 0 : sProp 𝕄) := by
  show bAny c cc0_scratch1 ⊢ (hAny c (r0M 1) : sProp 𝕄)
  iintro ⟨%f, H⟩
  iapply (hAny_of c (r0M 1) f (View.set_whole _))
  iexact H
theorem r0_out1 : recvPay X 1 c 0 ⊢ (bAny c cc0_scratch1 : sProp 𝕄) :=
  (holds_any c (r0M 1) _).trans (hAny_to c (r0M 1) (View.set_whole _))

theorem r0_in2 : bAny c cc0_scratch2 ⊢ (landPay 2 c 0 : sProp 𝕄) := by
  show bAny c cc0_scratch2 ⊢ (hAny c (r0M 2) : sProp 𝕄)
  iintro ⟨%f, H⟩
  iapply (hAny_of c (r0M 2) f (View.set_whole _))
  iexact H
theorem r0_out2 : recvPay X 2 c 0 ⊢ (bAny c cc0_scratch2 : sProp 𝕄) :=
  (holds_any c (r0M 2) _).trans (hAny_to c (r0M 2) (View.set_whole _))

theorem r1_0_at (f : Buf (Elt F) ((c : Thread nD τ).loc cc0_scratch3)) : (((c : Thread nD τ).loc cc0_scratch3) ↦{fullShare} f : sProp 𝕄) ⊢ iprop(hAny c (r1M 0 0) ∗ hAny c (r1M 0 1)) := by
  rw [slots (n := 2) ((c : Thread nD τ).loc cc0_scratch3) (slotOf 2 176), BI.bigSep_fin_two]
  exact BIClass.sep_mono (hAny_of c (r1M 0 0) f r1_set00) (hAny_of c (r1M 0 1) f r1_set01)
theorem r1_0_in : bAny c cc0_scratch3 ⊢ (iprop(hAny c (r1M 0 0) ∗ hAny c (r1M 0 1)) : sProp 𝕄) := by
  iintro ⟨%f, H⟩
  iapply (r1_0_at c f)
  iexact H
theorem r1_0_to (f g : Buf (Elt F) ((c : Thread nD τ).loc cc0_scratch3)) : (iprop((((c : Thread nD τ).loc cc0_scratch3) ↦[Finset.univ.filter fun i : S2x176x4096.Idx => slotOf 2 176 i = 0]{fullShare} f)
    ∗ (((c : Thread nD τ).loc cc0_scratch3) ↦[Finset.univ.filter fun i : S2x176x4096.Idx => slotOf 2 176 i = 1]{fullShare} g)) : sProp 𝕄) ⊢ bAny c cc0_scratch3 := by
  refine (Entails.of_eq ((BI.bigSep_fin_two _).symm.trans (slots_join (n := 2) ((c : Thread nD τ).loc cc0_scratch3) (slotOf 2 176) fullShare (fun | 0 => f | 1 => g)))).trans ?_
  iintro H
  iexists _
  iexact H
theorem r1_0_out : (iprop(hAny c (r1M 0 0) ∗ hAny c (r1M 0 1)) : sProp 𝕄) ⊢ bAny c cc0_scratch3 := by
  refine (BIClass.sep_mono (hAny_to c (r1M 0 0) r1_set00) (hAny_to c (r1M 0 1) r1_set01)).trans ?_
  iintro ⟨⟨%f, H0⟩, ⟨%g, H1⟩⟩
  iapply (r1_0_to c f g)
  isplitl [H0]
  · iexact H0
  iexact H1

theorem r1_1_at (f : Buf (Elt F) ((c : Thread nD τ).loc cc0_scratch4)) : (((c : Thread nD τ).loc cc0_scratch4) ↦{fullShare} f : sProp 𝕄) ⊢ iprop(hAny c (r1M 1 0) ∗ hAny c (r1M 1 1)) := by
  rw [slots (n := 2) ((c : Thread nD τ).loc cc0_scratch4) (slotOf 2 168), BI.bigSep_fin_two]
  exact BIClass.sep_mono (hAny_of c (r1M 1 0) f r1_set10) (hAny_of c (r1M 1 1) f r1_set11)
theorem r1_1_in : bAny c cc0_scratch4 ⊢ (iprop(hAny c (r1M 1 0) ∗ hAny c (r1M 1 1)) : sProp 𝕄) := by
  iintro ⟨%f, H⟩
  iapply (r1_1_at c f)
  iexact H
theorem r1_1_to (f g : Buf (Elt F) ((c : Thread nD τ).loc cc0_scratch4)) : (iprop((((c : Thread nD τ).loc cc0_scratch4) ↦[Finset.univ.filter fun i : S2x168x4096.Idx => slotOf 2 168 i = 0]{fullShare} f)
    ∗ (((c : Thread nD τ).loc cc0_scratch4) ↦[Finset.univ.filter fun i : S2x168x4096.Idx => slotOf 2 168 i = 1]{fullShare} g)) : sProp 𝕄) ⊢ bAny c cc0_scratch4 := by
  refine (Entails.of_eq ((BI.bigSep_fin_two _).symm.trans (slots_join (n := 2) ((c : Thread nD τ).loc cc0_scratch4) (slotOf 2 168) fullShare (fun | 0 => f | 1 => g)))).trans ?_
  iintro H
  iexists _
  iexact H
theorem r1_1_out : (iprop(hAny c (r1M 1 0) ∗ hAny c (r1M 1 1)) : sProp 𝕄) ⊢ bAny c cc0_scratch4 := by
  refine (BIClass.sep_mono (hAny_to c (r1M 1 0) r1_set10) (hAny_to c (r1M 1 1) r1_set11)).trans ?_
  iintro ⟨⟨%f, H0⟩, ⟨%g, H1⟩⟩
  iapply (r1_1_to c f g)
  isplitl [H0]
  · iexact H0
  iexact H1

theorem r1_2_at (f : Buf (Elt F) ((c : Thread nD τ).loc cc0_scratch5)) : (((c : Thread nD τ).loc cc0_scratch5) ↦{fullShare} f : sProp 𝕄) ⊢ iprop(hAny c (r1M 2 0) ∗ hAny c (r1M 2 1)) := by
  rw [slots (n := 2) ((c : Thread nD τ).loc cc0_scratch5) (slotOf 2 168), BI.bigSep_fin_two]
  exact BIClass.sep_mono (hAny_of c (r1M 2 0) f r1_set20) (hAny_of c (r1M 2 1) f r1_set21)
theorem r1_2_in : bAny c cc0_scratch5 ⊢ (iprop(hAny c (r1M 2 0) ∗ hAny c (r1M 2 1)) : sProp 𝕄) := by
  iintro ⟨%f, H⟩
  iapply (r1_2_at c f)
  iexact H
theorem r1_2_to (f g : Buf (Elt F) ((c : Thread nD τ).loc cc0_scratch5)) : (iprop((((c : Thread nD τ).loc cc0_scratch5) ↦[Finset.univ.filter fun i : S2x168x4096.Idx => slotOf 2 168 i = 0]{fullShare} f)
    ∗ (((c : Thread nD τ).loc cc0_scratch5) ↦[Finset.univ.filter fun i : S2x168x4096.Idx => slotOf 2 168 i = 1]{fullShare} g)) : sProp 𝕄) ⊢ bAny c cc0_scratch5 := by
  refine (Entails.of_eq ((BI.bigSep_fin_two _).symm.trans (slots_join (n := 2) ((c : Thread nD τ).loc cc0_scratch5) (slotOf 2 168) fullShare (fun | 0 => f | 1 => g)))).trans ?_
  iintro H
  iexists _
  iexact H
theorem r1_2_out : (iprop(hAny c (r1M 2 0) ∗ hAny c (r1M 2 1)) : sProp 𝕄) ⊢ bAny c cc0_scratch5 := by
  refine (BIClass.sep_mono (hAny_to c (r1M 2 0) r1_set20) (hAny_to c (r1M 2 1) r1_set21)).trans ?_
  iintro ⟨⟨%f, H0⟩, ⟨%g, H1⟩⟩
  iapply (r1_2_to c f g)
  isplitl [H0]
  · iexact H0
  iexact H1

theorem g_at (f : Buf (Elt F) ((c : Thread nD τ).loc cc0_scratch6)) : (((c : Thread nD τ).loc cc0_scratch6) ↦{fullShare} f : sProp 𝕄) ⊢ iprop(hAny c (gM 0 0) ∗ hAny c (gM 0 1)) := by
  rw [slots (n := 2) ((c : Thread nD τ).loc cc0_scratch6) (slotOf 2 176), BI.bigSep_fin_two]
  exact BIClass.sep_mono (hAny_of c (gM 0 0) f g_set0) (hAny_of c (gM 0 1) f g_set1)
theorem g_in : bAny c cc0_scratch6 ⊢ (iprop(hAny c (gM 0 0) ∗ hAny c (gM 0 1)) : sProp 𝕄) := by
  iintro ⟨%f, H⟩
  iapply (g_at c f)
  iexact H
theorem g_to (f g : Buf (Elt F) ((c : Thread nD τ).loc cc0_scratch6)) : (iprop((((c : Thread nD τ).loc cc0_scratch6) ↦[Finset.univ.filter fun i : S2x176x4096.Idx => slotOf 2 176 i = 0]{fullShare} f)
    ∗ (((c : Thread nD τ).loc cc0_scratch6) ↦[Finset.univ.filter fun i : S2x176x4096.Idx => slotOf 2 176 i = 1]{fullShare} g)) : sProp 𝕄) ⊢ bAny c cc0_scratch6 := by
  refine (Entails.of_eq ((BI.bigSep_fin_two _).symm.trans (slots_join (n := 2) ((c : Thread nD τ).loc cc0_scratch6) (slotOf 2 176) fullShare (fun | 0 => f | 1 => g)))).trans ?_
  iintro H
  iexists _
  iexact H
theorem g_out : (iprop(hAny c (gM 0 0) ∗ hAny c (gM 0 1)) : sProp 𝕄) ⊢ bAny c cc0_scratch6 := by
  refine (BIClass.sep_mono (hAny_to c (gM 0 0) g_set0) (hAny_to c (gM 0 1) g_set1)).trans ?_
  iintro ⟨⟨%f, H0⟩, ⟨%g, H1⟩⟩
  iapply (g_to c f g)
  isplitl [H0]
  · iexact H0
  iexact H1

/-! ## The buffers in memory that a device receives its third-step rows in -/

/-- What slot `j` holds after the exchange, the rest of the buffer being `f`. -/
def slotV0 (f : Buf (Elt F) ((c : Thread nD τ).loc main_v3_1)) : Fin 4 → Buf (Elt F) ((c : Thread nD τ).loc main_v3_1)
  | 0 => (r2M 0 0).view.write (Elt F) f (xt X 0 (org 0 c 3)) Finset.univ
  | 1 => (r2M 0 1).view.write (Elt F) f (xt X 0 (org 0 c 4)) Finset.univ
  | 2 => (r2M 0 2).view.write (Elt F) f (xt X 0 (org 0 c 5)) Finset.univ
  | 3 => (r2M 0 3).view.write (Elt F) f (xt X 0 (org 0 c 6)) Finset.univ

/-- What the buffer holds after the exchange. -/
def landed0 (f : Buf (Elt F) ((c : Thread nD τ).loc main_v3_1)) : Buf (Elt F) ((c : Thread nD τ).loc main_v3_1) := fun i => slotV0 X c f ((slotOf 4 176) i) i

theorem r2_in0 (f : Buf (Elt F) ((c : Thread nD τ).loc main_v3_1)) : (((c : Thread nD τ).loc main_v3_1) ↦{fullShare} f : sProp 𝕄)
    ⊢ iprop(landPay 0 c 3 ∗ landPay 0 c 4 ∗ landPay 0 c 5 ∗ landPay 0 c 6) := by
  rw [slots (n := 4) ((c : Thread nD τ).loc main_v3_1) (slotOf 4 176), bigSep_fin4]
  exact BIClass.sep_mono (hAny_of c (r2M 0 0) f r2_set00) (BIClass.sep_mono (hAny_of c (r2M 0 1) f r2_set01)
    (BIClass.sep_mono (hAny_of c (r2M 0 2) f r2_set02) (hAny_of c (r2M 0 3) f r2_set03)))

theorem r2_out0 (f : Buf (Elt F) ((c : Thread nD τ).loc main_v3_1)) : iprop(R2 X c 0 0 ∗ R2 X c 0 1 ∗ R2 X c 0 2 ∗ R2 X c 0 3)
    ⊢ (((c : Thread nD τ).loc main_v3_1) ↦{fullShare} landed0 X c f : sProp 𝕄) := by
  unfold landed0
  rw [← slots_join (n := 4) ((c : Thread nD τ).loc main_v3_1) (slotOf 4 176) fullShare (slotV0 X c f), bigSep_fin4]
  exact BIClass.sep_mono (holds_to c (r2M 0 0) fullShare (slotV0 X c f 0) (View.read_write_univ ..).symm r2_set00)
    (BIClass.sep_mono (holds_to c (r2M 0 1) fullShare (slotV0 X c f 1) (View.read_write_univ ..).symm r2_set01)
    (BIClass.sep_mono (holds_to c (r2M 0 2) fullShare (slotV0 X c f 2) (View.read_write_univ ..).symm r2_set02)
      (holds_to c (r2M 0 3) fullShare (slotV0 X c f 3) (View.read_write_univ ..).symm r2_set03)))

/-- What slot `j` holds after the exchange, the rest of the buffer being `f`. -/
def slotV1 (f : Buf (Elt F) ((c : Thread nD τ).loc main_v3_2)) : Fin 4 → Buf (Elt F) ((c : Thread nD τ).loc main_v3_2)
  | 0 => (r2M 1 0).view.write (Elt F) f (xt X 1 (org 1 c 3)) Finset.univ
  | 1 => (r2M 1 1).view.write (Elt F) f (xt X 1 (org 1 c 4)) Finset.univ
  | 2 => (r2M 1 2).view.write (Elt F) f (xt X 1 (org 1 c 5)) Finset.univ
  | 3 => (r2M 1 3).view.write (Elt F) f (xt X 1 (org 1 c 6)) Finset.univ

/-- What the buffer holds after the exchange. -/
def landed1 (f : Buf (Elt F) ((c : Thread nD τ).loc main_v3_2)) : Buf (Elt F) ((c : Thread nD τ).loc main_v3_2) := fun i => slotV1 X c f ((slotOf 4 168) i) i

theorem r2_in1 (f : Buf (Elt F) ((c : Thread nD τ).loc main_v3_2)) : (((c : Thread nD τ).loc main_v3_2) ↦{fullShare} f : sProp 𝕄)
    ⊢ iprop(landPay 1 c 3 ∗ landPay 1 c 4 ∗ landPay 1 c 5 ∗ landPay 1 c 6) := by
  rw [slots (n := 4) ((c : Thread nD τ).loc main_v3_2) (slotOf 4 168), bigSep_fin4]
  exact BIClass.sep_mono (hAny_of c (r2M 1 0) f r2_set10) (BIClass.sep_mono (hAny_of c (r2M 1 1) f r2_set11)
    (BIClass.sep_mono (hAny_of c (r2M 1 2) f r2_set12) (hAny_of c (r2M 1 3) f r2_set13)))

theorem r2_out1 (f : Buf (Elt F) ((c : Thread nD τ).loc main_v3_2)) : iprop(R2 X c 1 0 ∗ R2 X c 1 1 ∗ R2 X c 1 2 ∗ R2 X c 1 3)
    ⊢ (((c : Thread nD τ).loc main_v3_2) ↦{fullShare} landed1 X c f : sProp 𝕄) := by
  unfold landed1
  rw [← slots_join (n := 4) ((c : Thread nD τ).loc main_v3_2) (slotOf 4 168) fullShare (slotV1 X c f), bigSep_fin4]
  exact BIClass.sep_mono (holds_to c (r2M 1 0) fullShare (slotV1 X c f 0) (View.read_write_univ ..).symm r2_set10)
    (BIClass.sep_mono (holds_to c (r2M 1 1) fullShare (slotV1 X c f 1) (View.read_write_univ ..).symm r2_set11)
    (BIClass.sep_mono (holds_to c (r2M 1 2) fullShare (slotV1 X c f 2) (View.read_write_univ ..).symm r2_set12)
      (holds_to c (r2M 1 3) fullShare (slotV1 X c f 3) (View.read_write_univ ..).symm r2_set13)))

/-- What slot `j` holds after the exchange, the rest of the buffer being `f`. -/
def slotV2 (f : Buf (Elt F) ((c : Thread nD τ).loc main_v3_3)) : Fin 4 → Buf (Elt F) ((c : Thread nD τ).loc main_v3_3)
  | 0 => (r2M 2 0).view.write (Elt F) f (xt X 2 (org 2 c 3)) Finset.univ
  | 1 => (r2M 2 1).view.write (Elt F) f (xt X 2 (org 2 c 4)) Finset.univ
  | 2 => (r2M 2 2).view.write (Elt F) f (xt X 2 (org 2 c 5)) Finset.univ
  | 3 => (r2M 2 3).view.write (Elt F) f (xt X 2 (org 2 c 6)) Finset.univ

/-- What the buffer holds after the exchange. -/
def landed2 (f : Buf (Elt F) ((c : Thread nD τ).loc main_v3_3)) : Buf (Elt F) ((c : Thread nD τ).loc main_v3_3) := fun i => slotV2 X c f ((slotOf 4 168) i) i

theorem r2_in2 (f : Buf (Elt F) ((c : Thread nD τ).loc main_v3_3)) : (((c : Thread nD τ).loc main_v3_3) ↦{fullShare} f : sProp 𝕄)
    ⊢ iprop(landPay 2 c 3 ∗ landPay 2 c 4 ∗ landPay 2 c 5 ∗ landPay 2 c 6) := by
  rw [slots (n := 4) ((c : Thread nD τ).loc main_v3_3) (slotOf 4 168), bigSep_fin4]
  exact BIClass.sep_mono (hAny_of c (r2M 2 0) f r2_set20) (BIClass.sep_mono (hAny_of c (r2M 2 1) f r2_set21)
    (BIClass.sep_mono (hAny_of c (r2M 2 2) f r2_set22) (hAny_of c (r2M 2 3) f r2_set23)))

theorem r2_out2 (f : Buf (Elt F) ((c : Thread nD τ).loc main_v3_3)) : iprop(R2 X c 2 0 ∗ R2 X c 2 1 ∗ R2 X c 2 2 ∗ R2 X c 2 3)
    ⊢ (((c : Thread nD τ).loc main_v3_3) ↦{fullShare} landed2 X c f : sProp 𝕄) := by
  unfold landed2
  rw [← slots_join (n := 4) ((c : Thread nD τ).loc main_v3_3) (slotOf 4 168) fullShare (slotV2 X c f), bigSep_fin4]
  exact BIClass.sep_mono (holds_to c (r2M 2 0) fullShare (slotV2 X c f 0) (View.read_write_univ ..).symm r2_set20)
    (BIClass.sep_mono (holds_to c (r2M 2 1) fullShare (slotV2 X c f 1) (View.read_write_univ ..).symm r2_set21)
    (BIClass.sep_mono (holds_to c (r2M 2 2) fullShare (slotV2 X c f 2) (View.read_write_univ ..).symm r2_set22)
      (holds_to c (r2M 2 3) fullShare (slotV2 X c f 3) (View.read_write_univ ..).symm r2_set23)))

end Cert.KernelIdeal.Ring

end
-- ==== Proof.Ring.Enter.lean ====
/-
  Entering and leaving the body: what a device holds when its counters are open and its buffers are at hand is
  what the body starts from, and what the body ends with is the buffers again, with every counter closed.
-/
module

public import proofs.«01_k».proof.Proof.Ring.Chain
public import proofs.«01_k».proof.Proof.Ring.Slots

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (X : Xs F) (W : Ws F) (K : GSem nD τ sig → ℕ) (c : Dev nD)

/-! ## A device's own counters -/

def sIdx (p : Fin 3 × Fin 7) : Fin 44 := ⟨7 * p.1.val + p.2.val, by omega⟩
def rIdx (p : Fin 3 × Fin 7) : Fin 44 := ⟨21 + (7 * p.1.val + p.2.val), by omega⟩

/-- The counters listed: sending, landing, local copies. -/
def ownL : List (Fin 44) := starts.map sIdx ++ (lands.map rIdx ++ [42, 43])

theorem ownL_all : (Finset.univ : Finset (Fin 44)) = ownL.toFinset := by decide +kernel
theorem ownL_nodup : ownL.Nodup := by decide +kernel

abbrev scell (k : Fin 44) : GSem nD τ sig := ((c : Thread nD τ), osem k)

theorem scell_s (p : Fin 3 × Fin 7) : scell c (sIdx p) = sendCell c p.1 p.2 :=
  congrArg (fun s : Fin 47 => (((c : Thread nD τ), SemLoc.dma s) : GSem nD τ sig)) (Fin.ext (by
    show 3 + (7 * p.1.val + p.2.val) = 3 + 7 * p.1.val + p.2.val; omega))
theorem scell_r (p : Fin 3 × Fin 7) : scell c (rIdx p) = recvCell c p.1 p.2 :=
  congrArg (fun s : Fin 47 => (((c : Thread nD τ), SemLoc.dma s) : GSem nD τ sig)) (Fin.ext (by
    show 3 + (21 + (7 * p.1.val + p.2.val)) = 24 + 7 * p.1.val + p.2.val; omega))

theorem bigSepL_maps {I J : Type} (l : List I) (f : I → J) (Φ : J → sProp 𝕄) : bigSepL (l.map f) Φ = bigSepL l fun i => Φ (f i) := by
  induction l with
  | nil => rfl
  | cons x l ih => rw [List.map_cons, bigSepL_cons', bigSepL_cons', ih]

theorem own_list (Φ : GSem nD τ sig → sProp 𝕄) : (bigSep Finset.univ fun k : Fin 44 => Φ (scell c k))
    = iprop((bigSepL starts fun p => Φ (sendCell c p.1 p.2)) ∗ (bigSepL lands fun p => Φ (recvCell c p.1 p.2))
      ∗ Φ (copyCell c 0) ∗ Φ (copyCell c 1)) := by
  rw [bigSep_univ_eq_bigSepL ownL ownL_all ownL_nodup]
  unfold ownL
  rw [bigSepL_append, bigSepL_append, bigSepL_maps, bigSepL_maps, bigSepL_same fun p _ => congrArg Φ (scell_s c p),
    bigSepL_same fun p _ => congrArg Φ (scell_r c p)]
  rfl

theorem bigSepL_unzip {I : Type} (l : List I) (Φ Ψ : I → sProp 𝕄) : bigSepL l (fun i => iprop(Φ i ∗ Ψ i)) ⊢ iprop(bigSepL l Φ ∗ bigSepL l Ψ) := by
  induction l with
  | nil => exact Laws.sep_emp.2
  | cons x l ih =>
    rw [bigSepL_cons', bigSepL_cons', bigSepL_cons']
    iintro ⟨⟨H1, H2⟩, H⟩
    ihave H := ih $$ H
    icases H with ⟨H3, H4⟩
    isplitl [H1 H3]
    · isplitl [H1]; · iexact H1
      iexact H3
    isplitl [H2]; · iexact H2
    iexact H4

/-! ## Before and after the counters are opened -/

/-- The tokens of the duties a device pays. -/
def Deal : sProp 𝕄 :=
  iprop((dutyTok ER (barCell (px 0 c)) 0 (0 : Fin 3) ∗ dutyTok ER (barCell (px 1 c)) 0 (1 : Fin 3) ∗ dutyTok ER (barCell (px 2 c)) 0 (2 : Fin 3))
    ∗ (bigSepL starts fun p => dutyTok ER (sendCell c p.1 p.2) 0 (0 : Fin 3))
    ∗ (bigSepL starts fun p => dutyTok ER (recvCell (px (dir p.1 p.2) c) p.1 p.2) 0 (0 : Fin 3))
    ∗ bigSepL copies fun p => dutyTok ER (copyCell c p.1) p.2 (0 : Fin 3))

/-- The credit a device has for what the others owe it. -/
def Creds : sProp 𝕄 :=
  iprop(cred (tallyAt (barCell c) () 3) ∗ bigSepL lands fun p => cred (tallyAt (recvCell c p.1 p.2) () (N p.1)))

/-- All barrier cells are open. -/
def Bars : sProp 𝕄 := bigSep barCells fun g => reached ER g 0

instance Bars_persistent : BI.Persistent (Bars : sProp 𝕄) := by unfold Bars; infer_instance

theorem Bars_at : (Bars : sProp 𝕄) ⊢ reached ER (barCell c) 0 := bigSep_elim (Finset.mem_map_of_mem barEmb (Finset.mem_univ c))

/-- With its own counters open. -/
def Opened : sProp 𝕄 :=
  iprop(Bars ∗ Creds c ∗ Deal c ∗ atPos ER (barCell c) 0 (∅ : Finset (Fin 3)) 0
    ∗ bigSep Finset.univ fun k : Fin 44 => iprop(atPos ER (scell c k) 0 (∅ : Finset (Fin 3)) 0 ∗ reached ER (scell c k) 0))

/-- The buffers a device enters the body with, those in memory being at `f1`, `f2` and `f3`. -/
def Bufs (f1 : Buf (Elt F) ((c : Thread nD τ).loc main_v3_1)) (f2 : Buf (Elt F) ((c : Thread nD τ).loc main_v3_2)) (f3 : Buf (Elt F) ((c : Thread nD τ).loc main_v3_3))
    : sProp 𝕄 :=
  iprop((bAny c cc0_scratch0 ∗ bAny c cc0_scratch1 ∗ bAny c cc0_scratch2 ∗ bAny c cc0_scratch3 ∗ bAny c cc0_scratch4 ∗ bAny c cc0_scratch5 ∗ bAny c cc0_scratch6)
    ∗ ((c : Thread nD τ).loc main_v3_1 ↦{fullShare} f1) ∗ ((c : Thread nD τ).loc main_v3_2 ↦{fullShare} f2) ∗ ((c : Thread nD τ).loc main_v3_3 ↦{fullShare} f3))

/-- The staged blocks. -/
def Stages (g : Buf (Elt F) ((c : Thread nD τ).loc cc0_stg2_0)) : sProp 𝕄 :=
  iprop(((c : Thread nD τ).loc cc0_stg0_0 ↦{fullShare} X c) ∗ ((c : Thread nD τ).loc cc0_stg1_0 ↦{fullShare} W c) ∗ ((c : Thread nD τ).loc cc0_stg2_0 ↦{fullShare} g))

variable (f1 : Buf (Elt F) ((c : Thread nD τ).loc main_v3_1)) (f2 : Buf (Elt F) ((c : Thread nD τ).loc main_v3_2)) (f3 : Buf (Elt F) ((c : Thread nD τ).loc main_v3_3))
variable (g : Buf (Elt F) ((c : Thread nD τ).loc cc0_stg2_0))

/-- The landing buffers, listed as they lie in the buffers. -/
def gath : List (Fin 3 × Fin 7) := [(0, 0), (1, 0), (2, 0), (0, 1), (0, 2), (1, 1), (1, 2), (2, 1), (2, 2), (0, 3), (0, 4), (0, 5), (0, 6), (1, 3), (1, 4), (1, 5), (1, 6), (2, 3), (2, 4), (2, 5), (2, 6)]

theorem g_land : bAny c cc0_scratch6 ⊢ (iprop(gAny c 0 ∗ gAny c 1) : sProp 𝕄) := g_in c
theorem g_back : iprop(gAny c 0 ∗ gAny c 1) ⊢ (bAny c cc0_scratch6 : sProp 𝕄) := g_out c
theorem r1_0_land : bAny c cc0_scratch3 ⊢ (iprop(landPay 0 c 1 ∗ landPay 0 c 2) : sProp 𝕄) := r1_0_in c
theorem r1_1_land : bAny c cc0_scratch4 ⊢ (iprop(landPay 1 c 1 ∗ landPay 1 c 2) : sProp 𝕄) := r1_1_in c
theorem r1_2_land : bAny c cc0_scratch5 ⊢ (iprop(landPay 2 c 1 ∗ landPay 2 c 2) : sProp 𝕄) := r1_2_in c

theorem bufs_land : Bufs c f1 f2 f3 ⊢ iprop((bigSepL gath fun p => landPay p.1 c p.2) ∗ gAny c 0 ∗ gAny c 1) := by
  have e : (bigSepL gath fun p => (landPay p.1 c p.2 : sProp 𝕄))
      = iprop(landPay 0 c 0 ∗ landPay 1 c 0 ∗ landPay 2 c 0 ∗ landPay 0 c 1 ∗ landPay 0 c 2 ∗ landPay 1 c 1 ∗ landPay 1 c 2 ∗ landPay 2 c 1 ∗ landPay 2 c 2 ∗ landPay 0 c 3 ∗ landPay 0 c 4 ∗ landPay 0 c 5 ∗ landPay 0 c 6 ∗ landPay 1 c 3 ∗ landPay 1 c 4 ∗ landPay 1 c 5 ∗ landPay 1 c 6 ∗ landPay 2 c 3 ∗ landPay 2 c 4 ∗ landPay 2 c 5 ∗ landPay 2 c 6) := rfl
  rw [e]
  unfold Bufs
  iintro ⟨⟨Hs0, Hs1, Hs2, Hs3, Hs4, Hs5, Hs6⟩, Hm1, Hm2, Hm3⟩
  ihave Hs0 := (r0_in0 c) $$ Hs0
  ihave Hs3 := (r1_0_land c) $$ Hs3
  icases Hs3 with ⟨Ha0, Hb0⟩
  ihave Hm1 := (r2_in0 c f1) $$ Hm1
  icases Hm1 with ⟨Hc0, Hd0, He0, Hf0⟩
  ihave Hs1 := (r0_in1 c) $$ Hs1
  ihave Hs4 := (r1_1_land c) $$ Hs4
  icases Hs4 with ⟨Ha1, Hb1⟩
  ihave Hm2 := (r2_in1 c f2) $$ Hm2
  icases Hm2 with ⟨Hc1, Hd1, He1, Hf1⟩
  ihave Hs2 := (r0_in2 c) $$ Hs2
  ihave Hs5 := (r1_2_land c) $$ Hs5
  icases Hs5 with ⟨Ha2, Hb2⟩
  ihave Hm3 := (r2_in2 c f3) $$ Hm3
  icases Hm3 with ⟨Hc2, Hd2, He2, Hf2⟩
  ihave Hs6 := (g_land c) $$ Hs6
  icases Hs6 with ⟨Hg0, Hg1⟩
  isplitr [Hg0 Hg1]
  rotate_left
  · isplitl [Hg0]; · iexact Hg0
    iexact Hg1
  isplitl [Hs0]; · iexact Hs0
  isplitl [Hs1]; · iexact Hs1
  isplitl [Hs2]; · iexact Hs2
  isplitl [Ha0]; · iexact Ha0
  isplitl [Hb0]; · iexact Hb0
  isplitl [Ha1]; · iexact Ha1
  isplitl [Hb1]; · iexact Hb1
  isplitl [Ha2]; · iexact Ha2
  isplitl [Hb2]; · iexact Hb2
  isplitl [Hc0]; · iexact Hc0
  isplitl [Hd0]; · iexact Hd0
  isplitl [He0]; · iexact He0
  isplitl [Hf0]; · iexact Hf0
  isplitl [Hc1]; · iexact Hc1
  isplitl [Hd1]; · iexact Hd1
  isplitl [He1]; · iexact He1
  isplitl [Hf1]; · iexact Hf1
  isplitl [Hc2]; · iexact Hc2
  isplitl [Hd2]; · iexact Hd2
  isplitl [He2]; · iexact He2
  iexact Hf2

theorem land_dirs : iprop((bigSepL gath fun p => landPay p.1 c p.2) ∗ bigSepL lands fun p => reached ER (recvCell c p.1 p.2) 0)
    ⊢ (iprop(bigSepL (trs 0) (Land c) ∗ bigSepL (trs 1) (Land c) ∗ bigSepL (trs 2) (Land c)) : sProp 𝕄) := by
  have e : (bigSepL lands (fun p => reached ER (recvCell c p.1 p.2) 0) : sProp 𝕄) = bigSepL gath (fun p => reached ER (recvCell c p.1 p.2) 0) :=
    TalkSites.bigSepL_perm (by decide) (by decide) _
  have e' : (bigSepL gath (Land c) : sProp 𝕄) = bigSepL (trs 0 ++ (trs 1 ++ trs 2)) (Land c) := TalkSites.bigSepL_perm (by decide) (by decide) _
  rw [e, ← bigSepL_append, ← bigSepL_append, ← e']
  exact bigSepL_zip (F := F) gath _ _

theorem toks_zip : iprop((bigSepL starts fun p => dutyTok ER (sendCell c p.1 p.2) 0 (0 : Fin 3)) ∗ (bigSepL starts fun p => reached ER (sendCell c p.1 p.2) 0)
    ∗ (bigSepL starts fun p => dutyTok ER (recvCell (px (dir p.1 p.2) c) p.1 p.2) 0 (0 : Fin 3)) ∗ bigSepL starts fun p => atPos ER (sendCell c p.1 p.2) 0 (∅ : Finset (Fin 3)) 0)
    ⊢ (bigSepL starts (Tok c) : sProp 𝕄) := by
  unfold Tok
  exact (BIClass.sep_mono .rfl ((BIClass.sep_mono .rfl (bigSepL_zip (F := F) starts _ _)).trans (bigSepL_zip (F := F) starts _ _))).trans (bigSepL_zip (F := F) starts _ _)

theorem await_zip : iprop((bigSepL lands fun p => cred (tallyAt (recvCell c p.1 p.2) () (N p.1))) ∗ bigSepL lands fun p => atPos ER (recvCell c p.1 p.2) 0 (∅ : Finset (Fin 3)) 0)
    ⊢ (Rcv c 0 : sProp 𝕄) := by
  unfold Rcv Await
  rw [List.drop_zero, List.take_zero, bigSepL_nil]
  exact (bigSepL_zip (F := F) lands _ _).trans Laws.sep_emp.2

/-- Everything is at hand to start. -/
theorem enter {Wd : Waits sig Unit} : iprop(Opened c ∗ owes (c : Thread nD τ) (owed c 0) Wd ∗ Bufs c f1 f2 f3 ∗ Stages X W c g) ⊢ Start X W c := by
  unfold Opened Creds Deal Stages Start
  rw [bigSep_sep', own_list c fun g => atPos ER g 0 (∅ : Finset (Fin 3)) 0, own_list c fun g => reached ER g 0]
  iintro ⟨⟨#HB, ⟨Hcb, Hcr⟩, ⟨Htb, Hts, Htr, Htc⟩, Hab, ⟨Has, Har, Ha0, Ha1⟩, ⟨Hrs, Hrr, Hr0, Hr1⟩⟩, HO, Hbuf, ⟨Hx, Hw, Ho⟩⟩
  ihave Hbuf := (bufs_land c f1 f2 f3) $$ Hbuf
  icases Hbuf with ⟨Hl, Hg0, Hg1⟩
  ihave Hl := (land_dirs c) $$ [Hl Hrr]
  · isplitl [Hl]; · iexact Hl
    iexact Hrr
  icases Hl with ⟨Hl0, Hl1, Hl2⟩
  icases Htb with ⟨Ht0, Ht1, Ht2⟩
  ihave Hx := (x_in X c) $$ Hx
  icases Hx with ⟨Hx, ⟨H00, H01, H03⟩, ⟨H10, H11, H13⟩, ⟨H20, H21, H23⟩⟩
  isplitl [HO]; · unfold Owe; iexists Wd; iexact HO
  isplitl [Ht0 Hl0]
  · unfold Sig
    isplitl [Ht0]; · iexact Ht0
    isplitl [Hl0]; · iexact Hl0
    iapply (Bars_at (px 0 c)); iexact HB
  isplitl [Ht1 Hl1]
  · unfold Sig
    isplitl [Ht1]; · iexact Ht1
    isplitl [Hl1]; · iexact Hl1
    iapply (Bars_at (px 1 c)); iexact HB
  isplitl [Ht2 Hl2]
  · unfold Sig
    isplitl [Ht2]; · iexact Ht2
    isplitl [Hl2]; · iexact Hl2
    iapply (Bars_at (px 2 c)); iexact HB
  isplitl [Hcb Hab]
  · unfold Bar
    isplitl [Hcb]; · iexact Hcb
    iexact Hab
  isplitl [Hts Hrs Htr Has]
  · iapply (toks_zip c)
    isplitl [Hts]; · iexact Hts
    isplitl [Hrs]; · iexact Hrs
    isplitl [Htr]; · iexact Htr
    iexact Has
  isplitl [Hcr Har]
  · iapply (await_zip c)
    isplitl [Hcr]; · iexact Hcr
    iexact Har
  isplitl [Htc]; · unfold CTok; rw [List.drop_zero]; iexact Htc
  isplitl [Ha0 Hr0]
  · unfold CPos
    isplitl [Ha0]; · iexact Ha0
    iexact Hr0
  isplitl [Ha1 Hr1]
  · unfold CPos
    isplitl [Ha1]; · iexact Ha1
    iexact Hr1
  isplitl [Hw]; · iapply (w_in W c); iexact Hw
  isplitl [Hx]; · iexact Hx
  isplitl [Ho]; · iapply (out_in X W c g); iexact Ho
  isplitl [H00]; · iexact H00
  isplitl [H01]; · iexact H01
  isplitl [H03]; · iexact H03
  isplitl [H10]; · iexact H10
  isplitl [H11]; · iexact H11
  isplitl [H13]; · iexact H13
  isplitl [H20]; · iexact H20
  isplitl [H21]; · iexact H21
  isplitl [H23]; · iexact H23
  isplitl [Hg0]; · iexact Hg0
  iexact Hg1

/-! ## Leaving -/

theorem owe_done : Owe c 24 ⊢ (iprop(∃ Wd, owes (c : Thread nD τ) (0 : CellTallies nD τ sig Unit) Wd) : sProp 𝕄) := .rfl

theorem sent_unzip : bigSepL (starts.take 21) (Sent X c)
    ⊢ iprop((bigSepL starts fun p => sendPay X p.1 c p.2) ∗ bigSepL starts fun p => atPos ER (sendCell c p.1 p.2) 1 (∅ : Finset (Fin 3)) 0) := by
  rw [show starts.take 21 = starts from by decide]
  exact bigSepL_unzip (F := F) starts _ _

theorem r1_0_back : iprop(recvPay X 0 c 1 ∗ recvPay X 0 c 2) ⊢ (bAny c cc0_scratch3 : sProp 𝕄) :=
  (BIClass.sep_mono (holds_any c (r1M 0 0) _) (holds_any c (r1M 0 1) _)).trans (r1_0_out c)

theorem r1_1_back : iprop(recvPay X 1 c 1 ∗ recvPay X 1 c 2) ⊢ (bAny c cc0_scratch4 : sProp 𝕄) :=
  (BIClass.sep_mono (holds_any c (r1M 1 0) _) (holds_any c (r1M 1 1) _)).trans (r1_1_out c)

theorem r1_2_back : iprop(recvPay X 2 c 1 ∗ recvPay X 2 c 2) ⊢ (bAny c cc0_scratch5 : sProp 𝕄) :=
  (BIClass.sep_mono (holds_any c (r1M 2 0) _) (holds_any c (r1M 2 1) _)).trans (r1_2_out c)

theorem own_mem (k : Fin 44) : scell c k ∈ barCells ∪ scCells :=
  Finset.mem_union_right _ (Finset.mem_map.mpr ⟨(c, k), Finset.mem_univ _, rfl⟩)

theorem ends_inv (k : Fin 44) : iprop(Ctx X K ∗ atPos ER (scell c k) (rounds (kindOf (osem k))) (∅ : Finset (Fin 3)) 0)
    ⊢ (iprop(cellInv ER (Rd X) (K (scell c k)) (scell c k) ∗ atPos ER (scell c k) (rounds (kindOf (osem k))) (∅ : Finset (Fin 3)) 0) : sProp 𝕄) :=
  BIClass.sep_mono (Ctx_inv X K (own_mem c k)) .rfl

theorem open_inv (k : Fin 44) : iprop(Ctx X K ∗ openTok ER (scell c k)) ⊢ (iprop(cellInv ER (Rd X) (K (scell c k)) (scell c k) ∗ openTok ER (scell c k)) : sProp 𝕄) :=
  BIClass.sep_mono (Ctx_inv X K (own_mem c k)) .rfl

theorem starts_sent : (bigSepL starts fun p => sendPay X p.1 c p.2) = iprop(sendPay X 0 c 0 ∗ sendPay X 1 c 0 ∗ sendPay X 2 c 0 ∗ sendPay X 0 c 1 ∗ sendPay X 1 c 1 ∗ sendPay X 2 c 1 ∗ sendPay X 0 c 3 ∗ sendPay X 1 c 3 ∗ sendPay X 2 c 3 ∗ sendPay X 0 c 2 ∗ sendPay X 0 c 4 ∗ sendPay X 1 c 2 ∗ sendPay X 1 c 4 ∗ sendPay X 2 c 2 ∗ sendPay X 2 c 4 ∗ sendPay X 0 c 5 ∗ sendPay X 0 c 6 ∗ sendPay X 1 c 5 ∗ sendPay X 1 c 6 ∗ sendPay X 2 c 5 ∗ sendPay X 2 c 6) := rfl

theorem out_all : ∀ (c : Dev nD) (o : Dev nD) (t : Fin 3), (o, t) ∈ (((org 2 c 6, 2) :: ((org 1 c 6, 1) :: ((org 0 c 6, 0) :: ((org 2 c 5, 2) :: ((org 1 c 5, 1) :: ((org 0 c 5, 0) :: ((org 2 c 4, 2) :: ((org 1 c 4, 1) :: ((org 0 c 4, 0) :: ((org 2 c 3, 2) :: ((org 1 c 3, 1) :: ((org 0 c 3, 0) :: ((org 2 c 2, 2) :: ((org 2 c 1, 2) :: ((org 1 c 2, 1) :: ((org 1 c 1, 1) :: ((org 0 c 2, 0) :: ((org 0 c 1, 0) :: ((org 2 c 0, 2) :: ((org 1 c 0, 1) :: ((org 0 c 0, 0) :: [(c, 0), (c, 1), (c, 2)]))))))))))))))))))))) : List (Dev nD × Fin 3)) := by
  decide +kernel

/-- A device's positions when the body has ended. -/
def Ends : sProp 𝕄 :=
  iprop(atPos ER (barCell c) 1 (∅ : Finset (Fin 3)) 0 ∗ bigSep Finset.univ fun k : Fin 44 => atPos ER (scell c k) (rounds (kindOf (osem k))) (∅ : Finset (Fin 3)) 0)

theorem ends_of : iprop(atPos ER (barCell c) 1 (∅ : Finset (Fin 3)) 0 ∗ (bigSepL starts fun p => atPos ER (sendCell c p.1 p.2) 1 (∅ : Finset (Fin 3)) 0)
    ∗ bigSepL lands (Got c) ∗ atPos ER (copyCell c 0) 6 (∅ : Finset (Fin 3)) 0 ∗ atPos ER (copyCell c 1) 6 (∅ : Finset (Fin 3)) 0) ⊢ (Ends c : sProp 𝕄) := by
  unfold Ends
  rw [own_list c fun g => atPos ER g (rounds (kindOf g.2)) (∅ : Finset (Fin 3)) 0,
    bigSepL_same (l := starts) (fun p _ => show (atPos ER (sendCell c p.1 p.2) (rounds (kindOf (sendCell c p.1 p.2).2)) (∅ : Finset (Fin 3)) 0 : sProp 𝕄) = atPos ER (sendCell c p.1 p.2) 1 (∅ : Finset (Fin 3)) 0 from by rw [kind_send]; rfl),
    bigSepL_same (l := lands) (fun p _ => show (atPos ER (recvCell c p.1 p.2) (rounds (kindOf (recvCell c p.1 p.2).2)) (∅ : Finset (Fin 3)) 0 : sProp 𝕄) = Got c p from by rw [kind_recv]; rfl)]
  exact .rfl

/-- What the body ends with is the buffers again. -/
theorem leave : Finish X W c ⊢ iprop(Ends c ∗ (∃ Wd, owes (c : Thread nD τ) 0 Wd) ∗ Bufs c (landed0 X c f1) (landed1 X c f2) (landed2 X c f3) ∗ Stages X W c (Out X W c)) := by
  unfold Finish Drn Rcv CPos Bufs Stages
  iintro ⟨Hb, Hx, Hz0, Hz1, Hz2, Hu0, Hv0, Hu1, Hv1, Hu2, Hv2, Hc0, Hc1, Hc2, Hd0, Hd1, Hd2, He0, He1, He2, Hf0, ⟨-, Hgot⟩, -, ⟨Hp0, -⟩, Hf1, Hg0, ⟨Hp1, -⟩, Hf2, Hg1, Hw, Ho, ⟨HO, -, HS⟩⟩
  ihave HS := (sent_unzip X c) $$ HS
  icases HS with ⟨HS, Hs⟩
  isplitl [Hb Hs Hgot Hp0 Hp1]
  · iapply (ends_of c)
    isplitl [Hb]; · iexact Hb
    isplitl [Hs]; · iexact Hs
    isplitl [Hgot]; · iexact Hgot
    isplitl [Hp0]; · iexact Hp0
    iexact Hp1
  isplitl [HO]; · iapply (owe_done c); iexact HO
  ihave HS := (Entails.of_eq (starts_sent X c)) $$ HS
  icases HS with ⟨S00, S10, S20, S01, S11, S21, S03, S13, S23, S02, S04, S12, S14, S22, S24, S05, S06, S15, S16, S25, S26⟩
  ihave Hz0 := (ungot0 X c 0) $$ [S02 S04 Hz0]
  · isplitl [S02]; · iexact S02
    isplitl [S04]; · iexact S04
    iexact Hz0
  ihave Hz0 := (r0_out0 X c) $$ Hz0
  ihave Hu0 := (ungot1 X c 0) $$ [S05 Hu0]
  · isplitl [S05]; · iexact S05
    iexact Hu0
  ihave Hv0 := (ungot2 X c 0) $$ [S06 Hv0]
  · isplitl [S06]; · iexact S06
    iexact Hv0
  ihave Hr0 := (r1_0_back X c) $$ [Hu0 Hv0]
  · isplitl [Hu0]; · iexact Hu0
    iexact Hv0
  ihave Hm0 := (r2_out0 X c f1) $$ [Hc0 Hd0 He0 Hf0]
  · isplitl [Hc0]; · iexact Hc0
    isplitl [Hd0]; · iexact Hd0
    isplitl [He0]; · iexact He0
    iexact Hf0
  ihave Hz1 := (ungot0 X c 1) $$ [S12 S14 Hz1]
  · isplitl [S12]; · iexact S12
    isplitl [S14]; · iexact S14
    iexact Hz1
  ihave Hz1 := (r0_out1 X c) $$ Hz1
  ihave Hu1 := (ungot1 X c 1) $$ [S15 Hu1]
  · isplitl [S15]; · iexact S15
    iexact Hu1
  ihave Hv1 := (ungot2 X c 1) $$ [S16 Hv1]
  · isplitl [S16]; · iexact S16
    iexact Hv1
  ihave Hr1 := (r1_1_back X c) $$ [Hu1 Hv1]
  · isplitl [Hu1]; · iexact Hu1
    iexact Hv1
  ihave Hm1 := (r2_out1 X c f2) $$ [Hc1 Hd1 He1 Hf1]
  · isplitl [Hc1]; · iexact Hc1
    isplitl [Hd1]; · iexact Hd1
    isplitl [He1]; · iexact He1
    iexact Hf1
  ihave Hz2 := (ungot0 X c 2) $$ [S22 S24 Hz2]
  · isplitl [S22]; · iexact S22
    isplitl [S24]; · iexact S24
    iexact Hz2
  ihave Hz2 := (r0_out2 X c) $$ Hz2
  ihave Hu2 := (ungot1 X c 2) $$ [S25 Hu2]
  · isplitl [S25]; · iexact S25
    iexact Hu2
  ihave Hv2 := (ungot2 X c 2) $$ [S26 Hv2]
  · isplitl [S26]; · iexact S26
    iexact Hv2
  ihave Hr2 := (r1_2_back X c) $$ [Hu2 Hv2]
  · isplitl [Hu2]; · iexact Hu2
    iexact Hv2
  ihave Hm2 := (r2_out2 X c f3) $$ [Hc2 Hd2 He2 Hf2]
  · isplitl [Hc2]; · iexact Hc2
    isplitl [Hd2]; · iexact Hd2
    isplitl [He2]; · iexact He2
    iexact Hf2
  ihave Hg := (g_back c) $$ [Hg0 Hg1]
  · isplitl [Hg0]; · iexact Hg0
    iexact Hg1
  isplitl [Hz0 Hz1 Hz2 Hr0 Hr1 Hr2 Hg Hm0 Hm1 Hm2]
  · isplitl [Hz0 Hz1 Hz2 Hr0 Hr1 Hr2 Hg]
    · isplitl [Hz0]; · iexact Hz0
      isplitl [Hz1]; · iexact Hz1
      isplitl [Hz2]; · iexact Hz2
      isplitl [Hr0]; · iexact Hr0
      isplitl [Hr1]; · iexact Hr1
      isplitl [Hr2]; · iexact Hr2
      iexact Hg
    isplitl [Hm0]; · iexact Hm0
    isplitl [Hm1]; · iexact Hm1
    iexact Hm2
  isplitl [Hx S00 S01 S03 S10 S11 S13 S20 S21 S23]
  · iapply (x_out X c)
    isplitl [Hx]; · iexact Hx
    isplitl [S00 S01 S03]
    · isplitl [S00]; · iexact S00
      isplitl [S01]; · iexact S01
      iexact S03
    isplitl [S10 S11 S13]
    · isplitl [S10]; · iexact S10
      isplitl [S11]; · iexact S11
      iexact S13
    isplitl [S20]; · iexact S20
    isplitl [S21]; · iexact S21
    iexact S23
  isplitl [Hw]; · iapply (w_out W c); iexact Hw
  iapply (OutSt_done X W c (out_all c))
  iexact Ho

/-- Every counter is closed. -/
theorem close_all : iprop(Ctx X K ∗ Ends c) ⊢ (|={Set.univ}=> iprop(Pipeline.ownSems0 osem c ∗ semVal (barCell c) 0) : sProp 𝕄) := by
  unfold Ends Pipeline.ownSems0
  iintro ⟨#HC, Hb, Hs⟩
  imod (Rounds.cell_close ER (Rd X) (g := barCell c) (Set.mem_univ (K (barCell c))) (fun h => h) (fun r hr => duties_later X (barCell c) r hr)) $$ [Hb] with Hb
  · isplitr; · iapply (Ctx_inv X K (bar_mem c)); iexact HC
    iexact Hb
  imod (Rounds.cells_close ER (Rd X) (Finset.univ : Finset (Fin 44)) (fun k => scell c k) (fun k => K (scell c k)) (fun k _ => Set.mem_univ _) (fun k _ h => h)
    (fun k => rounds (kindOf (osem k))) (fun k _ r hr => duties_later X (scell c k) r hr)) $$ [Hs] with Hs
  · iapply (bigSep_with_persistent (R := Ctx X K) (Φ := fun k : Fin 44 => atPos ER (scell c k) (rounds (kindOf (osem k))) (∅ : Finset (Fin 3)) 0) (fun k _ => ends_inv X K c k))
    isplitr; · iexact HC
    iexact Hs
  imodintro
  isplitl [Hs]; · iexact Hs
  iexact Hb

/-- Every counter is opened. -/
theorem open_all : iprop(Ctx X K ∗ (bigSep Finset.univ fun k : Fin 44 => openTok ER (scell c k)) ∗ Pipeline.ownSems0 osem c)
    ⊢ (|={Set.univ}=> bigSep Finset.univ fun k : Fin 44 => iprop(atPos ER (scell c k) 0 (∅ : Finset (Fin 3)) 0 ∗ reached ER (scell c k) 0) : sProp 𝕄) := by
  unfold Pipeline.ownSems0
  iintro ⟨#HC, Ho, Hs⟩
  imod (Rounds.cells_open ER (Rd X) (Finset.univ : Finset (Fin 44)) (fun k => scell c k) (fun k => K (scell c k)) (fun k _ => Set.mem_univ _)) $$ [Ho Hs] with H
  · isplitl [Ho]
    · iapply (bigSep_with_persistent (R := Ctx X K) (Φ := fun k : Fin 44 => openTok ER (scell c k)) (fun k _ => open_inv X K c k))
      isplitr; · iexact HC
      iexact Ho
    iexact Hs
  imodintro
  iexact H

end Cert.KernelIdeal.Ring

end
-- ==== Proof.Ring.Region.lean ====
/-
  The kernel's region: what holds before and after its one point, the body as the pipeline runs it, and the
  region's record with the buffers, the counters and the debts that enter and leave it.
-/
module

public import proofs.«01_k».proof.Proof.Ring.Enter
public import proofs.«01_k».proof.Proof.Gen.KernelIdeal.Frame
public import Idealize.ShloMosaic.Lib.Pipeline.RegionTalk

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (c : Dev nD)

/-! ## What the body computes on -/

/-- Every device's block of the first operand, as its window finds it. -/
def Xm : Xs F := fun c => Gen.iblk m c 0 Gen.t0_0
/-- Every device's block of the second. -/
def Wm : Ws F := fun c => Gen.iblk m c 1 Gen.t0_0

/-! ## The region's data -/

/-- Before the point. -/
def Before : sProp 𝕄 :=
  iprop((∃ K, Ctx (Xm m) K) ∗ Opened c ∗ Bufs c (Gen.V m c main_v3_1) (Gen.V m c main_v3_2) (Gen.V m c main_v3_3) ∗ ∃ r, prngReg c r)

/-- After it. -/
def After : sProp 𝕄 :=
  iprop((Pipeline.ownSems0 osem c ∗ semVal (barCell c) 0)
    ∗ Bufs c (landed0 (Xm m) c (Gen.V m c main_v3_1)) (landed1 (Xm m) c (Gen.V m c main_v3_2)) (landed2 (Xm m) c (Gen.V m c main_v3_3)) ∗ ∃ r, prngReg c r)

/-- What the body leaves in each staged block. -/
def leaves (w : Fin 3) : (cfg0.win w).block.Idx → Elt F (cfg0.win w).elt :=
  match w with
  | 0 => Xm m c
  | 1 => Wm m c
  | 2 => Out (Xm m) (Wm m) c
  | ⟨_ + 3, h⟩ => absurd h (Nat.not_lt.2 (Nat.le_add_left _ _))

def dat0 : Pipeline.Dat τ (Elt F) Unit ℕ UU ℕ cfg0 c where
  A w := Gen.V m c (Pipeline.arrRef spec0 w)
  after w _ := leaves m c w
  Φ t := if t.val = 0 then Before m c else After m c
  q _ := fullShare
  owed t := if t.val = 0 then owed c 0 else 0

abbrev adm : (p : Fin 1) → (pcfgs (F := F) p).Adm := fun p => (cfgs p).toPCfg_adm

def pdats : (p : Fin 1) → (c : Dev nD) → Pipeline.Dat τ (Elt F) Unit ℕ UU ℕ (Pipeline.pin (pcfgs (F := F)) adm p) c
  | 0 => dat0 m

theorem owed_fst : (dat0 m c).owed 0 = owed c 0 := by
  show (if ((0 : Fin (cfg0.N + 1)).val = 0) then owed c 0 else 0) = owed c 0
  exact if_pos rfl
theorem owed_lst : (dat0 m c).owed (Fin.last _) = 0 := by
  show (if (Fin.last cfg0.N).val = 0 then owed c 0 else 0) = 0
  rw [Fin.val_last, if_neg (by rw [show cfg0.N = 1 from Gen.N_0]; decide)]

theorem owes_in {cfg : Pipeline.Cfg sig Λ₀} (dat : Pipeline.Dat τ (Elt F) Unit ℕ UU ℕ cfg c) (t : Fin (cfg.N + 1)) (O : CellTallies nD τ sig Unit)
    (h : dat.owed t = O) : (dat.owesAt () t : sProp 𝕄) ⊢ iprop(∃ Wd, owes (c : Thread nD τ) O Wd) := by
  unfold Pipeline.Dat.owesAt Pipeline.owesWithin
  rw [h]
  iintro ⟨%Wd, -, HO⟩
  iexists Wd
  iexact HO
theorem owes_out {cfg : Pipeline.Cfg sig Λ₀} (dat : Pipeline.Dat τ (Elt F) Unit ℕ UU ℕ cfg c) (t : Fin (cfg.N + 1)) (O : CellTallies nD τ sig Unit)
    (h : dat.owed t = O) (hr : dat.recorded t = Set.univ) : iprop(∃ Wd, owes (c : Thread nD τ) O Wd) ⊢ (dat.owesAt () t : sProp 𝕄) := by
  unfold Pipeline.Dat.owesAt Pipeline.owesWithin Pipeline.Dat.bound
  rw [h, hr]
  iintro ⟨%Wd, HO⟩
  iexists Wd
  isplitr; · ipureintro; exact fun _ _ => Or.inl trivial
  iexact HO

/-! ## The staged blocks -/

theorem keep0 (t : Fin cfg0.N) : (dat0 m c).after 0 t = Gen.iblk m c 0 t := by rw [Gen.fin_N0 t]; rfl
theorem keep1 (t : Fin cfg0.N) : (dat0 m c).after 1 t = Gen.iblk m c 1 t := by rw [Gen.fin_N0 t]; rfl

theorem finds0 (t : Fin cfg0.N) (d) : (dat0 m c).before 0 t d = Xm m c := by
  refine (Pipeline.Dat.before_in_eq_fetched (dat0 m c) 0 rfl (fun _ => rfl) (fun _ _ _ => rfl) (fun t => ?_) t d).trans ?_
  · rw [keep0]; rfl
  · rw [Gen.fin_N0 t]; rfl
theorem finds1 (t : Fin cfg0.N) (d) : (dat0 m c).before 1 t d = Wm m c := by
  refine (Pipeline.Dat.before_in_eq_fetched (dat0 m c) 1 rfl (fun _ => rfl) (fun _ _ _ => rfl) (fun t => ?_) t d).trans ?_
  · rw [keep1]; rfl
  · rw [Gen.fin_N0 t]; rfl

/-- The staged blocks before the point. -/
theorem stages_in : (bigSep Finset.univ fun w : Fin cfg0.W => iprop(∃ d, owns (c : Thread nD τ) ((cfg0.win w).stage (cfg0.slots Gen.t0_0 w)) fullShare ((dat0 m c).before w Gen.t0_0 d)))
    ⊢ (iprop(∃ g, Stages (Xm m) (Wm m) c g) : sProp 𝕄) := by
  refine (Entails.of_eq (Gen.bigSep_W0 _)).trans ?_
  iintro ⟨⟨%d0, H0⟩, ⟨%d1, H1⟩, ⟨%d2, H2⟩⟩
  iexists ((dat0 m c).before 2 Gen.t0_0 d2)
  unfold Stages
  isplitl [H0]
  · iapply (show (owns (c : Thread nD τ) ((cfg0.win 0).stage (cfg0.slots Gen.t0_0 0)) fullShare ((dat0 m c).before 0 Gen.t0_0 d0) : sProp 𝕄)
      ⊢ ((c : Thread nD τ).loc cc0_stg0_0 ↦{fullShare} Xm m c) from by rw [finds0]; exact Entails.of_eq (owns_whole (c : Thread nD τ) cc0_stg0_0 fullShare _))
    iexact H0
  isplitl [H1]
  · iapply (show (owns (c : Thread nD τ) ((cfg0.win 1).stage (cfg0.slots Gen.t0_0 1)) fullShare ((dat0 m c).before 1 Gen.t0_0 d1) : sProp 𝕄)
      ⊢ ((c : Thread nD τ).loc cc0_stg1_0 ↦{fullShare} Wm m c) from by rw [finds1]; exact Entails.of_eq (owns_whole (c : Thread nD τ) cc0_stg1_0 fullShare _))
    iexact H1
  iapply (show (owns (c : Thread nD τ) ((cfg0.win 2).stage (cfg0.slots Gen.t0_0 2)) fullShare ((dat0 m c).before 2 Gen.t0_0 d2) : sProp 𝕄)
      ⊢ ((c : Thread nD τ).loc cc0_stg2_0 ↦{fullShare} (dat0 m c).before 2 Gen.t0_0 d2) from Entails.of_eq (owns_whole (c : Thread nD τ) cc0_stg2_0 fullShare _))
  iexact H2

/-- And after it. -/
theorem stages_out : Stages (Xm m) (Wm m) c (Out (Xm m) (Wm m) c)
    ⊢ (bigSep Finset.univ fun w : Fin cfg0.W => owns (c : Thread nD τ) ((cfg0.win w).stage (cfg0.slots Gen.t0_0 w)) fullShare ((dat0 m c).after w Gen.t0_0) : sProp 𝕄) := by
  refine BIBase.Entails.trans ?_ (Entails.of_eq (Gen.bigSep_W0 _).symm)
  unfold Stages
  exact BIClass.sep_mono (Entails.of_eq (owns_whole (c : Thread nD τ) cc0_stg0_0 fullShare _).symm)
    (BIClass.sep_mono (Entails.of_eq (owns_whole (c : Thread nD τ) cc0_stg1_0 fullShare _).symm) (Entails.of_eq (owns_whole (c : Thread nD τ) cc0_stg2_0 fullShare _).symm))

/-! ## The body at the point -/

/-- What the pipeline wants back. -/
def Back : sProp 𝕄 := iprop(After m c ∗ (∃ Wd, owes (c : Thread nD τ) (0 : CellTallies nD τ sig Unit) Wd) ∗ Stages (Xm m) (Wm m) c (Out (Xm m) (Wm m) c))

theorem body_end (K : GSem nD τ sig → ℕ) : iprop(Ctx (Xm m) K ∗ (∃ r, prngReg c r) ∗ Finish (Xm m) (Wm m) c) ⊢ (|={Set.univ}=> Back m c : sProp 𝕄) := by
  iintro ⟨#HC, Hp, HF⟩
  ihave HF := (leave (Xm m) (Wm m) c (Gen.V m c main_v3_1) (Gen.V m c main_v3_2) (Gen.V m c main_v3_3)) $$ HF
  icases HF with ⟨He, HO, Hb, Hs⟩
  imod (close_all (Xm m) K c) $$ [He] with Hz
  · isplitr; · iexact HC
    iexact He
  imodintro
  unfold Back After
  isplitl [Hz Hb Hp]
  · isplitl [Hz]; · iexact Hz
    isplitl [Hb]; · iexact Hb
    iexact Hp
  isplitl [HO]; · iexact HO
  iexact Hs

theorem body_run {Kt : PUnit → sProp 𝕄} : iprop(Before m c ∗ (∃ Wd, owes (c : Thread nD τ) (owed c 0) Wd) ∗ (∃ g, Stages (Xm m) (Wm m) c g) ∗ (Back m c -∗ Kt ⟨⟩))
    ⊢ wpc c (Gen.bodyAt0 (F := F) Gen.t0_0) Kt := by
  refine BIBase.Entails.trans ?_ (wp_fupd _ _ Set.univ _ _)
  unfold Before
  iintro ⟨⟨⟨%K, #HC⟩, Hop, Hb, Hp⟩, ⟨%Wd, HO⟩, ⟨%g, Hs⟩, Hk⟩
  iapply (body_core (Xm m) (Wm m) K c)
  isplitr; · iexact HC
  isplitl [Hop HO Hb Hs]
  · iapply (enter (Xm m) (Wm m) c (Gen.V m c main_v3_1) (Gen.V m c main_v3_2) (Gen.V m c main_v3_3) g (Wd := Wd))
    isplitl [Hop]; · iexact Hop
    isplitl [HO]; · iexact HO
    isplitl [Hb]; · iexact Hb
    iexact Hs
  iintro HF
  imod (body_end m c K) $$ [Hp HF] with HB
  · isplitr; · iexact HC
    isplitl [Hp]; · iexact Hp
    iexact HF
  imodintro
  iapply Hk
  iexact HB

theorem body0 : Pipeline.BodyObligation (dat0 m c) (defs₀ (F := F)) 𝒱₀ () Set.univ := fun t => by
  rw [Gen.fin_N0 t]
  rw [show (dat0 m c).Φ (Fin.castSucc Gen.t0_0) = Before m c from rfl, show (dat0 m c).Φ (Fin.succ Gen.t0_0) = After m c from rfl]
  iintro ⟨HB, HO, Hs⟩
  iapply (body_run m c)
  isplitl [HB]; · iexact HB
  isplitl [HO]; · iapply (owes_in c (dat0 m c) _ _ (owed_fst m c)); iexact HO
  isplitl [Hs]; · iapply (stages_in m c); iexact Hs
  unfold Back
  iintro ⟨HA, HO, Hs⟩
  isplitl [HA]; · iexact HA
  isplitl [HO]; · iapply (owes_out c (dat0 m c) _ _ (owed_lst m c) rfl); iexact HO
  iapply (stages_out m c)
  iexact Hs

/-! ## The buffers outside the region -/

/-- The buffers that are not of the kernel's own. -/
def bufs : Finset (DevRef τ sig) := (StableHlo.tcRefs τ sig).filter fun b => ¬ b.isScoped

/-- The staged arrays. -/
def arrB : Finset (DevRef τ sig) := {Proc.devRef .tc main_v1, Proc.devRef .tc main_v2, Proc.devRef .tc main_v3_0}
/-- The exchange buffers in memory. -/
def gatB : Finset (DevRef τ sig) := {Proc.devRef .tc main_v3_1, Proc.devRef .tc main_v3_2, Proc.devRef .tc main_v3_3}
/-- Everything that is not staged. -/
def restB : Finset (DevRef τ sig) :=
  {Proc.devRef .tc main_v3_1, Proc.devRef .tc main_v3_2, Proc.devRef .tc main_v3_3, Proc.devRef .tc main_arg0, Proc.devRef .tc main_arg1}

theorem arrRefs_eq : (Pipeline.arrRefs (τ := τ) spec0 : Finset (DevRef τ sig)) = arrB := by decide
theorem arrB_restB : arrB ∪ restB = bufs := by decide
theorem disj_restB : Disjoint arrB restB := by decide

theorem held_bufs (V : Valuation τ sig (Elt F)) :
    (StableHlo.held (c : Thread nD τ) bufs V : sProp 𝕄) = iprop(StableHlo.held (c : Thread nD τ) arrB V ∗ StableHlo.held (c : Thread nD τ) restB V) := by
  unfold StableHlo.held
  rw [← arrB_restB, BI.bigSep_union disj_restB]
  rfl

theorem held_gatB (V : Valuation τ sig (Elt F)) :
    (StableHlo.held (c : Thread nD τ) gatB V : sProp 𝕄)
      = iprop(((c : Thread nD τ).loc main_v3_1 ↦{fullShare} V (Proc.devRef .tc main_v3_1)) ∗ ((c : Thread nD τ).loc main_v3_2 ↦{fullShare} V (Proc.devRef .tc main_v3_2))
        ∗ ((c : Thread nD τ).loc main_v3_3 ↦{fullShare} V (Proc.devRef .tc main_v3_3))) := by
  unfold StableHlo.held
  rw [bigSep_eq_bigSepL_of_eq [Proc.devRef .tc main_v3_1, Proc.devRef .tc main_v3_2, Proc.devRef .tc main_v3_3] (by decide) (by decide)]
  rfl

theorem held_all (V : Valuation τ sig (Elt F)) :
    (StableHlo.held (c : Thread nD τ) bufs V : sProp 𝕄)
      = iprop(((c : Thread nD τ).loc main_arg0 ↦{fullShare} V (Proc.devRef .tc main_arg0)) ∗ ((c : Thread nD τ).loc main_arg1 ↦{fullShare} V (Proc.devRef .tc main_arg1))
        ∗ ((c : Thread nD τ).loc main_v1 ↦{fullShare} V (Proc.devRef .tc main_v1)) ∗ ((c : Thread nD τ).loc main_v2 ↦{fullShare} V (Proc.devRef .tc main_v2))
        ∗ ((c : Thread nD τ).loc main_v3_0 ↦{fullShare} V (Proc.devRef .tc main_v3_0)) ∗ ((c : Thread nD τ).loc main_v3_1 ↦{fullShare} V (Proc.devRef .tc main_v3_1))
        ∗ ((c : Thread nD τ).loc main_v3_2 ↦{fullShare} V (Proc.devRef .tc main_v3_2)) ∗ ((c : Thread nD τ).loc main_v3_3 ↦{fullShare} V (Proc.devRef .tc main_v3_3))) := by
  unfold StableHlo.held
  rw [bigSep_eq_bigSepL_of_eq [Proc.devRef .tc main_arg0, Proc.devRef .tc main_arg1, Proc.devRef .tc main_v1, Proc.devRef .tc main_v2, Proc.devRef .tc main_v3_0,
    Proc.devRef .tc main_v3_1, Proc.devRef .tc main_v3_2, Proc.devRef .tc main_v3_3] (by decide) (by decide)]
  rfl

/-- The contents at launch, when the region is entered, and when it is left. -/
def V₀ : Valuation τ sig (Elt F) := fun b => m (c, b)
def V₁ : Valuation τ sig (Elt F) := StableHlo.after Gen.hostOps0 (V₀ m c)
def V₂ : Valuation τ sig (Elt F) :=
  Function.update (Function.update (Function.update (Function.update (V₁ m c)
    (Proc.devRef .tc main_v3_0) ((dat0 m c).arrAt 2 cfg0.N))
    (Proc.devRef .tc main_v3_1) (landed0 (Xm m) c (Gen.V m c main_v3_1)))
    (Proc.devRef .tc main_v3_2) (landed1 (Xm m) c (Gen.V m c main_v3_2)))
    (Proc.devRef .tc main_v3_3) (landed2 (Xm m) c (Gen.V m c main_v3_3))

theorem V₂_of {b : DevRef τ sig} (h0 : b ≠ Proc.devRef .tc main_v3_0) (h1 : b ≠ Proc.devRef .tc main_v3_1) (h2 : b ≠ Proc.devRef .tc main_v3_2)
    (h3 : b ≠ Proc.devRef .tc main_v3_3) : V₂ m c b = V₁ m c b := by
  unfold V₂
  rw [Function.update_of_ne h3, Function.update_of_ne h2, Function.update_of_ne h1, Function.update_of_ne h0]
theorem V₂_out : V₂ m c (Proc.devRef .tc main_v3_0) = (dat0 m c).arrAt 2 cfg0.N := by
  unfold V₂
  rw [Function.update_of_ne (by decide), Function.update_of_ne (by decide), Function.update_of_ne (by decide), Function.update_self]
theorem V₂_1 : V₂ m c (Proc.devRef .tc main_v3_1) = landed0 (Xm m) c (Gen.V m c main_v3_1) := by
  unfold V₂
  rw [Function.update_of_ne (by decide), Function.update_of_ne (by decide), Function.update_self]
theorem V₂_2 : V₂ m c (Proc.devRef .tc main_v3_2) = landed1 (Xm m) c (Gen.V m c main_v3_2) := by
  unfold V₂
  rw [Function.update_of_ne (by decide), Function.update_self]
theorem V₂_3 : V₂ m c (Proc.devRef .tc main_v3_3) = landed2 (Xm m) c (Gen.V m c main_v3_3) := by
  unfold V₂
  rw [Function.update_self]

/-! ## Entering and leaving the region -/

/-- What the launch leaves a device for the region. -/
def Tk : sProp 𝕄 :=
  iprop((∃ K : GSem nD τ sig → ℕ, bigSep (barCells ∪ scCells) fun g => cellInv ER (Rd (Xm m)) (K g) g) ∗ Bars ∗ Creds c ∗ Deal c
    ∗ atPos ER (barCell c) 0 (∅ : Finset (Fin 3)) 0 ∗ bigSep Finset.univ fun k : Fin 44 => openTok ER (scell c k))
/-- The same with the counters open. -/
def Xk : sProp 𝕄 := iprop((∃ K, Ctx (Xm m) K) ∗ Opened c)
/-- What is left. -/
def Yk : sProp 𝕄 := semVal (barCell c) 0

theorem hopen : iprop(Tk m c ∗ Pipeline.ownSems0 osem c ∗ levAts L lv) ⊢ (|={Set.univ}=> Xk m c : sProp 𝕄) := by
  unfold Tk
  iintro ⟨⟨⟨%K, #HI⟩, #HB, Hcr, Hd, Hab, Ho⟩, Hs, #HL⟩
  ihave #HC := (show iprop((bigSep (barCells ∪ scCells) fun g => cellInv ER (Rd (Xm m)) (K g) g) ∗ levAts L lv) ⊢ (Ctx (Xm m) K : sProp 𝕄) from Entails.of_eq rfl) $$ [HI HL]
  · isplitr; · iexact HI
    iexact HL
  imod (open_all (Xm m) K c) $$ [Ho Hs] with H
  · isplitr; · iexact HC
    isplitl [Ho]; · iexact Ho
    iexact Hs
  imodintro
  unfold Xk Opened
  isplitr; · iexists K; iexact HC
  isplitr; · iexact HB
  isplitl [Hcr]; · iexact Hcr
  isplitl [Hd]; · iexact Hd
  isplitl [Hab]; · iexact Hab
  iexact H

theorem rest_in : iprop(Pipeline.scopedRest (Ix := Unit) (Name := ℕ) (U := UU) (Lvl := ℕ) (Val := Elt F) spec0 c ∗ StableHlo.held (c : Thread nD τ) gatB (V₁ m c))
    ⊢ (Bufs c (Gen.V m c main_v3_1) (Gen.V m c main_v3_2) (Gen.V m c main_v3_3) : sProp 𝕄) := by
  unfold Bufs bAny
  rw [Gen.scopedRest0_eq, held_gatB]
  exact BIClass.sep_mono (Entails.of_eq rfl) (Entails.of_eq rfl)

theorem rest_out : (Bufs c (landed0 (Xm m) c (Gen.V m c main_v3_1)) (landed1 (Xm m) c (Gen.V m c main_v3_2)) (landed2 (Xm m) c (Gen.V m c main_v3_3)) : sProp 𝕄)
    ⊢ iprop(Pipeline.scopedRest (Ix := Unit) (Name := ℕ) (U := UU) (Lvl := ℕ) (Val := Elt F) spec0 c ∗ StableHlo.held (c : Thread nD τ) gatB (V₂ m c)) := by
  unfold Bufs bAny
  rw [Gen.scopedRest0_eq, held_gatB, V₂_1, V₂_2, V₂_3]

theorem hin : iprop(Pipeline.scopedRest (Pipeline.pin (pcfgs (F := F)) adm 0).spec c ∗ (∃ r, prngReg c r) ∗ StableHlo.held (c.tc : Thread nD τ) gatB (V₁ m c) ∗ Xk m c)
    ⊢ ((pdats m 0 c).Φ 0 : sProp 𝕄) := by
  rw [show (pdats m 0 c).Φ 0 = Before m c from rfl]
  unfold Before Xk
  iintro ⟨Hs, Hp, Hh, HC, Ho⟩
  isplitl [HC]; · iexact HC
  isplitl [Ho]; · iexact Ho
  isplitl [Hs Hh]
  · iapply (rest_in m c)
    isplitl [Hs]; · iexact Hs
    iexact Hh
  iexact Hp

theorem hout : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) gatB (V₂ m c) ∗ Pipeline.ownSems0 osem c ∗ Yk c) := by
  rw [show (pdats m 0 c).Φ (Fin.last (Pipeline.pin (pcfgs (F := F)) adm 0).N) = After m c from rfl]
  unfold After Yk
  iintro ⟨⟨Hz, Hb⟩, Hr, Hp⟩
  ihave Hr := (rest_out m c) $$ Hr
  icases Hr with ⟨Hs, Hh⟩
  isplitl [Hs]; · iexact Hs
  isplitl [Hp]; · iexact Hp
  isplitl [Hh]; · iexact Hh
  isplitl [Hz]; · iexact Hz
  iexact Hb

theorem cellOf_inj : Function.Injective (Pipeline.cellOf (nD := nD) (τ := τ) (Pipeline.pin (pcfgs (F := F)) adm)) := Gen.cellOf_inj

theorem kit : Pipeline.PLaunchFacts (nD := nD) (τ := τ) (pcfgs (F := F)) 0 where
  cellOf_inj a := by rw [Subsingleton.elim a adm]; exact cellOf_inj
  win := Gen.winFacts0
  pre := Pipeline.PreFacts.none _
  block_pos := Gen.block_pos0
  arr_whole := Gen.arr_whole0
  stage_whole := Gen.stage_whole0

theorem levels_cut (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owed c 0 else 0 := rfl
  rw [e] at h
  split at h
  · obtain ⟨d, -, rfl⟩ := owed_pos h
    refine ⟨by unfold L; rw [if_pos (due_tc c d)]; exact Finset.mem_singleton_self _, ?_⟩
    rw [lv_due]
    cases d <;> exact Nat.succ_pos _
  · exact absurd h (Nat.lt_irrefl 0)

theorem stage_levels (w : Fin 3) (s : Fin (cfg0.win w).nbuf) : lvK (kindOf (.dma ((cfg0.win w).sem s))) = 0 := by
  revert w s; decide

theorem full_share (w : Fin 3) : (pdats m 0 c).share w = fullShare := by
  fin_cases w <;> rfl

theorem arr_in (w : Fin 3) : (pdats m 0 c).arrAt w 0 = V₁ m c (Proc.devRef .tc (Pipeline.arrRef (Pipeline.pin (pcfgs (F := F)) adm 0).spec w)) := rfl

theorem arr_out (w : Fin 3) : (pdats m 0 c).arrAt w (Pipeline.pin (pcfgs (F := F)) adm 0).N
    = V₂ m c (Proc.devRef .tc (Pipeline.arrRef (Pipeline.pin (pcfgs (F := F)) adm 0).spec w)) := by
  match w with
  | 0 => exact ((dat0 m c).arrAt_in 0 rfl _).trans (V₂_of m c (b := Proc.devRef .tc main_v1) (by decide) (by decide) (by decide) (by decide)).symm
  | 1 => exact ((dat0 m c).arrAt_in 1 rfl _).trans (V₂_of m c (b := Proc.devRef .tc main_v2) (by decide) (by decide) (by decide) (by decide)).symm
  | 2 => exact (V₂_out m c).symm
  | ⟨_ + 3, h⟩ => exact absurd h (Nat.not_lt.2 (Nat.le_add_left _ _))

theorem rest_same (b : DevRef τ sig) (hb : b ∈ restB \ gatB) : V₂ m c b = V₁ m c b := by
  have : b = Proc.devRef .tc main_arg0 ∨ b = Proc.devRef .tc main_arg1 := by
    have : restB \ gatB = {Proc.devRef .tc main_arg0, Proc.devRef .tc main_arg1} := by decide
    rw [this] at hb
    simpa using hb
  rcases this with rfl | rfl <;> exact V₂_of m c (by decide) (by decide) (by decide) (by decide)

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    gatB restB (by decide) kit rfl (fun c => (body0 m c).loose)
    (fun _ => 0) (fun c => owed c 0) (fun c => (owed_fst m c).trans (zero_add _).symm) (owed_lst m) (fun _ => rfl) (full_share m)
    (V₁ m) (V₂ m) (rest_same m)
    (Tk m) Yk (Xk m) Yk (hopen m) (hin m) (hout m)
    (fun c => by iintro H; imodintro; iexact H)
    (fun _ => 0)
    ⟨fun c w s => by rw [L_tc]; exact Finset.mem_singleton_self _, fun c w s => (stage_levels w s).le, fun c t g i h => levels_cut m c t g i h⟩
    (fun _ => iprop(emp))
    (arr_in m) (arr_out m)

/-- What rides along beside the buffers. -/
def Ride : sProp 𝕄 := iprop(Tk m c ∗ (∃ r, prngReg c r) ∗ ∃ Wd, owes (c : Thread nD τ) (owed c 0) Wd)

theorem ops_sub : ∀ op ∈ (Gen.hostOps0 : List (HloOp τ sig (Elt F))), op.bufs ⊆ bufs := fun op h => by
  simp only [Gen.hostOps0, List.mem_cons, List.not_mem_nil, or_false] at h
  rcases h with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide
theorem ops_fresh : ∀ op ∈ (Gen.hostOps0 : List (HloOp τ sig (Elt F))), op.fresh = ∅ := List.forall_iff_forall_mem.mp Gen.hostOps0_fresh

/-- The casts before the region. -/
def seg0 : ℍ := Pipeline.HostSeg.ofOps _ _ _ _ _ bufs Gen.hostOps0 ops_sub ops_fresh (V₀ m) (Ride m)

theorem reg0_pre : iprop(StableHlo.held (c : Thread nD τ) bufs (V₁ m c) ∗ Ride m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) restB (V₁ m c) ∗ emp) ∗ Tk m c ∗ ∃ Wd, owes (c : Thread nD τ) (0 + owed c 0) Wd)
  rw [show (Pipeline.arrRefs (τ := τ) (pcfgs (F := F) 0).spec : Finset (DevRef τ sig)) = arrB from arrRefs_eq, held_bufs, zero_add]
  unfold Ride
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ : sProp 𝕄 := iprop(StableHlo.held (c : Thread nD τ) bufs (V₂ m c) ∗ semVal (barCell c) 0)

theorem reg0_post : (reg0 m).post c ⊢ iprop(Tₙ m c ∗ ∃ Wd, owes (c : Thread nD τ) (0 : CellTallies nD τ sig Unit) Wd) := by
  show iprop(StableHlo.held (c.tc : Thread nD τ) (Pipeline.arrRefs (τ := τ) (pcfgs (F := F) 0).spec) (V₂ m c) ∗ (∃ r, prngReg c r)
    ∗ (StableHlo.held (c.tc : Thread nD τ) restB (V₂ m c) ∗ emp) ∗ Yk c ∗ ∃ Wd, owes (c : Thread nD τ) (0 : CellTallies nD τ sig Unit) Wd) ⊢ _
  rw [show (Pipeline.arrRefs (τ := τ) (pcfgs (F := F) 0).spec : Finset (DevRef τ sig)) = arrB from arrRefs_eq]
  unfold Yk Tₙ
  rw [held_bufs]
  iintro ⟨Ha, -, ⟨Hr, -⟩, Hb, HO⟩
  isplitr [HO]
  · isplitr [Hb]
    · isplitl [Ha]; · iexact Ha
      iexact Hr
    iexact Hb
  iexact HO

/-- The program, segment by segment. -/
def segs : List (Pipeline.Seg (pcfgs (F := F)) adm (pdats m) () defs₀ 𝒱₀ L lv) := [.host (seg0 m), .region (reg0 m)]

theorem main_eq : main (F := F) c = Pipeline.Seg.run (segs m) := Gen.main_segs adm (pdats m) () 𝒱₀ L lv (seg0 m) (reg0 m) rfl c

end Cert.KernelIdeal.Ring

end
-- ==== Proof.Ring.Run.lean ====
/-
  The launch: the cells' invariants allocated, every duty's token dealt to the device that pays it, the credit each
  device has of the others, and the run of the whole program on the eight devices.
-/
module

public import proofs.«01_k».proof.Proof.Ring.Region
public import Idealize.ShloMosaic.Lib.SparseCore.Launch

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The tokens -/

/-- The duties of one device's cells: its semaphore, the round and which of the round's duties it is. -/
def toksL : List (SemLoc sig × ℕ × Fin 3) :=
  [(.reg barS, 0, 0), (.reg barS, 0, 1), (.reg barS, 0, 2)]
    ++ (starts.map (fun p => ((.dma (sendS p.1 p.2), 0, 0) : SemLoc sig × ℕ × Fin 3))
    ++ (starts.map (fun p => ((.dma (recvS p.1 p.2), 0, 0) : SemLoc sig × ℕ × Fin 3))
    ++ copies.map (fun p => ((.dma (copyS p.1), p.2, 0) : SemLoc sig × ℕ × Fin 3))))

theorem toksL_nodup : toksL.Nodup := by decide +kernel

def tokEmb : Dev nD × (SemLoc sig × ℕ × Fin 3) ↪ GSem nD τ sig × ℕ × Fin 3 :=
  ⟨fun x => (((x.1 : Thread nD τ), x.2.1), x.2.2), fun _ _ h =>
    Prod.ext (congrArg (fun t : GSem nD τ sig × ℕ × Fin 3 => t.1.1.1) h)
      (Prod.ext (congrArg (fun t : GSem nD τ sig × ℕ × Fin 3 => t.1.2) h) (congrArg (fun t : GSem nD τ sig × ℕ × Fin 3 => t.2) h))⟩

def allToks : Finset (GSem nD τ sig × ℕ × Fin 3) := ((Finset.univ : Finset (Dev nD)) ×ˢ toksL.toFinset).map tokEmb

/-- The tokens of the duties at a device's own cells. -/
def atCells : sProp 𝕄 :=
  iprop((dutyTok ER (barCell c) 0 (0 : Fin 3) ∗ dutyTok ER (barCell c) 0 (1 : Fin 3) ∗ dutyTok ER (barCell c) 0 (2 : Fin 3))
    ∗ (bigSepL starts fun p => dutyTok ER (sendCell c p.1 p.2) 0 (0 : Fin 3))
    ∗ (bigSepL starts fun p => dutyTok ER (recvCell c p.1 p.2) 0 (0 : Fin 3))
    ∗ bigSepL copies fun p => dutyTok ER (copyCell c p.1) p.2 (0 : Fin 3))

theorem toks_split : (bigSep allToks fun x => dutyTok ER x.1 x.2.1 x.2.2) = (bigSep Finset.univ fun c : Dev nD => atCells c : sProp 𝕄) := by
  unfold allToks
  rw [BI.bigSep_map, SparseCore.bigSep_product]
  refine bigSep_congr fun c _ => ?_
  rw [bigSep_eq_bigSepL_of_eq toksL rfl toksL_nodup]
  unfold toksL atCells
  rw [bigSepL_append, bigSepL_append, bigSepL_append, bigSepL_maps, bigSepL_maps, bigSepL_maps]
  rfl

/-- The devices, each exchanged with its neighbour in one direction. -/
def swp (k : Fin 3) : Dev nD ≃ Dev nD := ⟨px k, px k, px_px k, px_px k⟩

theorem swap_dev (k : Fin 3) (Φ : Dev nD → sProp 𝕄) : bigSep Finset.univ Φ = bigSep Finset.univ fun c => Φ (px k c) :=
  bigSep_univ_equiv (swp k) Φ

theorem list_out {I : Type} (l : List I) (Φ : Dev nD → I → sProp 𝕄) :
    (bigSep Finset.univ fun c : Dev nD => bigSepL l (Φ c)) = bigSepL l fun i => bigSep Finset.univ fun c => Φ c i := by
  induction l with
  | nil =>
    show (bigSep Finset.univ fun _ : Dev nD => (BI.emp : sProp 𝕄)) = BI.emp
    exact BI.bigSep_emp_const (M := 𝕄) _
  | cons x l ih =>
    rw [bigSepL_cons', ← ih, ← bigSep_sep']
    exact bigSep_congr fun c _ => bigSepL_cons' _ _ _

theorem bars_around (k : Fin 3) : (bigSep Finset.univ fun c : Dev nD => (dutyTok ER (barCell c) 0 k : sProp 𝕄))
    = bigSep Finset.univ fun c : Dev nD => dutyTok ER (barCell (px k c)) 0 k := swap_dev k _

theorem recvs_around : (bigSep Finset.univ fun c : Dev nD => bigSepL starts fun p => (dutyTok ER (recvCell c p.1 p.2) 0 (0 : Fin 3) : sProp 𝕄))
    = bigSep Finset.univ fun c : Dev nD => bigSepL starts fun p => dutyTok ER (recvCell (px (dir p.1 p.2) c) p.1 p.2) 0 (0 : Fin 3) := by
  rw [list_out, list_out]
  exact bigSepL_same fun p _ => swap_dev (dir p.1 p.2) fun c => dutyTok ER (recvCell c p.1 p.2) 0 (0 : Fin 3)

/-- Each token goes to the device that pays its duty. -/
theorem toks_around : (bigSep Finset.univ fun c : Dev nD => (atCells c : sProp 𝕄)) = bigSep Finset.univ fun c : Dev nD => Deal c := by
  unfold atCells Deal
  simp only [bigSep_sep']
  rw [bars_around 0, bars_around 1, bars_around 2, recvs_around]

/-! ## The credit -/

/-- The semaphore a due is paid at, its amount and the direction it goes. -/
def dueS : Due → SemLoc sig
  | .bar _ => .reg barS
  | .tr p => .dma (recvS p.1 p.2)
def dueN : Due → ℕ
  | .bar _ => 1
  | .tr p => N p.1
def dueK : Due → Fin 3
  | .bar k => k
  | .tr p => dir p.1 p.2

theorem due_eq (d : Due) : due c d = (((px (dueK d) c : Thread nD τ), dueS d), dueN d) := by
  cases d <;> rfl

theorem tl_sum (l : List (GSem nD τ sig × ℕ)) (g : GSem nD τ sig) : tl l g () = (l.map fun x => if g = x.1 then x.2 else 0).sum := by
  induction l with
  | nil => rfl
  | cons x l ih =>
    show (tl l + tallyAt x.1 () x.2) g () = _
    rw [Pi.add_apply, Finsupp.add_apply, tallyAt_apply, ih, List.map_cons, List.sum_cons, add_comm]
    simp

theorem sum_list {I : Type} (l : List I) (f : Dev nD → I → ℕ) : (∑ d : Dev nD, (l.map (f d)).sum) = (l.map fun i => ∑ d : Dev nD, f d i).sum := by
  induction l with
  | nil => simp
  | cons x l ih => simp only [List.map_cons, List.sum_cons, Finset.sum_add_distrib, ih]

theorem due_sum (sm : SemLoc sig) (s : Due) : (∑ d : Dev nD, if (((c : Thread nD τ), sm) : GSem nD τ sig) = (due d s).1 then (due d s).2 else 0)
    = if sm = dueS s then dueN s else 0 := by
  have h (d : Dev nD) : (if (((c : Thread nD τ), sm) : GSem nD τ sig) = (due d s).1 then (due d s).2 else 0)
      = if d = px (dueK s) c then (if sm = dueS s then dueN s else 0) else 0 := by
    rw [due_eq]
    by_cases hd : d = px (dueK s) c
    · subst hd
      rw [px_px, if_pos rfl]
      by_cases hs : sm = dueS s
      · rw [if_pos hs, if_pos (by rw [hs])]
      · rw [if_neg hs, if_neg fun e => hs (congrArg Prod.snd e)]
    · rw [if_neg hd, if_neg fun e => hd (by
        have := congrArg (fun g : GSem nD τ sig => g.1.1) e
        exact (px_px (dueK s) d).symm.trans (congrArg (px (dueK s)) this.symm))]
  rw [Finset.sum_congr rfl fun d _ => h d, Finset.sum_ite_eq' Finset.univ (px (dueK s) c) fun _ => (if sm = dueS s then dueN s else 0), if_pos (Finset.mem_univ _)]

/-- What the devices owe one semaphore of a device. -/
theorem credit_at (sm : SemLoc sig) : (∑ d : Dev nD, owed d 0 ((c : Thread nD τ), sm) ()) = (spots.map fun s => if sm = dueS s then dueN s else 0).sum := by
  have h (d : Dev nD) : owed d 0 ((c : Thread nD τ), sm) () = (spots.map fun s => if (((c : Thread nD τ), sm) : GSem nD τ sig) = (due d s).1 then (due d s).2 else 0).sum := by
    unfold owed
    rw [tl_sum, List.drop_zero, List.map_map]
    rfl
  rw [Finset.sum_congr rfl fun d _ => h d, sum_list]
  exact congrArg List.sum (List.map_congr_left fun s _ => due_sum c sm s)

theorem recv_inj : ∀ p q : Fin 3 × Fin 7, (SemLoc.dma (recvS p.1 p.2) : SemLoc sig) = .dma (recvS q.1 q.2) → q = p := by decide +kernel

theorem credit_bar : (spots.map fun s => if (SemLoc.reg barS : SemLoc sig) = dueS s then dueN s else 0).sum = 3 := by
  unfold spots
  rw [List.map_append, List.sum_append, List.map_map]
  have h : (starts.map ((fun s => if (SemLoc.reg barS : SemLoc sig) = dueS s then dueN s else 0) ∘ Due.tr)).sum = 0 :=
    List.sum_eq_zero fun x hx => by
      obtain ⟨p, -, rfl⟩ := List.mem_map.mp hx
      exact if_neg (t := N p.1) (show ¬ (SemLoc.reg barS : SemLoc sig) = .dma (recvS p.1 p.2) from nofun)
  rw [h]
  rfl

theorem starts_nodup : starts.Nodup := by decide +kernel
theorem lands_starts : ∀ p : Fin 3 × Fin 7, p ∈ lands → p ∈ starts := by decide +kernel

theorem sum_none {I : Type} (l : List I) (f : I → ℕ) (h : ∀ q ∈ l, f q = 0) : (l.map f).sum = 0 :=
  List.sum_eq_zero fun x hx => by
    obtain ⟨q, hq, rfl⟩ := List.mem_map.mp hx
    exact h q hq

theorem sum_one {I : Type} (l : List I) (p : I) (f : I → ℕ) (hl : l.Nodup) (hp : p ∈ l) (hf : ∀ q, q ≠ p → f q = 0) : (l.map f).sum = f p := by
  induction l with
  | nil => cases hp
  | cons x l ih =>
    rw [List.nodup_cons] at hl
    rw [List.map_cons, List.sum_cons]
    rcases List.mem_cons.mp hp with rfl | h
    · rw [sum_none l f fun q hq => hf q fun e => hl.1 (e ▸ hq), Nat.add_zero]
    · rw [hf x fun e => hl.1 (e ▸ h), ih hl.2 h, Nat.zero_add]

theorem credit_recv (p : Fin 3 × Fin 7) (hp : p ∈ lands) : (spots.map fun s => if (SemLoc.dma (recvS p.1 p.2) : SemLoc sig) = dueS s then dueN s else 0).sum = N p.1 := by
  unfold spots
  rw [List.map_append, List.sum_append, List.map_map]
  have h : (starts.map ((fun s => if (SemLoc.dma (recvS p.1 p.2) : SemLoc sig) = dueS s then dueN s else 0) ∘ Due.tr)).sum = N p.1 := by
    refine (sum_one starts p _ starts_nodup (lands_starts p hp) fun q hq => if_neg (t := N q.1) fun e => hq (recv_inj p q e)).trans ?_
    exact if_pos rfl
  rw [h]
  have h' : (([.bar 0, .bar 1, .bar 2] : List Due).map fun s => if (SemLoc.dma (recvS p.1 p.2) : SemLoc sig) = dueS s then dueN s else 0).sum = 0 :=
    List.sum_eq_zero fun x hx => by
      obtain ⟨d, hd, rfl⟩ := List.mem_map.mp hx
      simp only [List.mem_cons, List.not_mem_nil, _root_.or_false] at hd
      rcases hd with rfl | rfl | rfl <;> exact if_neg (show ¬ (SemLoc.dma (recvS p.1 p.2) : SemLoc sig) = .reg barS from nofun)
  rw [h', Nat.zero_add]

theorem launch_at (sm : SemLoc sig) (n : ℕ) (h : (spots.map fun s => if sm = dueS s then dueN s else 0).sum = n) :
    tallyOn ((c : Thread nD τ), sm) (launchCredit (Pipeline.owing fun d => owed d 0) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, credit_at, h]

def creditL : List (SemLoc sig) := .reg barS :: lands.map fun p => .dma (recvS p.1 p.2)
theorem creditL_nodup : creditL.Nodup := by decide +kernel

theorem creds : (Pipeline.launchCred (fun d => owed d 0) c : sProp 𝕄) ⊢ Creds c := by
  unfold Pipeline.launchCred
  refine (bigSep_subset (Finset.subset_univ creditL.toFinset)).trans ?_
  rw [bigSep_eq_bigSepL_of_eq creditL rfl creditL_nodup]
  unfold creditL Creds
  rw [bigSepL_cons', bigSepL_maps, launch_at c (.reg barS) 3 credit_bar]
  exact BIClass.sep_mono (BI.Entails.refl _) (Entails.of_eq (bigSepL_same fun p hp => by rw [launch_at c (.dma (recvS p.1 p.2)) (N p.1) (credit_recv p hp)]))

/-! ## The launch -/

theorem bar_not_own : ∀ k : Fin 44, osem k ≠ .reg barS := fun k h => by
  unfold osem at h
  cases h

theorem cells_disjoint : Disjoint (barCells : Finset (GSem nD τ sig)) scCells := by
  unfold barCells scCells
  rw [Finset.disjoint_left]
  rintro g h₁ h₂
  obtain ⟨d, -, rfl⟩ := Finset.mem_map.mp h₁
  obtain ⟨p, -, h⟩ := Finset.mem_map.mp h₂
  exact bar_not_own p.2 (congrArg Prod.snd h)

/-- What the launch puts in the ghost state: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's whole share of it, kept on the first device until it is dealt. -/
def G : sProp 𝕄 := if c = 0 then BI.own (ER (launchOf barCells scCells allToks)) else iprop(emp)

theorem G_all : (bigSep Finset.univ fun c : Dev nD => (G c : sProp 𝕄)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem bufs_held (V : Valuation τ sig (Elt F)) : (unscopedBufs c (fun b => V b) : sProp 𝕄) = StableHlo.held (c : Thread nD τ) bufs V := by
  unfold unscopedBufs StableHlo.held bufs StableHlo.tcRefs
  rw [Finset.filter_map, BI.bigSep_map]
  rfl

theorem unscoped_bar : (Finset.univ.filter fun sm : SemLoc sig => ¬ sm.isScoped .tc) = {SemLoc.reg barS} := by decide

theorem sems_bar : (unscopedSems0 c : sProp 𝕄) = semVal (barCell c) 0 := by
  unfold unscopedSems0
  rw [unscoped_bar, BI.bigSep_singleton]

/-- What every device may look up. -/
def Known (κ : GSem nD τ sig → ℕ) : sProp 𝕄 :=
  iprop((bigSep (barCells ∪ scCells) fun g => cellInv ER (Rd (Xm m)) (κ g) g) ∗ Bars)
instance Known_persistent (κ : GSem nD τ sig → ℕ) : BI.Persistent (Known m κ) := by unfold Known; infer_instance

/-- What a device starts with. -/
def T₀ : sProp 𝕄 := iprop(StableHlo.held (c : Thread nD τ) bufs (V₀ m c) ∗ Ride m c)

def Own : sProp 𝕄 :=
  iprop(atPos ER (barCell c) 0 (∅ : Finset (Fin 3)) 0 ∗ (bigSep Finset.univ fun k : Fin 44 => openTok ER (scell c k)) ∗ Deal c)
def Base : sProp 𝕄 :=
  iprop(StableHlo.held (c : Thread nD τ) bufs (V₀ m c) ∗ Creds c ∗ (∃ r, prngReg c r) ∗ owes (c : Thread nD τ) (owed c 0) ∅)

theorem T₀_of (κ : GSem nD τ sig → ℕ) : iprop(Known m κ ∗ Own c ∗ Base m c) ⊢ T₀ m c := by
  unfold Known Own Base T₀ Ride Tk
  iintro ⟨⟨#HI, #HB⟩, ⟨Hab, Ho, Hd⟩, Hh, Hcr, Hp, HO⟩
  isplitl [Hh]; · iexact Hh
  isplitl [Hab Ho Hd Hcr]
  · isplitr; · iexists κ; iexact HI
    isplitr; · iexact HB
    isplitl [Hcr]; · iexact Hcr
    isplitl [Hd]; · iexact Hd
    isplitl [Hab]; · iexact Hab
    iexact Ho
  isplitl [Hp]; · iexact Hp
  iexists ∅
  iexact HO

theorem core_in : iprop(unscopedBufs c (fun b => m ((c : Thread nD τ).loc b)) ∗ unscopedSems0 c
      ∗ owes (c : Thread nD τ) (owed c 0) ∅ ∗ Pipeline.launchCred (fun d => owed d 0) c ∗ prngReg c (ρ c) ∗ G c)
    ⊢ (iprop(Base m c ∗ (semVal (barCell c) 0 ∗ G c)) : sProp 𝕄) := by
  rw [show unscopedBufs c (fun b => m ((c : Thread nD τ).loc b)) = StableHlo.held (c : Thread nD τ) bufs (V₀ m c) from bufs_held c (V₀ m c), sems_bar]
  unfold Base
  iintro ⟨Hh, Hs, HO, Hcr, Hp, HG⟩
  ihave Hcr := (creds (F := F) c) $$ Hcr
  isplitr [Hs HG]
  · isplitl [Hh]; · iexact Hh
    isplitl [Hcr]; · iexact Hcr
    isplitl [Hp]; · iexists (ρ c); iexact Hp
    iexact HO
  isplitl [Hs]; · iexact Hs
  iexact HG

theorem bar_all (Φ : GSem nD τ sig → sProp 𝕄) : bigSep barCells Φ = bigSep Finset.univ fun c : Dev nD => Φ (barCell c) := by
  unfold barCells
  exact BI.bigSep_map (s := Finset.univ) barEmb (Φ := Φ)

theorem own_all (Φ : GSem nD τ sig → sProp 𝕄) : bigSep scCells Φ = bigSep Finset.univ fun c : Dev nD => bigSep Finset.univ fun k : Fin 44 => Φ (scell c k) := by
  unfold scCells
  rw [BI.bigSep_map, bigSep_univ_prod]
  rfl

theorem init : iprop((bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c)) ∗ levAts L lv)
    ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c))
      ⊢ (bigSep Finset.univ fun c : Dev nD => iprop(Base m c ∗ (semVal (barCell c) 0 ∗ G c)) : sProp 𝕄) from bigSep_mono fun c _ => core_in m ρ c) $$ H
  ihave H := (Entails.of_eq (bigSep_sep' (Finset.univ : Finset (Dev nD)) _ _)) $$ H
  icases H with ⟨HB, H⟩
  ihave H := (Entails.of_eq (bigSep_sep' (Finset.univ : Finset (Dev nD)) _ _)) $$ H
  icases H with ⟨Hv, HG⟩
  ihave HG := (Entails.of_eq (G_all (F := F))) $$ HG
  imod (Rounds.fund_launch ER (Rd (Xm m)) cells_disjoint (fun g _ h => h) allToks) $$ [Hv HG] with ⟨%κ, -, #HI, #HR, Ha, Ho, Ht⟩
  · isplitl [Hv]
    · iapply (Entails.of_eq (bar_all fun g => (semVal g 0 : sProp 𝕄)).symm); iexact Hv
    iexact HG
  imodintro
  iapply (bigSep_with_persistent (R := Known m κ) (Φ := fun c => iprop(Own c ∗ Base m c)) fun c _ => T₀_of m c κ)
  isplitr
  · unfold Known Bars
    isplitr; · iexact HI
    iexact HR
  iapply (Entails.of_eq (bigSep_sep' (Finset.univ : Finset (Dev nD)) _ _).symm)
  isplitr [HB]
  · unfold Own
    iapply (Entails.of_eq (bigSep_sep' (Finset.univ : Finset (Dev nD)) _ _).symm)
    isplitl [Ha]; · iapply (Entails.of_eq (bar_all fun g => (atPos ER g 0 (∅ : Finset (Fin 3)) 0 : sProp 𝕄))); iexact Ha
    iapply (Entails.of_eq (bigSep_sep' (Finset.univ : Finset (Dev nD)) _ _).symm)
    isplitl [Ho]; · iapply (Entails.of_eq (own_all fun g => (openTok ER g : sProp 𝕄))); iexact Ho
    iapply (Entails.of_eq (toks_around (F := F)))
    iapply (Entails.of_eq (toks_split (F := F)))
    iexact Ht
  iexact HB

theorem unscoped_only : ∀ sm : SemLoc sig, sm.isScoped .tc = false → sm = .reg barS := by decide

/-! ## The run -/

/-- The contents of the result. -/
def res : Buf (Elt F) ((c : Thread nD τ).loc main_v3_0) := V₂ m c (Proc.devRef .tc main_v3_0)

theorem V₂_arg0 : V₂ m c (Proc.devRef .tc main_arg0) = m ((c : Thread nD τ).loc main_arg0) :=
  (V₂_of m c (by decide) (by decide) (by decide) (by decide)).trans (Gen.V_main_arg0 m c)
theorem V₂_arg1 : V₂ m c (Proc.devRef .tc main_arg1) = m ((c : Thread nD τ).loc main_arg1) :=
  (V₂_of m c (by decide) (by decide) (by decide) (by decide)).trans (Gen.V_main_arg1 m c)

set_option backward.isDefEq.respectTransparency.types false in
/-- From any memory with its counters at zero, every fair execution on the eight devices ends, with the arguments
    unchanged, the result as the body's arithmetic leaves it, and every counter at zero. -/
theorem run_main : θ_run defs (onTc (τ := τ) (main (F := F))) (s₀ m ρ)
    (fun r => (∀ c : Dev nD, r.2.mem ((c : Thread nD τ).loc main_v3_0) = res m c ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun d => owed d 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (Entails.of_eq (G_all (F := F)).symm)
      iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_v3_0) = V₂ m c (Proc.devRef .tc main_v3_0)
        ∧ s.mem ((c : Thread nD τ).loc main_arg0) = V₂ m c (Proc.devRef .tc main_arg0) ∧ s.mem ((c : Thread nD τ).loc main_arg1) = V₂ m c (Proc.devRef .tc main_arg1))
      ∧ s.sem (barCell c) = 0)
    (hfin := fun c s' => by
      unfold Tₙ
      rw [held_all]
      iintro ⟨⟨⟨H0, H1, -, -, Hr, -⟩, Hb0⟩, HSI⟩
      icombine HSI H0 gives %h0
      icombine HSI H1 gives %h1
      icombine HSI Hr gives %hr
      icombine HSI Hb0 gives %hb
      imodintro
      isplitr
      · ipureintro
        exact ⟨⟨Buf.eq_of_forall_mem_univ hr, Buf.eq_of_forall_mem_univ h0, Buf.eq_of_forall_mem_univ h1⟩, by simpa using hb⟩
      iexact HSI)
    (hQ := fun s h hs => ⟨fun c => by
        obtain ⟨⟨hr, h0, h1⟩, -⟩ := h c
        exact ⟨hr, h0.trans (V₂_arg0 m c), h1.trans (V₂_arg1 m c)⟩,
      sem_eq_zero hs fun c sm hsm => by
        obtain rfl := unscoped_only sm hsm
        exact (h c).2⟩)

end Cert.KernelIdeal.Ring

end
-- ==== Proof.Ring.Silu.lean ====
/-
  The function the program computes from an entry of the product, over the extended reals: y / (1 + exp (-y)).
  With it, the clip of the exponent at ±60, which changes nothing where |y| ≤ 60.
-/
module

public import Idealize.ShloMosaic.PureOps.Ideal.Laws

@[expose] public section

noncomputable section

namespace Cert.KernelIdeal.Ring

open Idealize.ShloMosaic
open Idealize.ShloMosaic.TcCoe
open scoped BigOperators

/-- `y / (1 + exp (-y))`. -/
def act (y : EReal) : EReal := Ideal.div y (1 + Ideal.exp (-y))

theorem bits_one : Ideal.ofBits .f32 0x3F800000#32 = 1 := by
  simp [Ideal.ofBits, Ideal.ieee, -EReal.coe_mul]; norm_num

theorem bits_hi : Ideal.ofBits .f32 0x42700000#32 = ((60 : ℝ) : EReal) := by
  simp [Ideal.ofBits, Ideal.ieee, -EReal.coe_mul]; norm_num

theorem bits_lo : Ideal.ofBits .f32 0xC2700000#32 = ((-60 : ℝ) : EReal) := by
  simp [Ideal.ofBits, Ideal.ieee, -EReal.coe_mul]; norm_num

/-- A value whose magnitude is at most 60 is not changed by clipping it to [-60, 60]. -/
theorem clip_id {y : EReal} (h : max y (-y) ≤ ((60 : ℝ) : EReal)) :
    min ((60 : ℝ) : EReal) (max ((-60 : ℝ) : EReal) y) = y := by
  obtain ⟨h1, h2⟩ := max_le_iff.mp h
  have h3 : ((-60 : ℝ) : EReal) ≤ y := by
    rw [EReal.coe_neg]; exact EReal.neg_le.mp h2
  rw [max_eq_right h3, min_eq_right h1]

end Cert.KernelIdeal.Ring

end
-- ==== Proof.Ring.Stored.lean ====
/-
  The values the kernel stores, over the extended reals: each stored block is `act` of the product of the rows it
  was computed from with the device's columns.
-/
module

public import proofs.«01_k».proof.Proof.Ring.Silu
public import proofs.«01_k».proof.Proof.Ring.Compute
public import Idealize.ShloMosaic.Lib.MatmulPlain
public import Idealize.ShloMosaic.Lib.Pipeline.Value

@[expose] public section

noncomputable section

namespace Cert.KernelIdeal.Ring

open Idealize.ShloMosaic
open Idealize.ShloMosaic.TcCoe
open scoped BigOperators
open ValueIdx
open Cert.KernelIdeal.Facts₀

/-- Entry `(r, j)` of the product of `x` and `w`. -/
def dotAt {M N : ℕ} (x : (⟨2, ![M, 4096]⟩ : Shape).Idx → EReal) (w : (⟨2, ![4096, N]⟩ : Shape).Idx → EReal) (r : Fin M) (j : Fin N) : EReal :=
  ∑ k : Fin 4096, x (ix2 r k) * w (ix2 k j)

/-- The product into the zero splat, at an index. -/
theorem mm_apply {M N : ℕ} (prec : Option ContractPrecision) (x : FVec Ideal ⟨2, ![M, 4096]⟩ .bf16) (w : FVec Ideal ⟨2, ![4096, N]⟩ .bf16)
    (i : (⟨2, ![M, N]⟩ : Shape).Idx) :
    FloatOps.matmul (DotDims.plain M 4096 N) prec x w (constant ⟨2, ![M, N]⟩ .f32 0x00000000#32) i = dotAt x w (i 0) (i 1) := by
  obtain ⟨r, j, rfl⟩ : ∃ r j, i = ix2 r j := ⟨_, _, eq_ix2 i⟩
  refine (Ideal.matmul_plain_apply prec x w (constant ⟨2, ![M, N]⟩ .f32 0x00000000#32) r j).trans ?_
  show Ideal.ofBits .f32 0x00000000#32 + _ = _
  rw [Ideal.ofBits_zero_f32, zero_add]
  rfl

/-- The kernel's four elementwise operations on a value are `act`. -/
theorem act_kernel (y : EReal) :
    Ideal.div y (Ideal.ofBits .f32 0x3F800000#32 + Ideal.exp (Ideal.ofBits .f32 0x00000000#32 - y)) = act y := by
  rw [bits_one, Ideal.ofBits_zero_f32, sub_eq_add_neg, zero_add]
  rfl

theorem pay1_apply (x : FVec Ideal S512x4096 .bf16) (w : FVec Ideal S4096x1024 .bf16) (i : S512x1024.Idx) :
    Gen.k0_pay1 (F := Ideal) x w i = act (dotAt x w (i 0) (i 1)) := by
  rw [← mm_apply none x w i, ← act_kernel]
  unfold Gen.k0_pay1
  rw [shapeCast_self, shapeCast_self]
  rfl

theorem pay2_apply (x : FVec Ideal S176x4096 .bf16) (w : FVec Ideal S4096x1024 .bf16) (i : S176x1024.Idx) :
    Gen.k0_pay2 (F := Ideal) x w i = act (dotAt x w (i 0) (i 1)) := by
  rw [← mm_apply none x w i, ← act_kernel]
  unfold Gen.k0_pay2
  rw [shapeCast_self]
  rfl

theorem pay5_apply (x : FVec Ideal S168x4096 .bf16) (w : FVec Ideal S4096x1024 .bf16) (i : S168x1024.Idx) :
    Gen.k0_pay5 (F := Ideal) (Gen.k0_pay3 x w) (Gen.k0_pay4 x w) i = act (dotAt x w (i 0) (i 1)) := by
  rw [← mm_apply none x w i, ← act_kernel]
  unfold Gen.k0_pay5 Gen.k0_pay4 Gen.k0_pay3
  rw [shapeCast_self]
  rfl

theorem pay6_apply (x : FVec Ideal S168x4096 .bf16) (w : FVec Ideal S4096x1024 .bf16) (i : S168x1024.Idx) :
    Gen.k0_pay6 (F := Ideal) x w i = act (dotAt x w (i 0) (i 1)) := by
  rw [← mm_apply none x w i, ← act_kernel]
  unfold Gen.k0_pay6
  rw [shapeCast_self]
  rfl

/-- Entry `(r, k)` of a slice's rows. -/
def rowOf : (t : Fin 3) → Fin (sz t) → Fin 4096 → (shp t).Idx
  | 0, r, k => ix2 (n0 := 176) r k
  | 1, r, k => ix2 (n0 := 168) r k
  | 2, r, k => ix2 (n0 := 168) r k

/-- A slice's rows are the block's rows from the slice's first on. -/
theorem xt_apply (X : Xs Ideal) (t : Fin 3) (o : Dev nD) (r : Fin (sz t)) (k : Fin 4096) :
    xt X t o (rowOf t r k) = X o (ix2 (⟨roff t + r.val, by have := roff_le t; have := r.isLt; omega⟩ : Fin 512) k) := by
  match t with
  | 0 | 1 | 2 =>
    refine congrArg (X o) ?_
    funext a
    refine Fin.ext ?_
    match a with
    | ⟨0, _⟩ => show _ + 1 * r.val = _ + r.val; rw [Nat.one_mul]; rfl
    | ⟨1, _⟩ => show 0 + 1 * k.val = k.val; omega

theorem osm_apply (t : Fin 3) (x : (shp t).Idx → Elt Ideal .bf16) (w : S4096x1024.Idx → Elt Ideal .bf16) (i : (⟨2, ![sz t, 1024]⟩ : Shape).Idx) :
    osm (F := Ideal) t x w i = act (∑ k : Fin 4096, x (rowOf t (i 0) k) * w (ix2 k (i 1))) := by
  match t with
  | 0 => exact pay2_apply x w i
  | 1 => exact pay5_apply x w i
  | 2 => exact pay6_apply x w i

end Cert.KernelIdeal.Ring

end
-- ==== Proof.Ring.Result.lean ====
/-
  What the run leaves in a device's result, over the extended reals: entry `(r, j)` is `act` of the product of row
  `r` of the devices' blocks of the first operand, one below the other, with column `j` of the device's block of the second.
-/
module

public import proofs.«01_k».proof.Proof.Ring.Stored
public import proofs.«01_k».proof.Proof.Ring.Run

@[expose] public section

noncomputable section

namespace Cert.KernelIdeal.Ring

open Idealize.ShloMosaic
open Idealize.ShloMosaic.TcCoe
open scoped BigOperators
open ValueIdx
open Cert.KernelIdeal.Facts₀

section Any

variable {F : FTy → Type} [FloatOps F] (m : (ℓ : Loc nD τ sig) → Buf (Elt F) ℓ) (c : Dev nD)

/-- A window on a whole array starts at its origin, -/
theorem off0 : (fun a => (win0_0.index Gen.t0_0) a * main_v1.ty.shape.size a) = fun _ => 0 := funext fun _ => Nat.zero_mul _
theorem off1 : (fun a => (win0_1.index Gen.t0_0) a * main_v2.ty.shape.size a) = fun _ => 0 := funext fun _ => Nat.zero_mul _
theorem off2 : (fun a => (win0_2.index Gen.t0_0) a * main_v3_0.ty.shape.size a) = fun _ => 0 := funext fun _ => Nat.zero_mul _

/-- so it reads the array. -/
theorem Xm_eq : Xm m c = Gen.V m c main_v1 := by
  have h := Memref.read_access_unit_zero (Elt F) main_v1 off0 (fun a => by fin_cases a <;> decide) (Gen.V m c main_v1)
  unfold Xm Gen.iblk
  exact h
theorem Wm_eq : Wm m c = Gen.V m c main_v2 := by
  have h := Memref.read_access_unit_zero (Elt F) main_v2 off1 (fun a => by fin_cases a <;> decide) (Gen.V m c main_v2)
  unfold Wm Gen.iblk
  exact h

/-- The two host operations before the kernel narrow the operands. -/
theorem V_x : Gen.V m c main_v1 = truncf .bf16 (m ((c : Thread nD τ).loc main_arg0)) bitsLt_bf16_f32 := by
  unfold Gen.V; after_results
theorem V_w : Gen.V m c main_v2 = truncf .bf16 (m ((c : Thread nD τ).loc main_arg1)) bitsLt_bf16_f32 := by
  unfold Gen.V; after_results

/-- The result window is written back whole. -/
theorem res_eq : res m c = Out (Xm m) (Wm m) c := by
  refine (V₂_out m c).trans ?_
  have h := (dat0 m c).read_blk_arrAt_eq_flushed 2 (fun t t' _ _ hne => absurd ((Gen.fin_N0 t).trans (Gen.fin_N0 t').symm) hne)
    cfg0.N Gen.t0_0 Gen.t0_0.isLt (Gen.flush0_2 _)
  exact (Memref.read_access_unit_zero (Elt F) main_v3_0 off2 (fun a => by fin_cases a <;> decide) _).symm.trans h

end Any

variable (m : (ℓ : Loc nD τ sig) → Buf (Elt Ideal) ℓ) (c : Dev nD)

/-- Device `c`'s argument blocks, as functions to the extended reals. -/
def xOf (c : Dev nD) : S512x4096.Idx → EReal := m ((c : Thread nD τ).loc main_arg0)
def wOf (c : Dev nD) : S4096x1024.Idx → EReal := m ((c : Thread nD τ).loc main_arg1)

theorem Xm_ideal (i : S512x4096.Idx) : Xm m c i = xOf m c i := by
  rw [Xm_eq, V_x]; rfl
theorem Wm_ideal (i : S4096x1024.Idx) : Wm m c i = wOf m c i := by
  rw [Wm_eq, V_w]; rfl

theorem odev_row (i : S4096x1024.Idx) : (i 0).val % 512 < 512 := Nat.mod_lt _ (by decide)

theorem res_apply (i : S4096x1024.Idx) :
    res m c i = act (∑ k : Fin 4096, xOf m (odev i) (ix2 (⟨(i 0).val % 512, odev_row i⟩ : Fin 512) k) * wOf m c (ix2 k (i 1))) := by
  have hrow : roff (oslc i) + ((i 0).val % 512 - roff (oslc i)) = (i 0).val % 512 := by
    have := slc_le ((i 0).val % 512)
    unfold oslc; omega
  rw [res_eq]
  show val (Xm m) (Wm m) c (odev i) (oslc i) (oloc i) = _
  unfold val
  split
  · rename_i h
    rw [h, pay1_apply]
    unfold dotAt
    congr 1
    refine Finset.sum_congr rfl fun k _ => ?_
    rw [Xm_ideal, Wm_ideal]
    congr 2
    refine congrArg (ix2 · k) (Fin.ext ?_)
    exact hrow
  · rw [osm_apply]
    congr 1
    refine Finset.sum_congr rfl fun k _ => ?_
    have hx : xt (Xm m) (oslc i) (odev i) (rowOf (oslc i) (oloc i 0) k) = xOf m (odev i) (ix2 (⟨(i 0).val % 512, odev_row i⟩ : Fin 512) k) := by
      refine (xt_apply (Xm m) (oslc i) (odev i) (oloc i 0) k).trans ?_
      rw [Xm_ideal]
      exact congrArg (fun r => xOf m (odev i) (ix2 r k)) (Fin.ext hrow)
    exact congrArg₂ (fun a b : EReal => a * b) hx (Wm_ideal m c _)

end Cert.KernelIdeal.Ring

end
-- ==== Proof.Ring.Whole.lean ====
/-
  The references' results, over the extended reals, entry by entry, and the device's result as its block of columns
  of the whole one.
-/
module

public import proofs.«01_k».proof.Proof.Ring.Result
public import proofs.«01_k».proof.Defs
public import proofs.«01_k».proof.Proof.Gen.SiluIdeal
public import proofs.«01_k».proof.Proof.Gen.ReferenceIdeal
public import proofs.«01_k».proof.Proof.Gen.On_unclipped
public import Idealize.ShloMosaic.Lib.StackMember
public import Idealize.ShloMosaic.Lib.Layout

@[expose] public section

noncomputable section

namespace Cert.KernelIdeal.Ring

open Idealize.ShloMosaic
open Idealize.ShloMosaic.TcCoe
open scoped BigOperators
open ValueIdx

/-- The whole operands, as functions to the extended reals. -/
abbrev WholeX : Type := (⟨2, ![4096, 4096]⟩ : Shape).Idx → EReal
abbrev WholeW : Type := (⟨2, ![4096, 8192]⟩ : Shape).Idx → EReal

variable (A : WholeX) (B : WholeW)

/-- The whole product, read at an index. -/
theorem prod_apply (i : (⟨2, ![4096, 8192]⟩ : Shape).Idx) :
    Host.dotGeneral (F := Ideal) (φ₁ := .f32) (φ₂ := .f32) (DotDims.plain 4096 4096 8192) none A B i = dotAt A B (i 0) (i 1) := by
  obtain ⟨r, j, rfl⟩ : ∃ r j, i = ix2 r j := ⟨_, _, eq_ix2 i⟩
  exact StackMember.dotGeneral_plain_apply none A B r j

/-- The result of the reference without the clip. -/
def siluOut : (⟨2, ![4096, 8192]⟩ : Shape).Idx → EReal :=
  open Cert.SiluIdeal Cert.SiluIdeal.Gen in
  Host.divf (F := Ideal) (φ := .f32) (Host.dotGeneral (F := Ideal) (φ₁ := .f32) (φ₂ := .f32) dot_S4096x4096_S4096x8192_S4096x8192_1_0_0_1_n_n none A B)
    (addf (broadcastInDim S4096x8192 ![] bcast_S_S4096x8192 (constant S_ .f32 0x3F800000#32))
      (Host.exp (Host.negf (Host.dotGeneral (F := Ideal) (φ₁ := .f32) (φ₂ := .f32) dot_S4096x4096_S4096x8192_S4096x8192_1_0_0_1_n_n none A B))))

theorem siluOut_apply (i : (⟨2, ![4096, 8192]⟩ : Shape).Idx) : siluOut A B i = act (dotAt A B (i 0) (i 1)) := by
  rw [← prod_apply A B i]
  unfold act
  rw [← bits_one]
  rfl

/-- The result of the reference with the clip. -/
def clipOut : (⟨2, ![4096, 8192]⟩ : Shape).Idx → EReal :=
  open Cert.ReferenceIdeal Cert.ReferenceIdeal.Gen in
  Host.divf (F := Ideal) (φ := .f32) (Host.dotGeneral (F := Ideal) (φ₁ := .f32) (φ₂ := .f32) dot_S4096x4096_S4096x8192_S4096x8192_1_0_0_1_n_n none A B)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral (F := Ideal) (φ₁ := .f32) (φ₂ := .f32) dot_S4096x4096_S4096x8192_S4096x8192_1_0_0_1_n_n none A B))))))

/-- The clip bounds the exponent only. -/
theorem clipOut_apply (i : (⟨2, ![4096, 8192]⟩ : Shape).Idx) :
    clipOut A B i = Ideal.div (dotAt A B (i 0) (i 1))
      (1 + Ideal.exp (-(min ((60 : ℝ) : EReal) (max ((-60 : ℝ) : EReal) (dotAt A B (i 0) (i 1)))))) := by
  rw [← prod_apply A B i, ← bits_one, ← bits_hi, ← bits_lo]
  rfl

/-- The mask holds where the magnitude of the product is at most 60. -/
theorem mask_apply (i : (⟨2, ![4096, 8192]⟩ : Shape).Idx) (h : Cert.On_unclipped.fn (F := Ideal) A B i = 1#1) :
    max (dotAt A B (i 0) (i 1)) (-(dotAt A B (i 0) (i 1))) ≤ ((60 : ℝ) : EReal) := by
  rw [← prod_apply A B i, ← bits_hi]
  have h' : BitVec.ofBool (decide (max (Host.dotGeneral (F := Ideal) (φ₁ := .f32) (φ₂ := .f32) (DotDims.plain 4096 4096 8192) none A B i)
      (-(Host.dotGeneral (F := Ideal) (φ₁ := .f32) (φ₂ := .f32) (DotDims.plain 4096 4096 8192) none A B i)) ≤ Ideal.ofBits .f32 0x42700000#32)) = 1#1 := h
  by_contra hn
  rw [decide_eq_false hn] at h'
  exact absurd h' (by decide)

/-- Under the mask the two references agree. -/
theorem clip_silu (i : (⟨2, ![4096, 8192]⟩ : Shape).Idx) (h : Cert.On_unclipped.fn (F := Ideal) A B i = 1#1) :
    siluOut A B i = clipOut A B i := by
  rw [siluOut_apply, clipOut_apply, clip_id (mask_apply A B i h)]
  rfl

/-- From blocks of the whole operands, each device's result is its block of columns of the whole result. -/
theorem res_block (m : (ℓ : Loc nD τ sig) → Buf (Elt Ideal) ℓ)
    (hx : ∀ c : Dev nD, xOf m c = Layout.block ⟨2, ![512, 4096]⟩ ⟨2, ![4096, 4096]⟩ 0 8 c A)
    (hw : ∀ c : Dev nD, wOf m c = Layout.block ⟨2, ![4096, 1024]⟩ ⟨2, ![4096, 8192]⟩ 1 8 c B) (c : Dev nD) :
    res m c = Layout.block ⟨2, ![4096, 1024]⟩ ⟨2, ![4096, 8192]⟩ 1 8 c (siluOut A B) := by
  funext i
  refine (res_apply m c i).trans ?_
  refine Eq.trans ?_ (siluOut_apply A B _).symm
  refine congrArg act (Finset.sum_congr rfl fun k _ => ?_)
  rw [hx, hw]
  refine congrArg₂ (fun a b : EReal => a * b) (congrArg A ?_) (congrArg B ?_)
  · funext a
    refine Fin.ext ?_
    match a with
    | ⟨0, _⟩ => show (i 0).val / 512 * 512 + (i 0).val % 512 = (i 0).val; omega
    | ⟨1, _⟩ => rfl
  · funext a
    match a with
    | ⟨0, _⟩ => rfl
    | ⟨1, _⟩ => rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Gen.On_unclipped
public import proofs.«01_k».proof.Proof.Ring.Run
public import proofs.«01_k».proof.Proof.Ring.Whole
public import Idealize.ShloMosaic.Adequacy
public import Idealize.ShloMosaic.Init

@[expose] public section

noncomputable section

namespace Cert.Proof

open Idealize.ShloMosaic Idealize.SL.Sem
open Cert.KernelIdeal.Ring (run_main res_block siluOut clipOut clip_silu)

/-! ## The programs run, keep their arguments and leave every counter at zero

  `Kernel` and `KernelIdeal` have the same text, so the one run over any number format is read at both. -/

/-- The table of kernel bodies is the same: the one label runs the same body, and no other label is there. -/
theorem bodies_eq [Cert.Kernel.Facts] [Cert.KernelIdeal.Facts] :
    @Cert.Kernel.defs₀ Bits _ _ = @Cert.KernelIdeal.defs₀ Bits _ _ := by
  funext p l a
  cases p with
  | tc =>
    match l, a with
    | ⟨0, _⟩, (_, _) => rfl
    | ⟨n + 1, h⟩, _ => exact absurd h (Nat.not_lt.2 (Nat.le_add_left _ _))
  | scScalar _ => rfl
  | scVector _ _ => rfl

/-- With it the whole table of the program. -/
theorem defs_eq [Cert.Kernel.Facts] [Cert.KernelIdeal.Facts] :
    @Cert.Kernel.defs Bits _ _ = @Cert.KernelIdeal.defs Bits _ _ :=
  congrArg (Pipeline.defs (Cert.KernelIdeal.pcfgs (F := Bits))) bodies_eq

theorem frame_kernel : Cert.quiescent_Kernel := by
  intro m ρ _
  have h := (θ_run Cert.KernelIdeal.defs (onTc (τ := Cert.KernelIdeal.τ) (Cert.KernelIdeal.main (F := Bits))) ⟨m, fun _ => 0, ρ⟩).mono
    (Q' := fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)
    (fun _ h => ⟨fun c => (h.1 c).2, h.2⟩) (run_main (F := Bits) m ρ)
  exact (congrArg (fun D => θ_run D (onTc (τ := Cert.Kernel.τ) (Cert.Kernel.main (F := Bits))) ⟨m, fun _ => 0, ρ⟩ _) defs_eq).mpr h

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

/-! ## The value -/

/-- Each device ends with its block of columns of x·w / (1 + exp (-(x·w))). -/
theorem value_silu : Cert.algebraic_KernelIdeal_SiluIdeal := by
  intro m g m' g' _ hagree
  refine ⟨siluOut (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1)), ?_, ?_⟩
  · refine (θ_run Cert.KernelIdeal.defs _ _).mono (fun r h c => ⟨(h.1 c).1.trans ?_, (h.1 c).2⟩) (run_main (F := Ideal) m g)
    exact res_block _ _ m (fun c => (hagree c).1) (fun c => (hagree c).2) c
  · exact (θ_run Cert.SiluIdeal.defs _ _).mono (fun _ h => h 0) (Cert.SiluIdeal.Value.run (F := Ideal) m' g')

/-- Where the magnitude of x·w is at most 60, that is the reference's value, whose exponent is clipped there. -/
theorem value_reference : Cert.algebraic_KernelIdeal_ReferenceIdeal_on_unclipped := by
  intro m g m' g' _ hagree
  have hb := fun c => res_block _ _ m (fun c => (hagree c).1) (fun c => (hagree c).2) c
  refine ⟨clipOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨fun i hi => (congrFun ((h.1 c).1.trans (hb c)) i).trans (clip_silu _ _ _ hi), (h.1 c).2⟩)
      (run_main (F := Ideal) m g)
  · exact (θ_run Cert.ReferenceIdeal.defs _ _).mono (fun _ h => ⟨fun i _ => congrFun (h 0).1 i, (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.SiluIdeal.Gen.facts, Cert.On_unclipped.Gen.facts,
    frame_kernel, frame_ideal, frame_reference, frame_silu, trivial, value_silu, value_reference⟩

end Cert.Proof

end
